-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_near_finite [hPre_near_finite : Cert.Pre_near_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_near_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).1 = (fun _ => 1#1)
    ∧ (Cert.Pre_near_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.1 = (fun _ => 1#1)
    ∧ (Cert.Pre_near_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.1 = (fun _ => 1#1)
    ∧ (Cert.Pre_near_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_near_finite [hPre_near_finite : Cert.Pre_near_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_near_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).1 = (fun _ => 1#1)
    ∧ (Cert.Pre_near_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.1 = (fun _ => 1#1)
    ∧ (Cert.Pre_near_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.1 = (fun _ => 1#1)
    ∧ (Cert.Pre_near_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_near_finite [hKernel7Ideal : Cert.Kernel7Ideal.Facts] [hPre_near_finite : Cert.Pre_near_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_near_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_near_finite [hReference7Ideal : Cert.Reference7Ideal.Facts] [hPre_near_finite : Cert.Pre_near_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_near_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v37) = v1 c
          ∧ r.2.mem ((c.tc : Thread Cert.Reference3Ideal.nD Cert.Reference3Ideal.τ).loc Cert.Reference3Ideal.main_v38) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_v40) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v46) = v0 c
          ∧ r.2.mem ((c.tc : Thread Cert.Reference5Ideal.nD Cert.Reference5Ideal.τ).loc Cert.Reference5Ideal.main_v47) = v1 c
          ∧ r.2.mem ((c.tc : Thread Cert.Reference5Ideal.nD Cert.Reference5Ideal.τ).loc Cert.Reference5Ideal.main_v48) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel7_Kernel7Ideal : Prop :=
  True

def algebraic_Kernel7Ideal_Reference7Ideal_pre_near_finite [hKernel7Ideal : Cert.Kernel7Ideal.Facts] [hReference7Ideal : Cert.Reference7Ideal.Facts] [hPre_near_finite : Cert.Pre_near_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_near_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v34_0)) (v1 : (c : Dev Cert.Kernel7Ideal.nD) → Buf (Elt Ideal) ((c.tc : Thread Cert.Kernel7Ideal.nD Cert.Kernel7Ideal.τ).loc Cert.Kernel7Ideal.main_v34_1)) (v2 : (c : Dev Cert.Kernel7Ideal.nD) → Buf (Elt Ideal) ((c.tc : Thread Cert.Kernel7Ideal.nD Cert.Kernel7Ideal.τ).loc Cert.Kernel7Ideal.main_v34_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v34_0) = v0 c
          ∧ r.2.mem ((c.tc : Thread Cert.Kernel7Ideal.nD Cert.Kernel7Ideal.τ).loc Cert.Kernel7Ideal.main_v34_1) = v1 c
          ∧ r.2.mem ((c.tc : Thread Cert.Kernel7Ideal.nD Cert.Kernel7Ideal.τ).loc Cert.Kernel7Ideal.main_v34_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v53) = v0 c
          ∧ r.2.mem ((c.tc : Thread Cert.Reference7Ideal.nD Cert.Reference7Ideal.τ).loc Cert.Reference7Ideal.main_v55) = v1 c
          ∧ r.2.mem ((c.tc : Thread Cert.Reference7Ideal.nD Cert.Reference7Ideal.τ).loc Cert.Reference7Ideal.main_v57) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_v39) = v1 c
          ∧ r.2.mem ((c.tc : Thread Cert.Reference8Ideal.nD Cert.Reference8Ideal.τ).loc Cert.Reference8Ideal.main_v40) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_scores_finite : Cert.Pre_scores_finite.Facts) (hPre_near_finite : Cert.Pre_near_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Kernel7Ideal_pre_near_finite (hKernel7Ideal := hKernel7Ideal) (hPre_near_finite := hPre_near_finite)
    ∧ quiescent_Reference7Ideal (hReference7Ideal := hReference7Ideal)
    ∧ quiescent_Reference7Ideal_pre_near_finite (hReference7Ideal := hReference7Ideal) (hPre_near_finite := hPre_near_finite)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal_pre_near_finite (hKernel7Ideal := hKernel7Ideal) (hReference7Ideal := hReference7Ideal) (hPre_near_finite := hPre_near_finite)
    ∧ preserves_Kernel8_Kernel8Ideal
    ∧ algebraic_Kernel8Ideal_Reference8Ideal (hKernel8Ideal := hKernel8Ideal) (hReference8Ideal := hReference8Ideal)
-- ==== Pre_near_finite.lean ====
abbrev S4x8192x1024 : Shape := ⟨3, ![4, 8192, 1024]⟩
abbrev S4x1x1024 : Shape := ⟨3, ![4, 1, 1024]⟩
abbrev S1024 : Shape := ⟨1, ![1024]⟩
abbrev S1024x3072 : Shape := ⟨2, ![1024, 3072]⟩
abbrev S64 : Shape := ⟨1, ![64]⟩
abbrev S_ : Shape := ⟨0, ![]⟩

class Facts : Prop where
  bcast_S_S4x1x1024 : S_.BroadcastsInDim S4x1x1024 (![] : Fin 0 → Fin S4x1x1024.rank)
  bcast_S_S1024 : S_.BroadcastsInDim S1024 (![] : Fin 0 → Fin S1024.rank)
  bcast_S_S1024x3072 : S_.BroadcastsInDim S1024x3072 (![] : Fin 0 → Fin S1024x3072.rank)

variable [Facts]

def fn_part1 {F : FTy → Type} [FloatOps F] (main_arg4 : FVec F S1024x3072 .f32) (main_v4 : IVec S4x1x1024 1) (main_v9 : IVec S4x1x1024 1) (main_v14 : IVec S1024 1) (main_v16 : IVec S1024x3072 1) : IVec S4x1x1024 1 × IVec S4x1x1024 1 × IVec S1024 1 × IVec S1024x3072 1 :=
  let main_cst_6 : FVec F S_ .f32 := constant S_ .f32 0x7F800000#32
  let main_v17 : FVec F S1024x3072 .f32 := broadcastInDim S1024x3072 ![] bcast_S_S1024x3072 main_cst_6
  let main_v18 : IVec S1024x3072 1 := cmpf .olt main_arg4 main_v17
  let main_v19 : IVec S1024x3072 1 := andi main_v16 main_v18
  (main_v4, main_v9, main_v14, main_v19)

def fn {F : FTy → Type} [FloatOps F] (main_arg0 : FVec F S4x8192x1024 .f32) (main_arg1 : FVec F S4x1x1024 .f32) (main_arg2 : FVec F S4x1x1024 .f32) (main_arg3 : FVec F S1024 .f32) (main_arg4 : FVec F S1024x3072 .f32) (main_arg5 : FVec F S64 .f32) (main_arg6 : FVec F S64 .f32) : IVec S4x1x1024 1 × IVec S4x1x1024 1 × IVec S1024 1 × IVec S1024x3072 1 :=
  let main_cst : FVec F S_ .f32 := constant S_ .f32 0xFF800000#32
  let main_v0 : FVec F S4x1x1024 .f32 := broadcastInDim S4x1x1024 ![] bcast_S_S4x1x1024 main_cst
  let main_v1 : IVec S4x1x1024 1 := cmpf .ogt main_arg1 main_v0
  let main_cst_0 : FVec F S_ .f32 := constant S_ .f32 0x7F800000#32
  let main_v2 : FVec F S4x1x1024 .f32 := broadcastInDim S4x1x1024 ![] bcast_S_S4x1x1024 main_cst_0
  let main_v3 : IVec S4x1x1024 1 := cmpf .olt main_arg1 main_v2
  let main_v4 : IVec S4x1x1024 1 := andi main_v1 main_v3
  let main_cst_1 : FVec F S_ .f32 := constant S_ .f32 0xFF800000#32
  let main_v5 : FVec F S4x1x1024 .f32 := broadcastInDim S4x1x1024 ![] bcast_S_S4x1x1024 main_cst_1
  let main_v6 : IVec S4x1x1024 1 := cmpf .ogt main_arg2 main_v5
  let main_cst_2 : FVec F S_ .f32 := constant S_ .f32 0x7F800000#32
  let main_v7 : FVec F S4x1x1024 .f32 := broadcastInDim S4x1x1024 ![] bcast_S_S4x1x1024 main_cst_2
  let main_v8 : IVec S4x1x1024 1 := cmpf .olt main_arg2 main_v7
  let main_v9 : IVec S4x1x1024 1 := andi main_v6 main_v8
  let main_cst_3 : FVec F S_ .f32 := constant S_ .f32 0xFF800000#32
  let main_v10 : FVec F S1024 .f32 := broadcastInDim S1024 ![] bcast_S_S1024 main_cst_3
  let main_v11 : IVec S1024 1 := cmpf .ogt main_arg3 main_v10
  let main_cst_4 : FVec F S_ .f32 := constant S_ .f32 0x7F800000#32
  let main_v12 : FVec F S1024 .f32 := broadcastInDim S1024 ![] bcast_S_S1024 main_cst_4
  let main_v13 : IVec S1024 1 := cmpf .olt main_arg3 main_v12
  let main_v14 : IVec S1024 1 := andi main_v11 main_v13
  let main_cst_5 : FVec F S_ .f32 := constant S_ .f32 0xFF800000#32
  let main_v15 : FVec F S1024x3072 .f32 := broadcastInDim S1024x3072 ![] bcast_S_S1024x3072 main_cst_5
  let main_v16 : IVec S1024x3072 1 := cmpf .ogt main_arg4 main_v15
  fn_part1 (F := F) main_arg4 main_v4 main_v9 main_v14 main_v16
-- ==== Pre_scores_finite.lean ====
abbrev S4x8192x1024 : Shape := ⟨3, ![4, 8192, 1024]⟩
abbrev S4x8192x256 : Shape := ⟨3, ![4, 8192, 256]⟩
abbrev S4x256x256 : Shape := ⟨3, ![4, 256, 256]⟩
abbrev S16 : Shape := ⟨1, ![16]⟩
abbrev S_ : Shape := ⟨0, ![]⟩

class Facts : Prop where
  bcast_S_S4x8192x1024 : S_.BroadcastsInDim S4x8192x1024 (![] : Fin 0 → Fin S4x8192x1024.rank)
  bcast_S_S4x8192x256 : S_.BroadcastsInDim S4x8192x256 (![] : Fin 0 → Fin S4x8192x256.rank)
  bcast_S_S4x256x256 : S_.BroadcastsInDim S4x256x256 (![] : Fin 0 → Fin S4x256x256.rank)
  bcast_S_S16 : S_.BroadcastsInDim S16 (![] : Fin 0 → Fin S16.rank)

variable [Facts]

def fn_part1 {F : FTy → Type} [FloatOps F] (main_arg4 : FVec F S4x256x256 .bf16) (main_arg6 : FVec F S16 .f32) (main_v4 : IVec S4x8192x1024 1) (main_v9 : IVec S4x8192x1024 1) (main_v14 : IVec S4x8192x256 1) (main_v16 : IVec S4x256x256 1) : IVec S4x8192x1024 1 × IVec S4x8192x1024 1 × IVec S4x8192x256 1 × IVec S4x256x256 1 × IVec S16 1 :=
  let main_cst_6 : FVec F S_ .bf16 := constant S_ .bf16 0x7F80#16
  let main_v17 : FVec F S4x256x256 .bf16 := broadcastInDim S4x256x256 ![] bcast_S_S4x256x256 main_cst_6
  let main_v18 : IVec S4x256x256 1 := cmpf .olt main_arg4 main_v17
  let main_v19 : IVec S4x256x256 1 := andi main_v16 main_v18
  let main_cst_7 : FVec F S_ .f32 := constant S_ .f32 0xFF800000#32
  let main_v20 : FVec F S16 .f32 := broadcastInDim S16 ![] bcast_S_S16 main_cst_7
  let main_v21 : IVec S16 1 := cmpf .ogt main_arg6 main_v20
  let main_cst_8 : FVec F S_ .f32 := constant S_ .f32 0x7F800000#32
  let main_v22 : FVec F S16 .f32 := broadcastInDim S16 ![] bcast_S_S16 main_cst_8
  let main_v23 : IVec S16 1 := cmpf .olt main_arg6 main_v22
  let main_v24 : IVec S16 1 := andi main_v21 main_v23
  (main_v4, main_v9, main_v14, main_v19, main_v24)

def fn {F : FTy → Type} [FloatOps F] (main_arg0 : FVec F S4x8192x1024 .bf16) (main_arg1 : FVec F S4x8192x1024 .bf16) (main_arg2 : FVec F S4x8192x256 .bf16) (main_arg3 : FVec F S4x8192x256 .bf16) (main_arg4 : FVec F S4x256x256 .bf16) (main_arg5 : FVec F S4x256x256 .bf16) (main_arg6 : FVec F S16 .f32) : IVec S4x8192x1024 1 × IVec S4x8192x1024 1 × IVec S4x8192x256 1 × IVec S4x256x256 1 × IVec S16 1 :=
  let main_cst : FVec F S_ .bf16 := constant S_ .bf16 0xFF80#16
  let main_v0 : FVec F S4x8192x1024 .bf16 := broadcastInDim S4x8192x1024 ![] bcast_S_S4x8192x1024 main_cst
  let main_v1 : IVec S4x8192x1024 1 := cmpf .ogt main_arg0 main_v0
  let main_cst_0 : FVec F S_ .bf16 := constant S_ .bf16 0x7F80#16
  let main_v2 : FVec F S4x8192x1024 .bf16 := broadcastInDim S4x8192x1024 ![] bcast_S_S4x8192x1024 main_cst_0
  let main_v3 : IVec S4x8192x1024 1 := cmpf .olt main_arg0 main_v2
  let main_v4 : IVec S4x8192x1024 1 := andi main_v1 main_v3
  let main_cst_1 : FVec F S_ .bf16 := constant S_ .bf16 0xFF80#16
  let main_v5 : FVec F S4x8192x1024 .bf16 := broadcastInDim S4x8192x1024 ![] bcast_S_S4x8192x1024 main_cst_1
  let main_v6 : IVec S4x8192x1024 1 := cmpf .ogt main_arg1 main_v5
  let main_cst_2 : FVec F S_ .bf16 := constant S_ .bf16 0x7F80#16
  let main_v7 : FVec F S4x8192x1024 .bf16 := broadcastInDim S4x8192x1024 ![] bcast_S_S4x8192x1024 main_cst_2
  let main_v8 : IVec S4x8192x1024 1 := cmpf .olt main_arg1 main_v7
  let main_v9 : IVec S4x8192x1024 1 := andi main_v6 main_v8
  let main_cst_3 : FVec F S_ .bf16 := constant S_ .bf16 0xFF80#16
  let main_v10 : FVec F S4x8192x256 .bf16 := broadcastInDim S4x8192x256 ![] bcast_S_S4x8192x256 main_cst_3
  let main_v11 : IVec S4x8192x256 1 := cmpf .ogt main_arg2 main_v10
  let main_cst_4 : FVec F S_ .bf16 := constant S_ .bf16 0x7F80#16
  let main_v12 : FVec F S4x8192x256 .bf16 := broadcastInDim S4x8192x256 ![] bcast_S_S4x8192x256 main_cst_4
  let main_v13 : IVec S4x8192x256 1 := cmpf .olt main_arg2 main_v12
  let main_v14 : IVec S4x8192x256 1 := andi main_v11 main_v13
  let main_cst_5 : FVec F S_ .bf16 := constant S_ .bf16 0xFF80#16
  let main_v15 : FVec F S4x256x256 .bf16 := broadcastInDim S4x256x256 ![] bcast_S_S4x256x256 main_cst_5
  let main_v16 : IVec S4x256x256 1 := cmpf .ogt main_arg4 main_v15
  fn_part1 (F := F) main_arg4 main_arg6 main_v4 main_v9 main_v14 main_v16
-- ==== Kernel.lean ====
abbrev S4x8192x1024 : Shape := ⟨3, ![4, 8192, 1024]⟩
abbrev S4x8192x256 : Shape := ⟨3, ![4, 8192, 256]⟩
abbrev S4x256x256 : Shape := ⟨3, ![4, 256, 256]⟩
abbrev S16 : Shape := ⟨1, ![16]⟩
abbrev S128 : Shape := ⟨1, ![128]⟩
abbrev S128x1 : Shape := ⟨2, ![128, 1]⟩
abbrev S384 : Shape := ⟨1, ![384]⟩
abbrev S1x384 : Shape := ⟨2, ![1, 384]⟩
abbrev S_ : Shape := ⟨0, ![]⟩
abbrev S128x384 : Shape := ⟨2, ![128, 384]⟩
abbrev S1x128x1x384 : Shape := ⟨4, ![1, 128, 1, 384]⟩
abbrev S4x128x1x384 : Shape := ⟨4, ![4, 128, 1, 384]⟩
abbrev S512x384 : Shape := ⟨2, ![512, 384]⟩
abbrev S1x512x384 : Shape := ⟨3, ![1, 512, 384]⟩
abbrev S3x512x384 : Shape := ⟨3, ![3, 512, 384]⟩
abbrev S3x1x512x384 : Shape := ⟨4, ![3, 1, 512, 384]⟩
abbrev S4x4 : Shape := ⟨2, ![4, 4]⟩
abbrev S4x4x128 : Shape := ⟨3, ![4, 4, 128]⟩
abbrev S4x512 : Shape := ⟨2, ![4, 512]⟩
abbrev S4x512x1 : Shape := ⟨3, ![4, 512, 1]⟩
abbrev S1x128x1024 : Shape := ⟨3, ![1, 128, 1024]⟩
abbrev S1x128x256 : Shape := ⟨3, ![1, 128, 256]⟩
abbrev S1x256x256 : Shape := ⟨3, ![1, 256, 256]⟩
abbrev S1x1x512x384 : Shape := ⟨4, ![1, 1, 512, 384]⟩
abbrev S1x128x64 : Shape := ⟨3, ![1, 128, 64]⟩
abbrev S128x64 : Shape := ⟨2, ![128, 64]⟩
abbrev S512x64 : Shape := ⟨2, ![512, 64]⟩
abbrev S384x64 : Shape := ⟨2, ![384, 64]⟩
abbrev S1x256x64 : Shape := ⟨3, ![1, 256, 64]⟩
abbrev S256x64 : Shape := ⟨2, ![256, 64]⟩
abbrev S512x256 : Shape := ⟨2, ![512, 256]⟩
abbrev S512x640 : Shape := ⟨2, ![512, 640]⟩
abbrev S640x64 : Shape := ⟨2, ![640, 64]⟩
abbrev S640x128 : Shape := ⟨2, ![640, 128]⟩
abbrev S512 : Shape := ⟨1, ![512]⟩
abbrev S512x1 : Shape := ⟨2, ![512, 1]⟩
abbrev S1x512x1 : Shape := ⟨3, ![1, 512, 1]⟩
abbrev S512x128 : Shape := ⟨2, ![512, 128]⟩

abbrev nBuf : Space → Nat
  | .hbm => 97
  | .vmem => 25
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x256, .bf16⟩
  | .hbm, ⟨3, _⟩ => ⟨S4x8192x256, .bf16⟩
  | .hbm, ⟨4, _⟩ => ⟨S4x256x256, .bf16⟩
  | .hbm, ⟨5, _⟩ => ⟨S4x256x256, .bf16⟩
  | .hbm, ⟨6, _⟩ => ⟨S16, .f32⟩
  | .hbm, ⟨7, _⟩ => ⟨S128, .i32⟩
  | .hbm, ⟨8, _⟩ => ⟨S128x1, .i32⟩
  | .hbm, ⟨9, _⟩ => ⟨S384, .i32⟩
  | .hbm, ⟨10, _⟩ => ⟨S1x384, .i32⟩
  | .hbm, ⟨11, _⟩ => ⟨S_, .i32⟩
  | .hbm, ⟨12, _⟩ => ⟨S1x384, .i32⟩
  | .hbm, ⟨13, _⟩ => ⟨S1x384, .i32⟩
  | .hbm, ⟨14, _⟩ => ⟨S128x384, .i32⟩
  | .hbm, ⟨15, _⟩ => ⟨S128x384, .i32⟩
  | .hbm, ⟨16, _⟩ => ⟨S128x384, .i32⟩
  | .hbm, ⟨17, _⟩ => ⟨S128x384, .i32⟩
  | .hbm, ⟨18, _⟩ => ⟨S_, .i32⟩
  | .hbm, ⟨19, _⟩ => ⟨S128x384, .i32⟩
  | .hbm, ⟨20, _⟩ => ⟨S128x384, .i1⟩
  | .hbm, ⟨21, _⟩ => ⟨S_, .i32⟩
  | .hbm, ⟨22, _⟩ => ⟨S1x384, .i32⟩
  | .hbm, ⟨23, _⟩ => ⟨S1x384, .i32⟩
  | .hbm, ⟨24, _⟩ => ⟨S_, .i32⟩
  | .hbm, ⟨25, _⟩ => ⟨S1x384, .i32⟩
  | .hbm, ⟨26, _⟩ => ⟨S1x384, .i1⟩
  | .hbm, ⟨27, _⟩ => ⟨S128x384, .i1⟩
  | .hbm, ⟨28, _⟩ => ⟨S128x384, .i1⟩
  | .hbm, ⟨29, _⟩ => ⟨S_, .i32⟩
  | .hbm, ⟨30, _⟩ => ⟨S1x384, .i32⟩
  | .hbm, ⟨31, _⟩ => ⟨S1x384, .i1⟩
  | .hbm, ⟨32, _⟩ => ⟨S128x384, .i1⟩
  | .hbm, ⟨33, _⟩ => ⟨S128x384, .i1⟩
  | .hbm, ⟨34, _⟩ => ⟨S_, .f32⟩
  | .hbm, ⟨35, _⟩ => ⟨S_, .f32⟩
  | .hbm, ⟨36, _⟩ => ⟨S128x384, .f32⟩
  | .hbm, ⟨37, _⟩ => ⟨S128x384, .f32⟩
  | .hbm, ⟨38, _⟩ => ⟨S128x384, .f32⟩
  | .hbm, ⟨39, _⟩ => ⟨S128x384, .f32⟩
  | .hbm, ⟨40, _⟩ => ⟨S1x128x1x384, .f32⟩
  | .hbm, ⟨41, _⟩ => ⟨S4x128x1x384, .f32⟩
  | .hbm, ⟨42, _⟩ => ⟨S512x384, .f32⟩
  | .hbm, ⟨43, _⟩ => ⟨S_, .i32⟩
  | .hbm, ⟨44, _⟩ => ⟨S1x384, .i32⟩
  | .hbm, ⟨45, _⟩ => ⟨S1x384, .i32⟩
  | .hbm, ⟨46, _⟩ => ⟨S_, .i32⟩
  | .hbm, ⟨47, _⟩ => ⟨S1x384, .i32⟩
  | .hbm, ⟨48, _⟩ => ⟨S1x384, .i1⟩
  | .hbm, ⟨49, _⟩ => ⟨S128x384, .i1⟩
  | .hbm, ⟨50, _⟩ => ⟨S128x384, .i1⟩
  | .hbm, ⟨51, _⟩ => ⟨S_, .i32⟩
  | .hbm, ⟨52, _⟩ => ⟨S1x384, .i32⟩
  | .hbm, ⟨53, _⟩ => ⟨S1x384, .i1⟩
  | .hbm, ⟨54, _⟩ => ⟨S128x384, .i1⟩
  | .hbm, ⟨55, _⟩ => ⟨S128x384, .i1⟩
  | .hbm, ⟨56, _⟩ => ⟨S_, .f32⟩
  | .hbm, ⟨57, _⟩ => ⟨S_, .f32⟩
  | .hbm, ⟨58, _⟩ => ⟨S128x384, .f32⟩
  | .hbm, ⟨59, _⟩ => ⟨S128x384, .f32⟩
  | .hbm, ⟨60, _⟩ => ⟨S128x384, .f32⟩
  | .hbm, ⟨61, _⟩ => ⟨S128x384, .f32⟩
  | .hbm, ⟨62, _⟩ => ⟨S1x128x1x384, .f32⟩
  | .hbm, ⟨63, _⟩ => ⟨S4x128x1x384, .f32⟩
  | .hbm, ⟨64, _⟩ => ⟨S512x384, .f32⟩
  | .hbm, ⟨65, _⟩ => ⟨S_, .i32⟩
  | .hbm, ⟨66, _⟩ => ⟨S1x384, .i32⟩
  | .hbm, ⟨67, _⟩ => ⟨S1x384, .i32⟩
  | .hbm, ⟨68, _⟩ => ⟨S_, .i32⟩
  | .hbm, ⟨69, _⟩ => ⟨S1x384, .i32⟩
  | .hbm, ⟨70, _⟩ => ⟨S1x384, .i1⟩
  | .hbm, ⟨71, _⟩ => ⟨S128x384, .i1⟩
  | .hbm, ⟨72, _⟩ => ⟨S128x384, .i1⟩
  | .hbm, ⟨73, _⟩ => ⟨S_, .i32⟩
  | .hbm, ⟨74, _⟩ => ⟨S1x384, .i32⟩
  | .hbm, ⟨75, _⟩ => ⟨S1x384, .i1⟩
  | .hbm, ⟨76, _⟩ => ⟨S128x384, .i1⟩
  | .hbm, ⟨77, _⟩ => ⟨S128x384, .i1⟩
  | .hbm, ⟨78, _⟩ => ⟨S_, .f32⟩
  | .hbm, ⟨79, _⟩ => ⟨S_, .f32⟩
  | .hbm, ⟨80, _⟩ => ⟨S128x384, .f32⟩
  | .hbm, ⟨81, _⟩ => ⟨S128x384, .f32⟩
  | .hbm, ⟨82, _⟩ => ⟨S128x384, .f32⟩
  | .hbm, ⟨83, _⟩ => ⟨S128x384, .f32⟩
  | .hbm, ⟨84, _⟩ => ⟨S1x128x1x384, .f32⟩
  | .hbm, ⟨85, _⟩ => ⟨S4x128x1x384, .f32⟩
  | .hbm, ⟨86, _⟩ => ⟨S512x384, .f32⟩
  | .hbm, ⟨87, _⟩ => ⟨S1x512x384, .f32⟩
  | .hbm, ⟨88, _⟩ => ⟨S1x512x384, .f32⟩
  | .hbm, ⟨89, _⟩ => ⟨S1x512x384, .f32⟩
  | .hbm, ⟨90, _⟩ => ⟨S3x512x384, .f32⟩
  | .hbm, ⟨91, _⟩ => ⟨S3x1x512x384, .f32⟩
  | .hbm, ⟨92, _⟩ => ⟨S4x4, .f32⟩
  | .hbm, ⟨93, _⟩ => ⟨S4x4x128, .f32⟩
  | .hbm, ⟨94, _⟩ => ⟨S4x512, .f32⟩
  | .hbm, ⟨95, _⟩ => ⟨S4x512x1, .f32⟩
  | .hbm, ⟨96, _⟩ => ⟨S4x8192x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x128x256, .bf16⟩
  | .local _ .vmem, ⟨15, _⟩ => ⟨S1x128x256, .bf16⟩
  | .local _ .vmem, ⟨16, _⟩ => ⟨S1x256x256, .bf16⟩
  | .local _ .vmem, ⟨17, _⟩ => ⟨S1x256x256, .bf16⟩
  | .local _ .vmem, ⟨18, _⟩ => ⟨S1x256x256, .bf16⟩
  | .local _ .vmem, ⟨19, _⟩ => ⟨S1x256x256, .bf16⟩
  | .local _ .vmem, ⟨20, _⟩ => ⟨S1x1x512x384, .f32⟩
  | .local _ .vmem, ⟨21, _⟩ => ⟨S1x1x512x384, .f32⟩
  | .local _ .vmem, ⟨22, _⟩ => ⟨S4x512x1, .f32⟩
  | .local _ .vmem, ⟨23, _⟩ => ⟨S1x128x1024, .bf16⟩
  | .local _ .vmem, ⟨24, _⟩ => ⟨S1x128x1024, .bf16⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_cst_9 : Ref sig .tc := ⟨.hbm, 57, rfl⟩
abbrev main_call1_v0 : Ref sig .tc := ⟨.hbm, 58, rfl⟩
abbrev main_call1_v1 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_v42 : Ref sig .tc := ⟨.hbm, 66, rfl⟩
abbrev main_v43 : Ref sig .tc := ⟨.hbm, 67, rfl⟩
abbrev main_c_11 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_12 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_13 : Ref sig .tc := ⟨.hbm, 78, rfl⟩
abbrev main_cst_14 : Ref sig .tc := ⟨.hbm, 79, rfl⟩
abbrev main_call2_v0 : Ref sig .tc := ⟨.hbm, 80, rfl⟩
abbrev main_call2_v1 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![4, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c63_i32 : BitVec 32 := 63#32
  let v1 : BitVec 32 := Scalar.minsi v0 c63_i32
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c63_i32 : BitVec 32 := 63#32
  let v1 : BitVec 1 := Scalar.cmpi .eq arg1 c63_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  let c0_i32_4 : BitVec 32 := 0#32
  ![v3.toNat, c0_i32_1.toNat, c0_i32_2.toNat, c0_i32_3.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S4x512x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S4x8192x1024 : Shape := ⟨3, ![4, 8192, 1024]⟩
abbrev S4x8192x256 : Shape := ⟨3, ![4, 8192, 256]⟩
abbrev S4x256x256 : Shape := ⟨3, ![4, 256, 256]⟩
abbrev S16 : Shape := ⟨1, ![16]⟩
abbrev S4x8192x4x4x64 : Shape := ⟨5, ![4, 8192, 4, 4, 64]⟩
abbrev S4x8192x4x64 : Shape := ⟨4, ![4, 8192, 4, 64]⟩
abbrev S4x4x8192x8192x4 : Shape := ⟨5, ![4, 4, 8192, 8192, 4]⟩
abbrev S4x4x4x8192x8192 : Shape := ⟨5, ![4, 4, 4, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S4x256x4x64 : Shape := ⟨4, ![4, 256, 4, 64]⟩
abbrev S4x4x256x8192x4 : Shape := ⟨5, ![4, 4, 256, 8192, 4]⟩
abbrev S4x4x4x8192x256 : Shape := ⟨5, ![4, 4, 4, 8192, 256]⟩
abbrev S4x4 : Shape := ⟨2, ![4, 4]⟩
abbrev S1x4x4x1x1 : Shape := ⟨5, ![1, 4, 4, 1, 1]⟩
abbrev S4x4x4x8192x1 : Shape := ⟨5, ![4, 4, 4, 8192, 1]⟩
abbrev S4x4x4x8192x8449 : Shape := ⟨5, ![4, 4, 4, 8192, 8449]⟩
abbrev S4x4x4x8192 : Shape := ⟨4, ![4, 4, 4, 8192]⟩
abbrev S4x4x64x4x8192 : Shape := ⟨5, ![4, 4, 64, 4, 8192]⟩

abbrev nBuf : Space → Nat
  | .hbm => 65
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x8192x256, .bf16⟩
  | .hbm, ⟨3, _⟩ => ⟨S4x8192x256, .bf16⟩
  | .hbm, ⟨4, _⟩ => ⟨S4x256x256, .bf16⟩
  | .hbm, ⟨5, _⟩ => ⟨S4x256x256, .bf16⟩
  | .hbm, ⟨6, _⟩ => ⟨S16, .f32⟩
  | .hbm, ⟨7, _⟩ => ⟨S4x8192x1024, .f32⟩
  | .hbm, ⟨8, _⟩ => ⟨S4x8192x4x4x64, .f32⟩
  | .hbm, ⟨9, _⟩ => ⟨S4x8192x256, .f32⟩
  | .hbm, ⟨10, _⟩ => ⟨S4x8192x4x64, .f32⟩
  | .hbm, ⟨11, _⟩ => ⟨S4x4x8192x8192x4, .f32⟩
  | .hbm, ⟨12, _⟩ => ⟨S4x4x4x8192x8192, .f32⟩
  | .hbm, ⟨13, _⟩ => ⟨S8192, .i32⟩
  | .hbm, ⟨14, _⟩ => ⟨S8192x1, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S4x4x4x8192x8192, .i1⟩
  | .hbm, ⟨26, _⟩ => ⟨S4x4x4x8192x8192, .f32⟩
  | .hbm, ⟨27, _⟩ => ⟨S4x4x4x8192x8192, .f32⟩
  | .hbm, ⟨28, _⟩ => ⟨S4x8192x1024, .f32⟩
  | .hbm, ⟨29, _⟩ => ⟨S4x8192x4x4x64, .f32⟩
  | .hbm, ⟨30, _⟩ => ⟨S4x256x256, .f32⟩
  | .hbm, ⟨31, _⟩ => ⟨S4x256x4x64, .f32⟩
  | .hbm, ⟨32, _⟩ => ⟨S4x4x256x8192x4, .f32⟩
  | .hbm, ⟨33, _⟩ => ⟨S4x4x4x8192x256, .f32⟩
  | .hbm, ⟨34, _⟩ => ⟨S4x4, .f32⟩
  | .hbm, ⟨35, _⟩ => ⟨S1x4x4x1x1, .f32⟩
  | .hbm, ⟨36, _⟩ => ⟨S4x4x4x8192x1, .f32⟩
  | .hbm, ⟨37, _⟩ => ⟨S4x4x4x8192x8449, .f32⟩
  | .hbm, ⟨38, _⟩ => ⟨S_, .f32⟩
  | .hbm, ⟨39, _⟩ => ⟨S4x4x4x8192, .f32⟩
  | .hbm, ⟨40, _⟩ => ⟨S_, .f32⟩
  | .hbm, ⟨41, _⟩ => ⟨S4x4x4x8192, .f32⟩
  | .hbm, ⟨42, _⟩ => ⟨S4x4x4x8192, .f32⟩
  | .hbm, ⟨43, _⟩ => ⟨S4x4x4x8192x1, .f32⟩
  | .hbm, ⟨44, _⟩ => ⟨S4x4x4x8192x8449, .f32⟩
  | .hbm, ⟨45, _⟩ => ⟨S4x4x4x8192x8449, .f32⟩
  | .hbm, ⟨46, _⟩ => ⟨S4x4x4x8192x8449, .f32⟩
  | .hbm, ⟨47, _⟩ => ⟨S_, .f32⟩
  | .hbm, ⟨48, _⟩ => ⟨S4x4x4x8192, .f32⟩
  | .hbm, ⟨49, _⟩ => ⟨S4x4x4x8192x1, .f32⟩
  | .hbm, ⟨50, _⟩ => ⟨S4x4x4x8192x8449, .f32⟩
  | .hbm, ⟨51, _⟩ => ⟨S4x4x4x8192x8449, .f32⟩
  | .hbm, ⟨52, _⟩ => ⟨S4x4x4x8192x8192, .f32⟩
  | .hbm, ⟨53, _⟩ => ⟨S4x4x4x8192x256, .f32⟩
  | .hbm, ⟨54, _⟩ => ⟨S4x8192x256, .f32⟩
  | .hbm, ⟨55, _⟩ => ⟨S4x8192x4x64, .f32⟩
  | .hbm, ⟨56, _⟩ => ⟨S4x4x64x4x8192, .f32⟩
  | .hbm, ⟨57, _⟩ => ⟨S4x8192x4x4x64, .f32⟩
  | .hbm, ⟨58, _⟩ => ⟨S4x256x256, .f32⟩
  | .hbm, ⟨59, _⟩ => ⟨S4x256x4x64, .f32⟩
  | .hbm, ⟨60, _⟩ => ⟨S4x4x64x4x8192, .f32⟩
  | .hbm, ⟨61, _⟩ => ⟨S4x8192x4x4x64, .f32⟩
  | .hbm, ⟨62, _⟩ => ⟨S4x8192x4x4x64, .f32⟩
  | .hbm, ⟨63, _⟩ => ⟨S4x8192x1024, .f32⟩
  | .hbm, ⟨64, _⟩ => ⟨S4x8192x1024, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_0 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Kernel2.lean ====
abbrev S33792x1024 : Shape := ⟨2, ![33792, 1024]⟩
abbrev S16x4224 : Shape := ⟨2, ![16, 4224]⟩
abbrev S4x16x1024x2048 : Shape := ⟨4, ![4, 16, 1024, 2048]⟩
abbrev S4x16x2048x1024 : Shape := ⟨4, ![4, 16, 2048, 1024]⟩
abbrev S_ : Shape := ⟨0, ![]⟩
abbrev S16x4224x1 : Shape := ⟨3, ![16, 4224, 1]⟩
abbrev S16x4224x1024 : Shape := ⟨3, ![16, 4224, 1024]⟩
abbrev S1x1056x1024 : Shape := ⟨3, ![1, 1056, 1024]⟩
abbrev S1x1x1024x1024 : Shape := ⟨4, ![1, 1, 1024, 1024]⟩
abbrev S1x1056x1 : Shape := ⟨3, ![1, 1056, 1]⟩
abbrev S1056x1024 : Shape := ⟨2, ![1056, 1024]⟩
abbrev S1024x1024 : Shape := ⟨2, ![1024, 1024]⟩
abbrev S1056x1 : Shape := ⟨2, ![1056, 1]⟩

abbrev nBuf : Space → Nat
  | .hbm => 17
  | .vmem => 13
  | .smem => 0
  | _ => 0

abbrev bufTy : (tb : Table) → Fin (tcTables nBuf tb) → BufTy
  | .hbm, ⟨0, _⟩ => ⟨S33792x1024, .bf16⟩
  | .hbm, ⟨1, _⟩ => ⟨S16x4224, .i32⟩
  | .hbm, ⟨2, _⟩ => ⟨S16x4224, .f32⟩
  | .hbm, ⟨3, _⟩ => ⟨S4x16x1024x2048, .f32⟩
  | .hbm, ⟨4, _⟩ => ⟨S4x16x1024x2048, .f32⟩
  | .hbm, ⟨5, _⟩ => ⟨S4x16x2048x1024, .f32⟩
  | .hbm, ⟨6, _⟩ => ⟨S_, .i32⟩
  | .hbm, ⟨7, _⟩ => ⟨S16x4224, .i32⟩
  | .hbm, ⟨8, _⟩ => ⟨S16x4224, .i1⟩
  | .hbm, ⟨9, _⟩ => ⟨S_, .i32⟩
  | .hbm, ⟨10, _⟩ => ⟨S16x4224, .i32⟩
  | .hbm, ⟨11, _⟩ => ⟨S16x4224, .i32⟩
  | .hbm, ⟨12, _⟩ => ⟨S16x4224, .i32⟩
  | .hbm, ⟨13, _⟩ => ⟨S16x4224x1, .i32⟩
  | .hbm, ⟨14, _⟩ => ⟨S16x4224x1024, .bf16⟩
  | .hbm, ⟨15, _⟩ => ⟨S16x4224x1, .f32⟩
  | .hbm, ⟨16, _⟩ => ⟨S16x4224x1024, .bf16⟩
  | .local _ .vmem, ⟨0, _⟩ => ⟨S1x1056x1024, .bf16⟩
  | .local _ .vmem, ⟨1, _⟩ => ⟨S1x1056x1024, .bf16⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1056x1, .f32⟩
  | .local _ .vmem, ⟨9, _⟩ => ⟨S1x1056x1, .f32⟩
  | .local _ .vmem, ⟨10, _⟩ => ⟨S1x1056x1024, .bf16⟩
  | .local _ .vmem, ⟨11, _⟩ => ⟨S1x1056x1024, .bf16⟩
  | .local _ .vmem, ⟨12, _⟩ => ⟨S1056x1024, .f32⟩
  | _, _ => ⟨S33792x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 2], ![false, false, false]⟩

def k0_cond3 (i : grid0.Coords) : BitVec 1 :=
  let arg2 : BitVec 32 := BitVec.ofNat 32 (i 2).val
  let c1_i32 : BitVec 32 := 1#32
  let v30 : BitVec 1 := Scalar.cmpi .eq arg2 c1_i32
  let v31 : BitVec 32 := Scalar.extui v30
  let c0_i32_22 : BitVec 32 := 0#32
  let v32 : BitVec 1 := Scalar.cmpi .ne v31 c0_i32_22
  v32

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg2.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1056x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1056x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S33792x1024 : Shape := ⟨2, ![33792, 1024]⟩
abbrev S16x4224 : Shape := ⟨2, ![16, 4224]⟩
abbrev S4x16x1024x2048 : Shape := ⟨4, ![4, 16, 1024, 2048]⟩
abbrev S4x16x2048x1024 : Shape := ⟨4, ![4, 16, 2048, 1024]⟩
abbrev S_ : Shape := ⟨0, ![]⟩
abbrev S16x4224x1 : Shape := ⟨3, ![16, 4224, 1]⟩
abbrev S16x4224x1024 : Shape := ⟨3, ![16, 4224, 1024]⟩
abbrev S1x16x1024x2048 : Shape := ⟨4, ![1, 16, 1024, 2048]⟩
abbrev S16x1024x2048 : Shape := ⟨3, ![16, 1024, 2048]⟩
abbrev S1x16x2048x1024 : Shape := ⟨4, ![1, 16, 2048, 1024]⟩
abbrev S16x2048x1024 : Shape := ⟨3, ![16, 2048, 1024]⟩
abbrev S16x4224x2048 : Shape := ⟨3, ![16, 4224, 2048]⟩

abbrev nBuf : Space → Nat
  | .hbm => 39
  | .vmem => 0
  | .smem => 0
  | _ => 0

abbrev bufTy : (tb : Table) → Fin (tcTables nBuf tb) → BufTy
  | .hbm, ⟨0, _⟩ => ⟨S33792x1024, .bf16⟩
  | .hbm, ⟨1, _⟩ => ⟨S16x4224, .i32⟩
  | .hbm, ⟨2, _⟩ => ⟨S16x4224, .f32⟩
  | .hbm, ⟨3, _⟩ => ⟨S4x16x1024x2048, .f32⟩
  | .hbm, ⟨4, _⟩ => ⟨S4x16x1024x2048, .f32⟩
  | .hbm, ⟨5, _⟩ => ⟨S4x16x2048x1024, .f32⟩
  | .hbm, ⟨6, _⟩ => ⟨S33792x1024, .f32⟩
  | .hbm, ⟨7, _⟩ => ⟨S_, .i32⟩
  | .hbm, ⟨8, _⟩ => ⟨S16x4224, .i32⟩
  | .hbm, ⟨9, _⟩ => ⟨S16x4224, .i1⟩
  | .hbm, ⟨10, _⟩ => ⟨S_, .i32⟩
  | .hbm, ⟨11, _⟩ => ⟨S16x4224, .i32⟩
  | .hbm, ⟨12, _⟩ => ⟨S16x4224, .i32⟩
  | .hbm, ⟨13, _⟩ => ⟨S16x4224, .i32⟩
  | .hbm, ⟨14, _⟩ => ⟨S16x4224x1, .i32⟩
  | .hbm, ⟨15, _⟩ => ⟨S16x4224x1024, .f32⟩
  | .hbm, ⟨16, _⟩ => ⟨S1x16x1024x2048, .f32⟩
  | .hbm, ⟨17, _⟩ => ⟨S16x1024x2048, .f32⟩
  | .hbm, ⟨18, _⟩ => ⟨S1x16x1024x2048, .f32⟩
  | .hbm, ⟨19, _⟩ => ⟨S16x1024x2048, .f32⟩
  | .hbm, ⟨20, _⟩ => ⟨S1x16x2048x1024, .f32⟩
  | .hbm, ⟨21, _⟩ => ⟨S16x2048x1024, .f32⟩
  | .hbm, ⟨22, _⟩ => ⟨S16x4224x2048, .f32⟩
  | .hbm, ⟨23, _⟩ => ⟨S16x4224x2048, .f32⟩
  | .hbm, ⟨24, _⟩ => ⟨S16x4224x2048, .f32⟩
  | .hbm, ⟨25, _⟩ => ⟨S_, .f32⟩
  | .hbm, ⟨26, _⟩ => ⟨S16x4224x2048, .f32⟩
  | .hbm, ⟨27, _⟩ => ⟨S16x4224x2048, .f32⟩
  | .hbm, ⟨28, _⟩ => ⟨S_, .f32⟩
  | .hbm, ⟨29, _⟩ => ⟨S16x4224x2048, .f32⟩
  | .hbm, ⟨30, _⟩ => ⟨S16x4224x2048, .f32⟩
  | .hbm, ⟨31, _⟩ => ⟨S16x4224x2048, .f32⟩
  | .hbm, ⟨32, _⟩ => ⟨S16x4224x2048, .f32⟩
  | .hbm, ⟨33, _⟩ => ⟨S16x4224x2048, .f32⟩
  | .hbm, ⟨34, _⟩ => ⟨S16x4224x1024, .f32⟩
  | .hbm, ⟨35, _⟩ => ⟨S16x4224x1, .f32⟩
  | .hbm, ⟨36, _⟩ => ⟨S16x4224x1024, .f32⟩
  | .hbm, ⟨37, _⟩ => ⟨S16x4224x1024, .f32⟩
  | .hbm, ⟨38, _⟩ => ⟨S16x4224x1024, .bf16⟩
  | _, _ => ⟨S33792x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024x1024 : Shape := ⟨2, ![1024, 1024]⟩
abbrev S4x1x1024 : Shape := ⟨3, ![4, 1, 1024]⟩
abbrev S1024 : Shape := ⟨1, ![1024]⟩
abbrev S1024x16 : Shape := ⟨2, ![1024, 16]⟩
abbrev S16x1024 : Shape := ⟨2, ![16, 1024]⟩
abbrev S1x1024 : Shape := ⟨2, ![1, 1024]⟩
abbrev S32768x1024 : Shape := ⟨2, ![32768, 1024]⟩
abbrev S4x16x8192 : Shape := ⟨3, ![4, 16, 8192]⟩
abbrev S1x512x1024 : Shape := ⟨3, ![1, 512, 1024]⟩
abbrev S1x1x1024 : Shape := ⟨3, ![1, 1, 1024]⟩
abbrev S512x1024 : Shape := ⟨2, ![512, 1024]⟩
abbrev S1x16x512 : Shape := ⟨3, ![1, 16, 512]⟩
abbrev S512 : Shape := ⟨1, ![512]⟩
abbrev S512x1 : Shape := ⟨2, ![512, 1]⟩
abbrev S16x512 : Shape := ⟨2, ![16, 512]⟩
abbrev S1x512 : Shape := ⟨2, ![1, 512]⟩

abbrev nBuf : Space → Nat
  | .hbm => 14
  | .vmem => 19
  | .smem => 0
  | _ => 0

abbrev bufTy : (tb : Table) → Fin (tcTables nBuf tb) → BufTy
  | .hbm, ⟨0, _⟩ => ⟨S4x8192x1024, .bf16⟩
  | .hbm, ⟨1, _⟩ => ⟨S1024x1024, .f32⟩
  | .hbm, ⟨2, _⟩ => ⟨S4x8192x1024, .f32⟩
  | .hbm, ⟨3, _⟩ => ⟨S4x1x1024, .f32⟩
  | .hbm, ⟨4, _⟩ => ⟨S1024, .f32⟩
  | .hbm, ⟨5, _⟩ => ⟨S4x1x1024, .f32⟩
  | .hbm, ⟨6, _⟩ => ⟨S4x1x1024, .f32⟩
  | .hbm, ⟨7, _⟩ => ⟨S1024x16, .f32⟩
  | .hbm, ⟨8, _⟩ => ⟨S1024x1024, .bf16⟩
  | .hbm, ⟨9, _⟩ => ⟨S16x1024, .f32⟩
  | .hbm, ⟨10, _⟩ => ⟨S1x1024, .f32⟩
  | .hbm, ⟨11, _⟩ => ⟨S4x8192x1024, .f32⟩
  | .hbm, ⟨12, _⟩ => ⟨S32768x1024, .bf16⟩
  | .hbm, ⟨13, _⟩ => ⟨S4x16x8192, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S16x1024, .f32⟩
  | .local _ .vmem, ⟨13, _⟩ => ⟨S1x512x1024, .f32⟩
  | .local _ .vmem, ⟨14, _⟩ => ⟨S1x512x1024, .f32⟩
  | .local _ .vmem, ⟨15, _⟩ => ⟨S512x1024, .bf16⟩
  | .local _ .vmem, ⟨16, _⟩ => ⟨S512x1024, .bf16⟩
  | .local _ .vmem, ⟨17, _⟩ => ⟨S1x16x512, .f32⟩
  | .local _ .vmem, ⟨18, _⟩ => ⟨S1x16x512, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S4x8192x1024 : Shape := ⟨3, ![4, 8192, 1024]⟩
abbrev S1024x1024 : Shape := ⟨2, ![1024, 1024]⟩
abbrev S4x1x1024 : Shape := ⟨3, ![4, 1, 1024]⟩
abbrev S1024 : Shape := ⟨1, ![1024]⟩
abbrev S1024x16 : Shape := ⟨2, ![1024, 16]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x16 : Shape := ⟨3, ![4, 8192, 16]⟩
abbrev S32768x1024 : Shape := ⟨2, ![32768, 1024]⟩
abbrev S4x16x8192 : Shape := ⟨3, ![4, 16, 8192]⟩

abbrev nBuf : Space → Nat
  | .hbm => 54
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S1024x1024, .f32⟩
  | .hbm, ⟨2, _⟩ => ⟨S4x8192x1024, .f32⟩
  | .hbm, ⟨3, _⟩ => ⟨S4x1x1024, .f32⟩
  | .hbm, ⟨4, _⟩ => ⟨S1024, .f32⟩
  | .hbm, ⟨5, _⟩ => ⟨S4x1x1024, .f32⟩
  | .hbm, ⟨6, _⟩ => ⟨S4x1x1024, .f32⟩
  | .hbm, ⟨7, _⟩ => ⟨S1024x16, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x16, .f32⟩
  | .hbm, ⟨37, _⟩ => ⟨S_, .f32⟩
  | .hbm, ⟨38, _⟩ => ⟨S4x8192, .f32⟩
  | .hbm, ⟨39, _⟩ => ⟨S_, .f32⟩
  | .hbm, ⟨40, _⟩ => ⟨S4x8192, .f32⟩
  | .hbm, ⟨41, _⟩ => ⟨S4x8192, .f32⟩
  | .hbm, ⟨42, _⟩ => ⟨S4x8192x1, .f32⟩
  | .hbm, ⟨43, _⟩ => ⟨S4x8192x16, .f32⟩
  | .hbm, ⟨44, _⟩ => ⟨S4x8192x16, .f32⟩
  | .hbm, ⟨45, _⟩ => ⟨S4x8192x16, .f32⟩
  | .hbm, ⟨46, _⟩ => ⟨S_, .f32⟩
  | .hbm, ⟨47, _⟩ => ⟨S4x8192, .f32⟩
  | .hbm, ⟨48, _⟩ => ⟨S4x8192x1, .f32⟩
  | .hbm, ⟨49, _⟩ => ⟨S4x8192x16, .f32⟩
  | .hbm, ⟨50, _⟩ => ⟨S4x8192x16, .f32⟩
  | .hbm, ⟨51, _⟩ => ⟨S32768x1024, .f32⟩
  | .hbm, ⟨52, _⟩ => ⟨S32768x1024, .bf16⟩
  | .hbm, ⟨53, _⟩ => ⟨S4x16x8192, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Kernel4.lean ====
abbrev S4x8192x1024 : Shape := ⟨3, ![4, 8192, 1024]⟩
abbrev S1024x1024 : Shape := ⟨2, ![1024, 1024]⟩
abbrev S4x1x1024 : Shape := ⟨3, ![4, 1, 1024]⟩
abbrev S1024 : Shape := ⟨1, ![1024]⟩
abbrev S1024x16 : Shape := ⟨2, ![1024, 16]⟩
abbrev S16x1024 : Shape := ⟨2, ![16, 1024]⟩
abbrev S_ : Shape := ⟨0, ![]⟩
abbrev S33792x1024 : Shape := ⟨2, ![33792, 1024]⟩
abbrev S1x1024 : Shape := ⟨2, ![1, 1024]⟩
abbrev S4x16x8192 : Shape := ⟨3, ![4, 16, 8192]⟩
abbrev S1x512x1024 : Shape := ⟨3, ![1, 512, 1024]⟩
abbrev S1x1x1024 : Shape := ⟨3, ![1, 1, 1024]⟩
abbrev S512x1024 : Shape := ⟨2, ![512, 1024]⟩
abbrev S1x16x512 : Shape := ⟨3, ![1, 16, 512]⟩
abbrev S512 : Shape := ⟨1, ![512]⟩
abbrev S512x1 : Shape := ⟨2, ![512, 1]⟩
abbrev S16x512 : Shape := ⟨2, ![16, 512]⟩
abbrev S1x512 : Shape := ⟨2, ![1, 512]⟩

abbrev nBuf : Space → Nat
  | .hbm => 17
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S4x8192x1024, .f32⟩
  | .hbm, ⟨4, _⟩ => ⟨S4x1x1024, .f32⟩
  | .hbm, ⟨5, _⟩ => ⟨S1024, .f32⟩
  | .hbm, ⟨6, _⟩ => ⟨S4x1x1024, .f32⟩
  | .hbm, ⟨7, _⟩ => ⟨S4x1x1024, .f32⟩
  | .hbm, ⟨8, _⟩ => ⟨S1024x16, .f32⟩
  | .hbm, ⟨9, _⟩ => ⟨S1024x1024, .bf16⟩
  | .hbm, ⟨10, _⟩ => ⟨S16x1024, .f32⟩
  | .hbm, ⟨11, _⟩ => ⟨S_, .bf16⟩
  | .hbm, ⟨12, _⟩ => ⟨S33792x1024, .bf16⟩
  | .hbm, ⟨13, _⟩ => ⟨S1x1024, .f32⟩
  | .hbm, ⟨14, _⟩ => ⟨S4x8192x1024, .f32⟩
  | .hbm, ⟨15, _⟩ => ⟨S33792x1024, .bf16⟩
  | .hbm, ⟨16, _⟩ => ⟨S4x16x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S16x1024, .f32⟩
  | .local _ .vmem, ⟨15, _⟩ => ⟨S1x512x1024, .f32⟩
  | .local _ .vmem, ⟨16, _⟩ => ⟨S1x512x1024, .f32⟩
  | .local _ .vmem, ⟨17, _⟩ => ⟨S512x1024, .bf16⟩
  | .local _ .vmem, ⟨18, _⟩ => ⟨S512x1024, .bf16⟩
  | .local _ .vmem, ⟨19, _⟩ => ⟨S1x16x512, .f32⟩
  | .local _ .vmem, ⟨20, _⟩ => ⟨S1x16x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S4x8192x1024 : Shape := ⟨3, ![4, 8192, 1024]⟩
abbrev S1024x1024 : Shape := ⟨2, ![1024, 1024]⟩
abbrev S4x1x1024 : Shape := ⟨3, ![4, 1, 1024]⟩
abbrev S1024 : Shape := ⟨1, ![1024]⟩
abbrev S1024x16 : Shape := ⟨2, ![1024, 16]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x16 : Shape := ⟨3, ![4, 8192, 16]⟩
abbrev S32768x1024 : Shape := ⟨2, ![32768, 1024]⟩
abbrev S33792x1024 : Shape := ⟨2, ![33792, 1024]⟩
abbrev S4x16x8192 : Shape := ⟨3, ![4, 16, 8192]⟩

abbrev nBuf : Space → Nat
  | .hbm => 58
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S4x8192x1024, .f32⟩
  | .hbm, ⟨4, _⟩ => ⟨S4x1x1024, .f32⟩
  | .hbm, ⟨5, _⟩ => ⟨S1024, .f32⟩
  | .hbm, ⟨6, _⟩ => ⟨S4x1x1024, .f32⟩
  | .hbm, ⟨7, _⟩ => ⟨S4x1x1024, .f32⟩
  | .hbm, ⟨8, _⟩ => ⟨S1024x16, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x8192x1024, .f32⟩
  | .hbm, ⟨26, _⟩ => ⟨S4x8192x1024, .f32⟩
  | .hbm, ⟨27, _⟩ => ⟨S1x1x1024, .f32⟩
  | .hbm, ⟨28, _⟩ => ⟨S4x8192x1024, .f32⟩
  | .hbm, ⟨29, _⟩ => ⟨S4x8192x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S4x8192x16, .f32⟩
  | .hbm, ⟨38, _⟩ => ⟨S_, .f32⟩
  | .hbm, ⟨39, _⟩ => ⟨S4x8192, .f32⟩
  | .hbm, ⟨40, _⟩ => ⟨S_, .f32⟩
  | .hbm, ⟨41, _⟩ => ⟨S4x8192, .f32⟩
  | .hbm, ⟨42, _⟩ => ⟨S4x8192, .f32⟩
  | .hbm, ⟨43, _⟩ => ⟨S4x8192x1, .f32⟩
  | .hbm, ⟨44, _⟩ => ⟨S4x8192x16, .f32⟩
  | .hbm, ⟨45, _⟩ => ⟨S4x8192x16, .f32⟩
  | .hbm, ⟨46, _⟩ => ⟨S4x8192x16, .f32⟩
  | .hbm, ⟨47, _⟩ => ⟨S_, .f32⟩
  | .hbm, ⟨48, _⟩ => ⟨S4x8192, .f32⟩
  | .hbm, ⟨49, _⟩ => ⟨S4x8192x1, .f32⟩
  | .hbm, ⟨50, _⟩ => ⟨S4x8192x16, .f32⟩
  | .hbm, ⟨51, _⟩ => ⟨S4x8192x16, .f32⟩
  | .hbm, ⟨52, _⟩ => ⟨S32768x1024, .f32⟩
  | .hbm, ⟨53, _⟩ => ⟨S_, .f32⟩
  | .hbm, ⟨54, _⟩ => ⟨S1024x1024, .f32⟩
  | .hbm, ⟨55, _⟩ => ⟨S33792x1024, .f32⟩
  | .hbm, ⟨56, _⟩ => ⟨S33792x1024, .bf16⟩
  | .hbm, ⟨57, _⟩ => ⟨S4x16x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Kernel5.lean ====
abbrev S4x8192x1024 : Shape := ⟨3, ![4, 8192, 1024]⟩
abbrev S4x1x1024 : Shape := ⟨3, ![4, 1, 1024]⟩
abbrev S1024 : Shape := ⟨1, ![1024]⟩
abbrev S1024x3072 : Shape := ⟨2, ![1024, 3072]⟩
abbrev S3x3072 : Shape := ⟨2, ![3, 3072]⟩
abbrev S3072 : Shape := ⟨1, ![3072]⟩
abbrev S1x1024 : Shape := ⟨2, ![1, 1024]⟩
abbrev S1x3072 : Shape := ⟨2, ![1, 3072]⟩
abbrev S1x256x1024 : Shape := ⟨3, ![1, 256, 1024]⟩
abbrev S1x8x1024 : Shape := ⟨3, ![1, 8, 1024]⟩
abbrev S1x1x1024 : Shape := ⟨3, ![1, 1, 1024]⟩
abbrev S8x1024 : Shape := ⟨2, ![8, 1024]⟩
abbrev S256x1024 : Shape := ⟨2, ![256, 1024]⟩
abbrev S272x1024 : Shape := ⟨2, ![272, 1024]⟩
abbrev S272 : Shape := ⟨1, ![272]⟩
abbrev S272x1 : Shape := ⟨2, ![272, 1]⟩
abbrev S272x3072 : Shape := ⟨2, ![272, 3072]⟩
abbrev S256x3072 : Shape := ⟨2, ![256, 3072]⟩
abbrev S255x3072 : Shape := ⟨2, ![255, 3072]⟩

abbrev nBuf : Space → Nat
  | .hbm => 13
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x3072, .f32⟩
  | .hbm, ⟨5, _⟩ => ⟨S3x3072, .f32⟩
  | .hbm, ⟨6, _⟩ => ⟨S3072, .f32⟩
  | .hbm, ⟨7, _⟩ => ⟨S1024x3072, .bf16⟩
  | .hbm, ⟨8, _⟩ => ⟨S1x1024, .f32⟩
  | .hbm, ⟨9, _⟩ => ⟨S1x3072, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x3072, .bf16⟩
  | .local _ .vmem, ⟨12, _⟩ => ⟨S3x3072, .f32⟩
  | .local _ .vmem, ⟨13, _⟩ => ⟨S1x3072, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference5Ideal.lean ====
abbrev S4x8192x1024 : Shape := ⟨3, ![4, 8192, 1024]⟩
abbrev S4x1x1024 : Shape := ⟨3, ![4, 1, 1024]⟩
abbrev S1024 : Shape := ⟨1, ![1024]⟩
abbrev S1024x3072 : Shape := ⟨2, ![1024, 3072]⟩
abbrev S3x3072 : Shape := ⟨2, ![3, 3072]⟩
abbrev S3072 : Shape := ⟨1, ![3072]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3072 : Shape := ⟨3, ![4, 8192, 3072]⟩
abbrev S4x8194x3072 : Shape := ⟨3, ![4, 8194, 3072]⟩
abbrev S1x3072 : Shape := ⟨2, ![1, 3072]⟩
abbrev S1x1x3072 : Shape := ⟨3, ![1, 1, 3072]⟩

abbrev nBuf : Space → Nat
  | .hbm => 63
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x3072, .f32⟩
  | .hbm, ⟨5, _⟩ => ⟨S3x3072, .f32⟩
  | .hbm, ⟨6, _⟩ => ⟨S3072, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x3072, .f32⟩
  | .hbm, ⟨31, _⟩ => ⟨S_, .i32⟩
  | .hbm, ⟨32, _⟩ => ⟨S_, .f32⟩
  | .hbm, ⟨33, _⟩ => ⟨S4x8194x3072, .f32⟩
  | .hbm, ⟨34, _⟩ => ⟨S4x8192x3072, .f32⟩
  | .hbm, ⟨35, _⟩ => ⟨S1x3072, .f32⟩
  | .hbm, ⟨36, _⟩ => ⟨S3072, .f32⟩
  | .hbm, ⟨37, _⟩ => ⟨S1x1x3072, .f32⟩
  | .hbm, ⟨38, _⟩ => ⟨S4x8192x3072, .f32⟩
  | .hbm, ⟨39, _⟩ => ⟨S4x8192x3072, .f32⟩
  | .hbm, ⟨40, _⟩ => ⟨S_, .f32⟩
  | .hbm, ⟨41, _⟩ => ⟨S4x8192x3072, .f32⟩
  | .hbm, ⟨42, _⟩ => ⟨S4x8192x3072, .f32⟩
  | .hbm, ⟨43, _⟩ => ⟨S4x8192x3072, .f32⟩
  | .hbm, ⟨44, _⟩ => ⟨S1x3072, .f32⟩
  | .hbm, ⟨45, _⟩ => ⟨S3072, .f32⟩
  | .hbm, ⟨46, _⟩ => ⟨S1x1x3072, .f32⟩
  | .hbm, ⟨47, _⟩ => ⟨S4x8192x3072, .f32⟩
  | .hbm, ⟨48, _⟩ => ⟨S4x8192x3072, .f32⟩
  | .hbm, ⟨49, _⟩ => ⟨S4x8192x3072, .f32⟩
  | .hbm, ⟨50, _⟩ => ⟨S4x8192x3072, .f32⟩
  | .hbm, ⟨51, _⟩ => ⟨S1x3072, .f32⟩
  | .hbm, ⟨52, _⟩ => ⟨S3072, .f32⟩
  | .hbm, ⟨53, _⟩ => ⟨S1x1x3072, .f32⟩
  | .hbm, ⟨54, _⟩ => ⟨S4x8192x3072, .f32⟩
  | .hbm, ⟨55, _⟩ => ⟨S4x8192x3072, .f32⟩
  | .hbm, ⟨56, _⟩ => ⟨S4x8192x3072, .f32⟩
  | .hbm, ⟨57, _⟩ => ⟨S1x1x3072, .f32⟩
  | .hbm, ⟨58, _⟩ => ⟨S4x8192x3072, .f32⟩
  | .hbm, ⟨59, _⟩ => ⟨S4x8192x3072, .f32⟩
  | .hbm, ⟨60, _⟩ => ⟨S4x8192x1024, .f32⟩
  | .hbm, ⟨61, _⟩ => ⟨S4x8192x1024, .f32⟩
  | .hbm, ⟨62, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Kernel7.lean ====
abbrev S4x8192x1024 : Shape := ⟨3, ![4, 8192, 1024]⟩
abbrev S4x1x1024 : Shape := ⟨3, ![4, 1, 1024]⟩
abbrev S1024 : Shape := ⟨1, ![1024]⟩
abbrev S1024x3072 : Shape := ⟨2, ![1024, 3072]⟩
abbrev S64 : Shape := ⟨1, ![64]⟩
abbrev S16 : Shape := ⟨1, ![16]⟩
abbrev S16x1 : Shape := ⟨2, ![16, 1]⟩
abbrev S128 : Shape := ⟨1, ![128]⟩
abbrev S1x128 : Shape := ⟨2, ![1, 128]⟩
abbrev S16x128 : Shape := ⟨2, ![16, 128]⟩
abbrev S16x1x128 : Shape := ⟨3, ![16, 1, 128]⟩
abbrev S16x64x128 : Shape := ⟨3, ![16, 64, 128]⟩
abbrev S1024x128 : Shape := ⟨2, ![1024, 128]⟩
abbrev S128x1024 : Shape := ⟨2, ![128, 1024]⟩
abbrev S1x64 : Shape := ⟨2, ![1, 64]⟩
abbrev S16x64 : Shape := ⟨2, ![16, 64]⟩
abbrev S1x1024 : Shape := ⟨2, ![1, 1024]⟩
abbrev S1x256x1024 : Shape := ⟨3, ![1, 256, 1024]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩
abbrev S256x128 : Shape := ⟨2, ![256, 128]⟩

abbrev nBuf : Space → Nat
  | .hbm => 44
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x3072, .f32⟩
  | .hbm, ⟨5, _⟩ => ⟨S64, .f32⟩
  | .hbm, ⟨6, _⟩ => ⟨S64, .f32⟩
  | .hbm, ⟨7, _⟩ => ⟨S1024x3072, .bf16⟩
  | .hbm, ⟨8, _⟩ => ⟨S16, .i32⟩
  | .hbm, ⟨9, _⟩ => ⟨S16x1, .i32⟩
  | .hbm, ⟨10, _⟩ => ⟨S128, .i32⟩
  | .hbm, ⟨11, _⟩ => ⟨S1x128, .i32⟩
  | .hbm, ⟨12, _⟩ => ⟨S16x128, .i32⟩
  | .hbm, ⟨13, _⟩ => ⟨S16x128, .i32⟩
  | .hbm, ⟨14, _⟩ => ⟨S16x128, .i1⟩
  | .hbm, ⟨15, _⟩ => ⟨S16x128, .bf16⟩
  | .hbm, ⟨16, _⟩ => ⟨S16x1x128, .bf16⟩
  | .hbm, ⟨17, _⟩ => ⟨S16x64x128, .bf16⟩
  | .hbm, ⟨18, _⟩ => ⟨S1024x128, .bf16⟩
  | .hbm, ⟨19, _⟩ => ⟨S128x1024, .bf16⟩
  | .hbm, ⟨20, _⟩ => ⟨S16, .i32⟩
  | .hbm, ⟨21, _⟩ => ⟨S16x1, .i32⟩
  | .hbm, ⟨22, _⟩ => ⟨S128, .i32⟩
  | .hbm, ⟨23, _⟩ => ⟨S1x128, .i32⟩
  | .hbm, ⟨24, _⟩ => ⟨S16x128, .i32⟩
  | .hbm, ⟨25, _⟩ => ⟨S16x128, .i32⟩
  | .hbm, ⟨26, _⟩ => ⟨S16x128, .i1⟩
  | .hbm, ⟨27, _⟩ => ⟨S16x128, .bf16⟩
  | .hbm, ⟨28, _⟩ => ⟨S16x1x128, .bf16⟩
  | .hbm, ⟨29, _⟩ => ⟨S16x64x128, .bf16⟩
  | .hbm, ⟨30, _⟩ => ⟨S1024x128, .bf16⟩
  | .hbm, ⟨31, _⟩ => ⟨S128x1024, .bf16⟩
  | .hbm, ⟨32, _⟩ => ⟨S1x64, .f32⟩
  | .hbm, ⟨33, _⟩ => ⟨S16x64, .f32⟩
  | .hbm, ⟨34, _⟩ => ⟨S1024, .f32⟩
  | .hbm, ⟨35, _⟩ => ⟨S1x1024, .f32⟩
  | .hbm, ⟨36, _⟩ => ⟨S1x64, .f32⟩
  | .hbm, ⟨37, _⟩ => ⟨S16x64, .f32⟩
  | .hbm, ⟨38, _⟩ => ⟨S1024, .f32⟩
  | .hbm, ⟨39, _⟩ => ⟨S1x1024, .f32⟩
  | .hbm, ⟨40, _⟩ => ⟨S1x1024, .f32⟩
  | .hbm, ⟨41, _⟩ => ⟨S4x8192x1024, .bf16⟩
  | .hbm, ⟨42, _⟩ => ⟨S4x8192x1024, .bf16⟩
  | .hbm, ⟨43, _⟩ => ⟨S4x8192x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3072, .bf16⟩
  | .local _ .vmem, ⟨8, _⟩ => ⟨S1x1024, .f32⟩
  | .local _ .vmem, ⟨9, _⟩ => ⟨S1x1024, .f32⟩
  | .local _ .vmem, ⟨10, _⟩ => ⟨S1024x128, .bf16⟩
  | .local _ .vmem, ⟨11, _⟩ => ⟨S128x1024, .bf16⟩
  | .local _ .vmem, ⟨12, _⟩ => ⟨S1024x128, .bf16⟩
  | .local _ .vmem, ⟨13, _⟩ => ⟨S128x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34_0 : Ref sig .tc := ⟨.hbm, 41, rfl⟩
abbrev main_v34_1 : Ref sig .tc := ⟨.hbm, 42, rfl⟩
abbrev main_v34_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference7Ideal.lean ====
abbrev S4x8192x1024 : Shape := ⟨3, ![4, 8192, 1024]⟩
abbrev S4x1x1024 : Shape := ⟨3, ![4, 1, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3072 : Shape := ⟨3, ![4, 8192, 3072]⟩
abbrev S4x8192x16x64 : Shape := ⟨4, ![4, 8192, 16, 64]⟩
abbrev S4x8192x16 : Shape := ⟨3, ![4, 8192, 16]⟩
abbrev S4x8192x16x1 : Shape := ⟨4, ![4, 8192, 16, 1]⟩
abbrev S1x1x1x64 : Shape := ⟨4, ![1, 1, 1, 64]⟩

abbrev nBuf : Space → Nat
  | .hbm => 76
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x3072, .f32⟩
  | .hbm, ⟨5, _⟩ => ⟨S64, .f32⟩
  | .hbm, ⟨6, _⟩ => ⟨S64, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x3072, .f32⟩
  | .hbm, ⟨31, _⟩ => ⟨S4x8192x1024, .f32⟩
  | .hbm, ⟨32, _⟩ => ⟨S4x8192x16x64, .f32⟩
  | .hbm, ⟨33, _⟩ => ⟨S4x8192x16x64, .f32⟩
  | .hbm, ⟨34, _⟩ => ⟨S_, .f32⟩
  | .hbm, ⟨35, _⟩ => ⟨S4x8192x16, .f32⟩
  | .hbm, ⟨36, _⟩ => ⟨S4x8192x16x1, .f32⟩
  | .hbm, ⟨37, _⟩ => ⟨S_, .f32⟩
  | .hbm, ⟨38, _⟩ => ⟨S4x8192x16x1, .f32⟩
  | .hbm, ⟨39, _⟩ => ⟨S4x8192x16x1, .f32⟩
  | .hbm, ⟨40, _⟩ => ⟨S_, .f32⟩
  | .hbm, ⟨41, _⟩ => ⟨S4x8192x16x1, .f32⟩
  | .hbm, ⟨42, _⟩ => ⟨S4x8192x16x1, .f32⟩
  | .hbm, ⟨43, _⟩ => ⟨S4x8192x16x1, .f32⟩
  | .hbm, ⟨44, _⟩ => ⟨S4x8192x16x64, .f32⟩
  | .hbm, ⟨45, _⟩ => ⟨S4x8192x16x64, .f32⟩
  | .hbm, ⟨46, _⟩ => ⟨S1x1x1x64, .f32⟩
  | .hbm, ⟨47, _⟩ => ⟨S4x8192x16x64, .f32⟩
  | .hbm, ⟨48, _⟩ => ⟨S4x8192x16x64, .f32⟩
  | .hbm, ⟨49, _⟩ => ⟨S4x8192x1024, .f32⟩
  | .hbm, ⟨50, _⟩ => ⟨S4x8192x16x64, .f32⟩
  | .hbm, ⟨51, _⟩ => ⟨S4x8192x16x64, .f32⟩
  | .hbm, ⟨52, _⟩ => ⟨S_, .f32⟩
  | .hbm, ⟨53, _⟩ => ⟨S4x8192x16, .f32⟩
  | .hbm, ⟨54, _⟩ => ⟨S4x8192x16x1, .f32⟩
  | .hbm, ⟨55, _⟩ => ⟨S_, .f32⟩
  | .hbm, ⟨56, _⟩ => ⟨S4x8192x16x1, .f32⟩
  | .hbm, ⟨57, _⟩ => ⟨S4x8192x16x1, .f32⟩
  | .hbm, ⟨58, _⟩ => ⟨S_, .f32⟩
  | .hbm, ⟨59, _⟩ => ⟨S4x8192x16x1, .f32⟩
  | .hbm, ⟨60, _⟩ => ⟨S4x8192x16x1, .f32⟩
  | .hbm, ⟨61, _⟩ => ⟨S4x8192x16x1, .f32⟩
  | .hbm, ⟨62, _⟩ => ⟨S4x8192x16x64, .f32⟩
  | .hbm, ⟨63, _⟩ => ⟨S4x8192x16x64, .f32⟩
  | .hbm, ⟨64, _⟩ => ⟨S1x1x1x64, .f32⟩
  | .hbm, ⟨65, _⟩ => ⟨S4x8192x16x64, .f32⟩
  | .hbm, ⟨66, _⟩ => ⟨S4x8192x16x64, .f32⟩
  | .hbm, ⟨67, _⟩ => ⟨S_, .f32⟩
  | .hbm, ⟨68, _⟩ => ⟨S4x8192x16x64, .f32⟩
  | .hbm, ⟨69, _⟩ => ⟨S4x8192x16x64, .f32⟩
  | .hbm, ⟨70, _⟩ => ⟨S4x8192x1024, .f32⟩
  | .hbm, ⟨71, _⟩ => ⟨S4x8192x1024, .bf16⟩
  | .hbm, ⟨72, _⟩ => ⟨S4x8192x1024, .f32⟩
  | .hbm, ⟨73, _⟩ => ⟨S4x8192x1024, .bf16⟩
  | .hbm, ⟨74, _⟩ => ⟨S4x8192x1024, .f32⟩
  | .hbm, ⟨75, _⟩ => ⟨S4x8192x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== Kernel8.lean ====
abbrev S4x8192x1024 : Shape := ⟨3, ![4, 8192, 1024]⟩
abbrev S1024x1024 : Shape := ⟨2, ![1024, 1024]⟩
abbrev S4x1x1024 : Shape := ⟨3, ![4, 1, 1024]⟩
abbrev S1024 : Shape := ⟨1, ![1024]⟩
abbrev S1024x16 : Shape := ⟨2, ![1024, 16]⟩
abbrev S16x1024 : Shape := ⟨2, ![16, 1024]⟩
abbrev S_ : Shape := ⟨0, ![]⟩
abbrev S33792x1024 : Shape := ⟨2, ![33792, 1024]⟩
abbrev S1x1024 : Shape := ⟨2, ![1, 1024]⟩
abbrev S4x16x8192 : Shape := ⟨3, ![4, 16, 8192]⟩
abbrev S1x512x1024 : Shape := ⟨3, ![1, 512, 1024]⟩
abbrev S1x1x1024 : Shape := ⟨3, ![1, 1, 1024]⟩
abbrev S512x1024 : Shape := ⟨2, ![512, 1024]⟩
abbrev S1x16x512 : Shape := ⟨3, ![1, 16, 512]⟩
abbrev S512 : Shape := ⟨1, ![512]⟩
abbrev S512x1 : Shape := ⟨2, ![512, 1]⟩
abbrev S16x512 : Shape := ⟨2, ![16, 512]⟩
abbrev S1x512 : Shape := ⟨2, ![1, 512]⟩

abbrev nBuf : Space → Nat
  | .hbm => 16
  | .vmem => 19
  | .smem => 0
  | _ => 0

abbrev bufTy : (tb : Table) → Fin (tcTables nBuf tb) → BufTy
  | .hbm, ⟨0, _⟩ => ⟨S4x8192x1024, .bf16⟩
  | .hbm, ⟨1, _⟩ => ⟨S1024x1024, .f32⟩
  | .hbm, ⟨2, _⟩ => ⟨S4x8192x1024, .f32⟩
  | .hbm, ⟨3, _⟩ => ⟨S4x1x1024, .f32⟩
  | .hbm, ⟨4, _⟩ => ⟨S1024, .f32⟩
  | .hbm, ⟨5, _⟩ => ⟨S4x1x1024, .f32⟩
  | .hbm, ⟨6, _⟩ => ⟨S4x1x1024, .f32⟩
  | .hbm, ⟨7, _⟩ => ⟨S1024x16, .f32⟩
  | .hbm, ⟨8, _⟩ => ⟨S1024x1024, .bf16⟩
  | .hbm, ⟨9, _⟩ => ⟨S16x1024, .f32⟩
  | .hbm, ⟨10, _⟩ => ⟨S_, .bf16⟩
  | .hbm, ⟨11, _⟩ => ⟨S33792x1024, .bf16⟩
  | .hbm, ⟨12, _⟩ => ⟨S1x1024, .f32⟩
  | .hbm, ⟨13, _⟩ => ⟨S4x8192x1024, .f32⟩
  | .hbm, ⟨14, _⟩ => ⟨S33792x1024, .bf16⟩
  | .hbm, ⟨15, _⟩ => ⟨S4x16x8192, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S16x1024, .f32⟩
  | .local _ .vmem, ⟨13, _⟩ => ⟨S1x512x1024, .f32⟩
  | .local _ .vmem, ⟨14, _⟩ => ⟨S1x512x1024, .f32⟩
  | .local _ .vmem, ⟨15, _⟩ => ⟨S512x1024, .bf16⟩
  | .local _ .vmem, ⟨16, _⟩ => ⟨S512x1024, .bf16⟩
  | .local _ .vmem, ⟨17, _⟩ => ⟨S1x16x512, .f32⟩
  | .local _ .vmem, ⟨18, _⟩ => ⟨S1x16x512, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference8Ideal.lean ====
abbrev S4x8192x1024 : Shape := ⟨3, ![4, 8192, 1024]⟩
abbrev S1024x1024 : Shape := ⟨2, ![1024, 1024]⟩
abbrev S4x1x1024 : Shape := ⟨3, ![4, 1, 1024]⟩
abbrev S1024 : Shape := ⟨1, ![1024]⟩
abbrev S1024x16 : Shape := ⟨2, ![1024, 16]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x16 : Shape := ⟨3, ![4, 8192, 16]⟩
abbrev S32768x1024 : Shape := ⟨2, ![32768, 1024]⟩
abbrev S33792x1024 : Shape := ⟨2, ![33792, 1024]⟩
abbrev S4x16x8192 : Shape := ⟨3, ![4, 16, 8192]⟩

abbrev nBuf : Space → Nat
  | .hbm => 57
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S1024x1024, .f32⟩
  | .hbm, ⟨2, _⟩ => ⟨S4x8192x1024, .f32⟩
  | .hbm, ⟨3, _⟩ => ⟨S4x1x1024, .f32⟩
  | .hbm, ⟨4, _⟩ => ⟨S1024, .f32⟩
  | .hbm, ⟨5, _⟩ => ⟨S4x1x1024, .f32⟩
  | .hbm, ⟨6, _⟩ => ⟨S4x1x1024, .f32⟩
  | .hbm, ⟨7, _⟩ => ⟨S1024x16, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x16, .f32⟩
  | .hbm, ⟨37, _⟩ => ⟨S_, .f32⟩
  | .hbm, ⟨38, _⟩ => ⟨S4x8192, .f32⟩
  | .hbm, ⟨39, _⟩ => ⟨S_, .f32⟩
  | .hbm, ⟨40, _⟩ => ⟨S4x8192, .f32⟩
  | .hbm, ⟨41, _⟩ => ⟨S4x8192, .f32⟩
  | .hbm, ⟨42, _⟩ => ⟨S4x8192x1, .f32⟩
  | .hbm, ⟨43, _⟩ => ⟨S4x8192x16, .f32⟩
  | .hbm, ⟨44, _⟩ => ⟨S4x8192x16, .f32⟩
  | .hbm, ⟨45, _⟩ => ⟨S4x8192x16, .f32⟩
  | .hbm, ⟨46, _⟩ => ⟨S_, .f32⟩
  | .hbm, ⟨47, _⟩ => ⟨S4x8192, .f32⟩
  | .hbm, ⟨48, _⟩ => ⟨S4x8192x1, .f32⟩
  | .hbm, ⟨49, _⟩ => ⟨S4x8192x16, .f32⟩
  | .hbm, ⟨50, _⟩ => ⟨S4x8192x16, .f32⟩
  | .hbm, ⟨51, _⟩ => ⟨S32768x1024, .f32⟩
  | .hbm, ⟨52, _⟩ => ⟨S_, .f32⟩
  | .hbm, ⟨53, _⟩ => ⟨S1024x1024, .f32⟩
  | .hbm, ⟨54, _⟩ => ⟨S33792x1024, .f32⟩
  | .hbm, ⟨55, _⟩ => ⟨S33792x1024, .bf16⟩
  | .hbm, ⟨56, _⟩ => ⟨S4x16x8192, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Proof.ExpertCase.lean ====
/-
  The expert feed-forward kernel, one grid point at a time: what a point of either parity leaves behind, as the value
  its body stores. The grid's last axis halves the hidden layer. At its first half the point writes the half's product
  into the scratch; at its second it adds the other half's product, multiplies by the gates and writes the output block.
-/
module

public import proofs.«01_k».proof.Proof.Gen.Kernel2Ideal.Value
public import Idealize.ShloMosaic.Lib.Tactic

@[expose] public section

set_option maxRecDepth 16384

noncomputable section

namespace Cert.Kernel2Ideal.Expert

open Cert.Kernel2Ideal Cert.Kernel2Ideal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A point of the first half leaves, in the scratch, the product of that half of the hidden layer. -/
theorem scratch_first (c : Dev nD) (i : grid0.Coords) (arg3 : Memref sig .tc .vmem S1x1056x1024 .bf16) (harg3 : arg3.IsWhole) (arg4 : Memref sig .tc .vmem S1x1x1024x1024 .f32) (harg4 : arg4.IsWhole)
    (arg5 : Memref sig .tc .vmem S1x1x1024x1024 .f32) (harg5 : arg5.IsWhole) (arg6 : Memref sig .tc .vmem S1x1x1024x1024 .f32) (harg6 : arg6.IsWhole) (arg7 : Memref sig .tc .vmem S1x1056x1 .f32) (harg7 : arg7.IsWhole)
    (arg8 : Memref sig .tc .vmem S1x1056x1024 .bf16) (harg8 : arg8.IsWhole) (arg9 : Memref sig .tc .vmem S1056x1024 .f32) (harg9 : arg9.IsWhole)
    (hc0 : cond0_0 i) (hc1 : ¬cond0_1 i) (hc2 : ¬cond0_2 i) (x0 : Vec F S1x1056x1024 .bf16) (x1 x2 x3 : Vec F S1x1x1024x1024 .f32) (x4 : Vec F S1x1056x1 .f32) :
    sout0_A_0 c i arg3 harg3 arg4 harg4 arg5 harg5 arg6 harg6 arg7 harg7 arg8 harg8 arg9 harg9 hc0 hc1 hc2 x0 x1 x2 x3 x4 = k0_pay2 x0 x1 x2 x3 := by
  unfold sout0_A_0
  rw [View.read_writes_eq_canon _ _ _ (scover0_A_0 c i arg3 harg3 arg4 harg4 arg5 harg5 arg6 harg6 arg7 harg7 arg8 harg8 arg9 harg9 hc0 hc1 hc2 x0 x1 x2 x3 x4)]
  unfold kernelRun0_A
  dsimp only
  rw [View.canon_unit_zero hz2]
  unfold k0_pay3
  simp only [View.readAt_eq_ld, harg3.read_unread, harg4.read_unread, harg5.read_unread, harg6.read_unread,
    View.ld_unit_zero (S := S1x1056x1024) hz3, View.ld_unit_zero (S := S1x1x1024x1024) hz4, shapeCast_self]

/-- A point of the second half leaves, in the output block, the sum of what the scratch held and this half's product,
    times the gates. -/
theorem out_second (c : Dev nD) (i : grid0.Coords) (arg3 : Memref sig .tc .vmem S1x1056x1024 .bf16) (harg3 : arg3.IsWhole) (arg4 : Memref sig .tc .vmem S1x1x1024x1024 .f32) (harg4 : arg4.IsWhole)
    (arg5 : Memref sig .tc .vmem S1x1x1024x1024 .f32) (harg5 : arg5.IsWhole) (arg6 : Memref sig .tc .vmem S1x1x1024x1024 .f32) (harg6 : arg6.IsWhole) (arg7 : Memref sig .tc .vmem S1x1056x1 .f32) (harg7 : arg7.IsWhole)
    (arg8 : Memref sig .tc .vmem S1x1056x1024 .bf16) (harg8 : arg8.IsWhole) (arg9 : Memref sig .tc .vmem S1056x1024 .f32) (harg9 : arg9.IsWhole)
    (hc0 : ¬cond0_0 i) (hc1 : cond0_1 i) (hc2 : cond0_2 i) (x0 : Vec F S1x1056x1024 .bf16) (x1 x2 x3 : Vec F S1x1x1024x1024 .f32) (x4 : Vec F S1x1056x1 .f32) (xs0 : Vec F S1056x1024 .f32) :
    out0_B_5 c i arg3 harg3 arg4 harg4 arg5 harg5 arg6 harg6 arg7 harg7 arg8 harg8 arg9 harg9 hc0 hc1 hc2 x0 x1 x2 x3 x4 xs0 = k0_pay1 (addf xs0 (k0_pay2 x0 x1 x2 x3)) x4 := by
  unfold out0_B_5
  rw [View.read_writes_eq_canon _ _ _ (cover0_B_5 c i arg3 harg3 arg4 harg4 arg5 harg5 arg6 harg6 arg7 harg7 arg8 harg8 arg9 harg9 hc0 hc1 hc2 x0 x1 x2 x3 x4 xs0)]
  unfold kernelRun0_B
  dsimp only
  sl_unfold_words
  rw [View.canon_unit_zero hz3, View.readCov_unit_zero (S := S1056x1024) _ hz2]
  unfold k0_pay4
  simp only [View.readAt_eq_ld, harg3.read_unread, harg4.read_unread, harg5.read_unread, harg6.read_unread, harg7.read_unread, harg9.read_unread,
    View.ld_unit_zero (S := S1x1056x1024) hz3, View.ld_unit_zero (S := S1x1056x1) hz3, View.ld_unit_zero (S := S1x1x1024x1024) hz4,
    View.ld_unit_zero (S := S1056x1024) hz2, shapeCast_self]

variable (m : (ℓ : Loc nD τ sig) → Buf (Elt F) ℓ)

/-- At an odd point, the output block: both halves' products of the point's expert and rows, added, times the gates. -/
theorem outs_odd (c : Dev nD) (t s : Fin cfg0.N) (ht : t.val % 2 = 1) (hs : s.val = t.val - 1) :
    (outsAt0 m c t.val t.isLt).1
      = k0_pay1 (addf (k0_pay2 (iblk m c 0 s) (iblk m c 1 s) (iblk m c 2 s) (iblk m c 3 s))
          (k0_pay2 (iblk m c 0 t) (iblk m c 1 t) (iblk m c 2 t) (iblk m c 3 t))) (iblk m c 4 t) := by
  obtain ⟨s, hsl⟩ := s
  dsimp only at hs
  subst hs
  rw [outsAt0_B m c t (by omega) ht ht]
  dsimp only
  rw [out_second]
  have h0 : (⟨t.val - 1, hsl⟩ : Fin cfg0.N).val % 2 = 0 := by dsimp only; omega
  have h1 : ¬(⟨t.val - 1, hsl⟩ : Fin cfg0.N).val % 2 = 1 := by dsimp only; omega
  have e := congrArg Prod.snd (outsAt0_A m c ⟨t.val - 1, hsl⟩ h0 h1 h1)
  rw [scratch_first] at e
  rw [e]

end Cert.Kernel2Ideal.Expert

end
-- ==== Proof.ExpertPay.lean ====
/-
  One half of the expert feed-forward at an index: a sum over that half's 1024 hidden units of the gated activation
  times the down weight.
-/
module

public import proofs.«01_k».proof.Proof.Gen.Kernel2Ideal.Skeleton
public import Idealize.ShloMosaic.Lib.Pointwise
public import Idealize.ShloMosaic.Lib.Tactic

@[expose] public section

set_option maxRecDepth 16384

noncomputable section

namespace Cert.Kernel2Ideal.Expert

open Cert.Kernel2Ideal Cert.Kernel2Ideal.Gen Idealize.ShloMosaic

/-- The gated activation of a hidden unit: `a · 1 / (1 + exp(−a)) · b`. -/
def gated (a b : EReal) : EReal := a * Ideal.div 1 (1 + Ideal.exp (-a)) * b

/-- Half the hidden layer of a block of rows, at a row and an output column. -/
theorem half_apply (v0 : Vec Ideal S1x1056x1024 .bf16) (v2 v6 v20 : Vec Ideal S1x1x1024x1024 .f32) (r : Fin 1056) (d : Fin 1024) :
    k0_pay2 v0 v2 v6 v20 (ix2 r d)
      = ∑ k : Fin 1024, gated (∑ j : Fin 1024, v0 (ix3 0 r j) * v2 (ix4 0 0 j k)) (∑ j : Fin 1024, v0 (ix3 0 r j) * v6 (ix4 0 0 j k)) * v20 (ix4 0 0 k d) := by
  pointwise [k0_pay2, gated, zero_sub]

/-- The output block at an index: the accumulated row times its gate. -/
theorem gate_apply (v33 : Vec Ideal S1056x1024 .f32) (v34 : Vec Ideal S1x1056x1 .f32) (r : Fin 1056) (d : Fin 1024) :
    k0_pay1 v33 v34 (ix3 0 r d) = v33 (ix2 r d) * v34 (ix3 0 r 0) := by
  pointwise [k0_pay1]

end Cert.Kernel2Ideal.Expert

end
-- ==== Proof.ExpertRef.lean ====
/-
  The plain expert feed-forward at an index: the sum over all 2048 hidden units, times the gate.
-/
module

public import proofs.«01_k».proof.Proof.Gen.Reference2Ideal.Read
public import proofs.«01_k».proof.Proof.ExpertPay

@[expose] public section

set_option maxRecDepth 16384

noncomputable section

namespace Cert.Reference2Ideal.Expert

open Cert.Reference2Ideal Cert.Reference2Ideal.Read Idealize.ShloMosaic
open Cert.Kernel2Ideal.Expert (gated)

/-- Token `p` of expert `e`, output column `d`. -/
theorem ref_apply (x0 : (⟨S33792x1024, .bf16⟩ : BufTy).Contents (Elt Ideal)) (x1 : (⟨S16x4224, .i32⟩ : BufTy).Contents (Elt Ideal))
    (x2 : (⟨S16x4224, .f32⟩ : BufTy).Contents (Elt Ideal)) (x3 x4 : (⟨S4x16x1024x2048, .f32⟩ : BufTy).Contents (Elt Ideal))
    (x5 : (⟨S4x16x2048x1024, .f32⟩ : BufTy).Contents (Elt Ideal)) (e : Fin 16) (p : Fin 4224) (d : Fin 1024) :
    val_main_v22 (F := Ideal) x0 x1 x2 x3 x4 x5 (ix3 e p d)
      = (∑ k : Fin 2048, gated (∑ j : Fin 1024, val_main_v7 (F := Ideal) x0 x1 (ix3 e p j) * x3 (ix4 0 e j k))
          (∑ j : Fin 1024, val_main_v7 (F := Ideal) x0 x1 (ix3 e p j) * x4 (ix4 0 e j k)) * x5 (ix4 0 e k d)) * x2 (ix2 e p) := by
  pointwise [val_main_v22, val_main_v21, val_main_v20, val_main_v19, val_main_v18, val_main_v17, val_main_v16, val_main_v15, val_main_v14,
    val_main_v13, val_main_v12, val_main_v11, val_main_v10, val_main_v9, val_main_v8,
    val_main_call0_v0, val_main_call0_v1, val_main_call0_cst, val_main_call0_v2, val_main_call0_v3, val_main_call0_cst_0, val_main_call0_v4, val_main_call0_v5, gated]

end Cert.Reference2Ideal.Expert

end
-- ==== Proof.ExpertValue.lean ====
/-
  The expert feed-forward's value claim. The kernel splits the hidden layer in two and a list of tokens in four; the
  plain reference does neither. Both are, at expert `e`, token `p` and column `d`, one sum over 2048 hidden units.
-/
module

public import proofs.«01_k».proof.Defs
public import proofs.«01_k».proof.Proof.ExpertCase
public import proofs.«01_k».proof.Proof.ExpertPay
public import proofs.«01_k».proof.Proof.ExpertRef
public import proofs.«01_k».proof.Proof.Gen.Reference2Ideal.Run

@[expose] public section

set_option maxRecDepth 16384

noncomputable section

namespace Cert.Kernel2Ideal.Expert

open Cert.Kernel2Ideal Cert.Kernel2Ideal.Gen Idealize.ShloMosaic Idealize.ShloMosaic.TcCoe Idealize.SL.Sem

variable (m : (ℓ : Loc nD τ sig) → Buf (Elt Ideal) ℓ)

/-- The gathered rows the launch finds are the reference's gathered rows. -/
theorem rows_eq (c : Dev nD) : (V m c main_v6 : S16x4224x1024.Idx → EReal)
    = Cert.Reference2Ideal.Read.val_main_v7 (F := Ideal) (m ((c : Thread nD τ).loc main_arg0)) (m ((c : Thread nD τ).loc main_arg1)) := by
  show StableHlo.after hostOps0 _ _ = _
  after_results_simp
  rfl

/-- The gates the launch finds, at an index. -/
theorem gates_eq (c : Dev nD) (e : Fin 16) (p : Fin 4224) :
    (V m c main_v7 : S16x4224x1.Idx → EReal) (ix3 e p 0) = m ((c : Thread nD τ).loc main_arg2) (ix2 e p) := by
  show StableHlo.after hostOps0 _ _ _ = _
  after_results_simp
  pointwise

theorem index_0 : ∀ t : Fin cfg0.N, win0_0.index t = ![t.val / 8, t.val / 2 % 4, 0] := (by decide +kernel : ∀ t : Fin grid0.N, _)
theorem index_1 : ∀ t : Fin cfg0.N, win0_1.index t = ![0, t.val / 8, 0, t.val % 2] := (by decide +kernel : ∀ t : Fin grid0.N, _)
theorem index_2 : ∀ t : Fin cfg0.N, win0_2.index t = ![0, t.val / 8, 0, t.val % 2] := (by decide +kernel : ∀ t : Fin grid0.N, _)
theorem index_3 : ∀ t : Fin cfg0.N, win0_3.index t = ![0, t.val / 8, t.val % 2, 0] := (by decide +kernel : ∀ t : Fin grid0.N, _)
theorem index_4 : ∀ t : Fin cfg0.N, win0_4.index t = ![t.val / 8, t.val / 2 % 4, 0] := (by decide +kernel : ∀ t : Fin grid0.N, _)

/-- An index of a block times the block's extent, plus the place in the block. -/
theorem place {q n ext r v : ℕ} (h : q = n) (hv : n * ext + r = v) : q * ext + 1 * r = v := by subst h; omega

/-- The rows' block at point `t`: the expert's tokens. -/
theorem read_0 (t : Fin cfg0.N) (A : S16x4224x1024.Idx → EReal) (e : Fin 16) (p : Fin 4224) (r : Fin 1056) (j : Fin 1024)
    (he : t.val / 8 = e.val) (hp : t.val / 2 % 4 * 1056 + r.val = p.val) :
    ((cfg0.win 0).blk t).view.read (Elt Ideal) A (ix3 0 r j) = A (ix3 e p j) := by
  rw [View.read_apply]
  refine congrArg A (funext fun a => Fin.ext ?_)
  match a with
  | ⟨0, _⟩ => exact place (congrFun (index_0 t) 0) ((Nat.mul_one _).trans he)
  | ⟨1, _⟩ => exact place (congrFun (index_0 t) 1) hp
  | ⟨2, _⟩ => exact place (congrFun (index_0 t) 2) ((congrArg (· + j.val) (Nat.zero_mul 1024)).trans (Nat.zero_add _))

/-- Weight window 1's block at point `t`: half the expert's hidden columns. -/
theorem read_1 (t : Fin cfg0.N) (A : S4x16x1024x2048.Idx → EReal) (e : Fin 16) (j : Fin 1024) (k : Fin 1024) (k' : Fin 2048)
    (he : t.val / 8 = e.val) (hk : t.val % 2 * 1024 + k.val = k'.val) :
    ((cfg0.win 1).blk t).view.read (Elt Ideal) A (ix4 0 0 j k) = A (ix4 0 e j k') := by
  rw [View.read_apply]
  refine congrArg A (funext fun a => Fin.ext ?_)
  match a with
  | ⟨0, _⟩ => exact place (congrFun (index_1 t) 0) rfl
  | ⟨1, _⟩ => exact place (congrFun (index_1 t) 1) ((Nat.mul_one _).trans he)
  | ⟨2, _⟩ => exact place (congrFun (index_1 t) 2) ((congrArg (· + j.val) (Nat.zero_mul 1024)).trans (Nat.zero_add _))
  | ⟨3, _⟩ => exact place (congrFun (index_1 t) 3) hk

/-- Weight window 2's block at point `t`: half the expert's hidden columns. -/
theorem read_2 (t : Fin cfg0.N) (A : S4x16x1024x2048.Idx → EReal) (e : Fin 16) (j : Fin 1024) (k : Fin 1024) (k' : Fin 2048)
    (he : t.val / 8 = e.val) (hk : t.val % 2 * 1024 + k.val = k'.val) :
    ((cfg0.win 2).blk t).view.read (Elt Ideal) A (ix4 0 0 j k) = A (ix4 0 e j k') := by
  rw [View.read_apply]
  refine congrArg A (funext fun a => Fin.ext ?_)
  match a with
  | ⟨0, _⟩ => exact place (congrFun (index_2 t) 0) rfl
  | ⟨1, _⟩ => exact place (congrFun (index_2 t) 1) ((Nat.mul_one _).trans he)
  | ⟨2, _⟩ => exact place (congrFun (index_2 t) 2) ((congrArg (· + j.val) (Nat.zero_mul 1024)).trans (Nat.zero_add _))
  | ⟨3, _⟩ => exact place (congrFun (index_2 t) 3) hk

/-- The down weight's block at point `t`: half the expert's hidden rows. -/
theorem read_3 (t : Fin cfg0.N) (A : S4x16x2048x1024.Idx → EReal) (e : Fin 16) (k : Fin 1024) (k' : Fin 2048) (d : Fin 1024)
    (he : t.val / 8 = e.val) (hk : t.val % 2 * 1024 + k.val = k'.val) :
    ((cfg0.win 3).blk t).view.read (Elt Ideal) A (ix4 0 0 k d) = A (ix4 0 e k' d) := by
  rw [View.read_apply]
  refine congrArg A (funext fun a => Fin.ext ?_)
  match a with
  | ⟨0, _⟩ => exact place (congrFun (index_3 t) 0) rfl
  | ⟨1, _⟩ => exact place (congrFun (index_3 t) 1) ((Nat.mul_one _).trans he)
  | ⟨2, _⟩ => exact place (congrFun (index_3 t) 2) hk
  | ⟨3, _⟩ => exact place (congrFun (index_3 t) 3) ((congrArg (· + d.val) (Nat.zero_mul 1024)).trans (Nat.zero_add _))

/-- The gates' block at point `t`. -/
theorem read_4 (t : Fin cfg0.N) (A : S16x4224x1.Idx → EReal) (e : Fin 16) (p : Fin 4224) (r : Fin 1056)
    (he : t.val / 8 = e.val) (hp : t.val / 2 % 4 * 1056 + r.val = p.val) :
    ((cfg0.win 4).blk t).view.read (Elt Ideal) A (ix3 0 r 0) = A (ix3 e p 0) := by
  rw [View.read_apply]
  refine congrArg A (funext fun a => Fin.ext ?_)
  match a with
  | ⟨0, _⟩ => exact place (congrFun (index_4 t) 0) ((Nat.mul_one _).trans he)
  | ⟨1, _⟩ => exact place (congrFun (index_4 t) 1) hp
  | ⟨2, _⟩ => exact place (congrFun (index_4 t) 2) rfl

/-! The arrays the launch reads. -/

/-- The gathered rows. -/
def rows (c : Dev nD) : S16x4224x1024.Idx → EReal := V m c main_v6
/-- The gates, one column. -/
def gates (c : Dev nD) : S16x4224x1.Idx → EReal := V m c main_v7
/-- The first weight. -/
def weightA (c : Dev nD) : S4x16x1024x2048.Idx → EReal := m ((c : Thread nD τ).loc main_arg3)
/-- The second weight. -/
def weightB (c : Dev nD) : S4x16x1024x2048.Idx → EReal := m ((c : Thread nD τ).loc main_arg4)
/-- The down weight. -/
def weightD (c : Dev nD) : S4x16x2048x1024.Idx → EReal := m ((c : Thread nD τ).loc main_arg5)

theorem block_0 (c : Dev nD) (t : Fin cfg0.N) : iblk m c 0 t = ((cfg0.win 0).blk t).view.read (Elt Ideal) (rows m c) := rfl
theorem block_1 (c : Dev nD) (t : Fin cfg0.N) : iblk m c 1 t = ((cfg0.win 1).blk t).view.read (Elt Ideal) (weightA m c) := by
  unfold weightA; rw [← V_main_arg3 m c]; rfl
theorem block_2 (c : Dev nD) (t : Fin cfg0.N) : iblk m c 2 t = ((cfg0.win 2).blk t).view.read (Elt Ideal) (weightB m c) := by
  unfold weightB; rw [← V_main_arg4 m c]; rfl
theorem block_3 (c : Dev nD) (t : Fin cfg0.N) : iblk m c 3 t = ((cfg0.win 3).blk t).view.read (Elt Ideal) (weightD m c) := by
  unfold weightD; rw [← V_main_arg5 m c]; rfl
theorem block_4 (c : Dev nD) (t : Fin cfg0.N) : iblk m c 4 t = ((cfg0.win 4).blk t).view.read (Elt Ideal) (gates m c) := rfl

/-- Hidden unit `k` of expert `e` at token `p`, times its down weight to column `d`. -/
def unit (x : S16x4224x1024.Idx → EReal) (wa wb : S4x16x1024x2048.Idx → EReal) (wd : S4x16x2048x1024.Idx → EReal)
    (e : Fin 16) (p : Fin 4224) (d : Fin 1024) (k : Fin 2048) : EReal :=
  gated (∑ j : Fin 1024, x (ix3 e p j) * wa (ix4 0 e j k)) (∑ j : Fin 1024, x (ix3 e p j) * wb (ix4 0 e j k)) * wd (ix4 0 e k d)

/-- One point's half of the hidden layer, at a row and a column. -/
theorem half_eq (c : Dev nD) (t : Fin cfg0.N) (e : Fin 16) (p : Fin 4224) (r : Fin 1056) (d : Fin 1024) (h : Fin 1024 → Fin 2048)
    (he : t.val / 8 = e.val) (hp : t.val / 2 % 4 * 1056 + r.val = p.val) (hk : ∀ k : Fin 1024, t.val % 2 * 1024 + k.val = (h k).val) :
    (k0_pay2 (F := Ideal) (iblk m c 0 t) (iblk m c 1 t) (iblk m c 2 t) (iblk m c 3 t) : S1056x1024.Idx → EReal) (ix2 r d)
      = ∑ k : Fin 1024, unit (rows m c) (weightA m c) (weightB m c) (weightD m c) e p d (h k) := by
  rw [block_0, block_1, block_2, block_3]
  generalize rows m c = x
  generalize weightA m c = wa
  generalize weightB m c = wb
  generalize weightD m c = wd
  refine (half_apply _ _ _ _ r d).trans (Finset.sum_congr rfl fun k _ => ?_)
  unfold unit
  refine congrArg₂ (· * ·) (congrArg₂ gated ?_ ?_) (read_3 t wd e k (h k) d he (hk k))
  · exact Finset.sum_congr rfl fun j _ => congrArg₂ (fun a b : EReal => a * b) (read_0 t x e p r j he hp) (read_1 t wa e j k (h k) he (hk k))
  · exact Finset.sum_congr rfl fun j _ => congrArg₂ (fun a b : EReal => a * b) (read_0 t x e p r j he hp) (read_2 t wb e j k (h k) he (hk k))

/-- The kernel's result at an index: the sum over all hidden units, times the gate. -/
theorem kernel_apply (c : Dev nD) (e : Fin 16) (p : Fin 4224) (d : Fin 1024) :
    (Value.G5 m c : S16x4224x1024.Idx → EReal) (ix3 e p d)
      = (∑ k : Fin 2048, unit (rows m c) (weightA m c) (weightB m c) (weightD m c) e p d k) * m ((c : Thread nD τ).loc main_arg2) (ix2 e p) := by
  have hN : cfg0.N = 128 := N_0
  have hr : Value.run5Of (ix3 e p d) = 4 * e.val + p.val / 1056 := by
    show 4 * (e.val / 1 - 0) + 1 * (p.val / 1056 - 0) + 1 * (d.val / 1024 - 0) = _
    have := d.isLt
    omega
  have hpt : Value.pt5Of (ix3 e p d) = 2 * (4 * e.val + p.val / 1056) + 1 := by show 2 * Value.run5Of _ + 1 = _; rw [hr]
  have hpl := p.isLt
  have hel := e.isLt
  have hlt : Value.pt5Of (ix3 e p d) < cfg0.N := by rw [hpt, hN]; omega
  have hl : Value.loc5Of (ix3 e p d) = ix3 (0 : Fin 1) (⟨p.val % 1056, by omega⟩ : Fin 1056) d := by
    funext a
    apply Fin.ext
    match a with
    | ⟨0, _⟩ => show e.val % 1 = 0; omega
    | ⟨1, _⟩ => rfl
    | ⟨2, _⟩ => show d.val % 1024 = d.val; have := d.isLt; omega
  unfold Value.G5
  rw [dif_pos hlt, ← Value.outsAt0_sweep m c _ hlt, hl]
  have ho := outs_odd m c ⟨_, hlt⟩ ⟨Value.pt5Of (ix3 e p d) - 1, by omega⟩ (by dsimp only; omega) rfl
  rw [ho]
  refine (gate_apply _ _ _ d).trans ?_
  refine congrArg₂ (· * ·) ?_ ?_
  swap
  · rw [block_4]
    exact (read_4 _ (gates m c) e p _ (by dsimp only; omega) (by dsimp only; omega)).trans (gates_eq m c e p)
  refine Eq.trans ?_ (Fin.sum_univ_add (a := 1024) (b := 1024) (unit (rows m c) (weightA m c) (weightB m c) (weightD m c) e p d)).symm
  refine congrArg₂ (· + ·) ?_ ?_
  · exact half_eq m c _ e p _ d (Fin.castAdd 1024) (by dsimp only; omega) (by dsimp only; omega) (fun k => by dsimp only [Fin.val_castAdd]; omega)
  · exact half_eq m c _ e p _ d (Fin.natAdd 1024) (by dsimp only; omega) (by dsimp only; omega) (fun k => by dsimp only [Fin.val_natAdd]; omega)

/-- The kernel's result is the plain feed-forward of its arguments. -/
theorem value_eq (c : Dev nD) : (Value.G5 m c : S16x4224x1024.Idx → EReal)
    = Cert.Reference2Ideal.Read.val_main_v22 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  funext i
  obtain ⟨e, p, d, rfl⟩ : ∃ (e : Fin 16) (p : Fin 4224) (d : Fin 1024), i = ix3 e p d :=
    ⟨i 0, i 1, i 2, funext fun a => by match a with | ⟨0, _⟩ => rfl | ⟨1, _⟩ => rfl | ⟨2, _⟩ => rfl⟩
  refine (kernel_apply m c e p d).trans ?_
  refine Eq.trans ?_ (Cert.Reference2Ideal.Expert.ref_apply _ _ _ _ _ _ e p d).symm
  rw [show rows m c = _ from rows_eq m c]
  rfl

end Cert.Kernel2Ideal.Expert

namespace Cert.Proof

open Idealize.ShloMosaic Idealize.ShloMosaic.TcCoe Idealize.SL.Sem

/-- The expert feed-forward: over the extended reals, the kernel's result is the reference's. -/
theorem algebraic_expert : Cert.algebraic_Kernel2Ideal_Reference2Ideal := by
  unfold Cert.algebraic_Kernel2Ideal_Reference2Ideal
  intro m g m' g' _ hagree
  refine ⟨fun c => Cert.Kernel2Ideal.Value.G5 m c, Cert.Kernel2Ideal.Value.run m g,
    (θ_run Cert.Reference2Ideal.defs _ _).mono (fun r h c => ⟨(h c).1.trans ?_, (h c).2⟩) (Cert.Reference2Ideal.Value.run (F := Ideal) m' g')⟩
  obtain ⟨h0, h1, h2, h3, h4, h5⟩ := hagree c
  refine (Cert.Reference2Ideal.Read.val_main_v22_eq (F := Ideal) _ _ _ _ _ _).trans ?_
  rw [h0, h1, h2, h3, h4, h5]
  exact (Cert.Kernel2Ideal.Expert.value_eq m c).symm

end Cert.Proof

end
-- ==== Proof.AttnTables.lean ====
/-
  The mask table and the sinks' rows that the launch finds, entry by entry.
-/
module

public import proofs.«01_k».proof.Proof.Gen.KernelIdeal.Frame
public import Idealize.ShloMosaic.Lib.Pointwise
public import Idealize.ShloMosaic.Lib.Tactic

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- The distance test between two positions below 2^20, the second offset by 128, on 32-bit words. -/
theorem band_bits (a j : ℕ) (ha : a < 1000000) (hj : j < 1000000) :
    IntOp.cmpi .sle (IntOp.absi (IntOp.subi (BitVec.ofNat 32 a) (BitVec.ofNat 32 j))) 128#32 = BitVec.ofBool (decide (a ≤ j + 128 ∧ j ≤ a + 128)) := by
  unfold IntOp.cmpi IntOp.absi IntOp.subi
  refine congrArg BitVec.ofBool ?_
  rw [BitVec.sle_eq_decide, decide_eq_decide]
  simp only [BitVec.toInt_eq_toNat_cond, BitVec.msb_eq_decide]
  split_ifs <;> simp_all [BitVec.toNat_sub, BitVec.toNat_ofNat] <;> omega

/-- The mask table. -/
def table (c : Dev nD) : S3x1x512x384.Idx → EReal := V m c main_v61
/-- The sinks, a row for every query row of a head. -/
def sinks (c : Dev nD) : S4x512x1.Idx → EReal := V m c main_v65

/-- One of the table's three masks, for a block of queries beginning at `blk`: zero in the window, minus infinity off it. -/
def tab (blk : BitVec 32) : S128x384.Idx → EReal :=
  select (andi (andi (cmpi .sle
      (absi (subi (broadcastInDim S128x384 ![0, 1] bcast_S128x1_S128x384_0_1 (broadcastInDim S128x1 ![0] bcast_S128_S128x1_0 (iotaInDim S128 32 0)))
        (broadcastInDim S128x384 ![0, 1] bcast_S1x384_S128x384_0_1
          (subi (broadcastInDim S1x384 ![1] bcast_S384_S1x384_1 (iotaInDim S384 32 0)) (broadcastInDim S1x384 ![] bcast_S_S1x384 (constantI S_ 32 128#32))))))
      (broadcastInDim S128x384 ![] bcast_S_S128x384 (constantI S_ 32 128#32)))
    (broadcastInDim S128x384 ![0, 1] bcast_S1x384_S128x384_0_1
      (cmpi .sge (addi (broadcastInDim S1x384 ![] bcast_S_S1x384 (constantI S_ 32 blk))
          (subi (broadcastInDim S1x384 ![1] bcast_S384_S1x384_1 (iotaInDim S384 32 0)) (broadcastInDim S1x384 ![] bcast_S_S1x384 (constantI S_ 32 128#32))))
        (broadcastInDim S1x384 ![] bcast_S_S1x384 (constantI S_ 32 0#32)))))
    (broadcastInDim S128x384 ![0, 1] bcast_S1x384_S128x384_0_1
      (cmpi .slt (addi (broadcastInDim S1x384 ![] bcast_S_S1x384 (constantI S_ 32 blk))
          (subi (broadcastInDim S1x384 ![1] bcast_S384_S1x384_1 (iotaInDim S384 32 0)) (broadcastInDim S1x384 ![] bcast_S_S1x384 (constantI S_ 32 128#32))))
        (broadcastInDim S1x384 ![] bcast_S_S1x384 (constantI S_ 32 8192#32)))))
    (broadcastInDim S128x384 ![] bcast_S_S128x384 (constant (F := Ideal) S_ .f32 0x00000000#32))
    (broadcastInDim S128x384 ![] bcast_S_S128x384 (constant (F := Ideal) S_ .f32 0xFF800000#32))

/-- The distance test of the table, its second position given by its offset in the window. -/
theorem band_word (a j : ℕ) (ha : a < 1000000) (hj : j < 1000000) :
    IntOp.cmpi .sle (IntOp.absi (IntOp.subi (BitVec.ofNat 32 a) (IntOp.subi (BitVec.ofNat 32 j) 128#32))) 128#32 = BitVec.ofBool (decide (a ≤ j ∧ j ≤ a + 256)) := by
  unfold IntOp.cmpi IntOp.absi IntOp.subi
  refine congrArg BitVec.ofBool ?_
  rw [BitVec.sle_eq_decide, decide_eq_decide]
  simp only [BitVec.toInt_eq_toNat_cond, BitVec.msb_eq_decide]
  split_ifs <;> simp_all [BitVec.toNat_sub, BitVec.toNat_ofNat] <;> omega

theorem low_word (b j : ℕ) (hb : b < 1000000) (hj : j < 1000000) :
    IntOp.cmpi .sge (IntOp.addi (BitVec.ofNat 32 b) (IntOp.subi (BitVec.ofNat 32 j) 128#32)) 0#32 = BitVec.ofBool (decide (128 ≤ b + j)) := by
  unfold IntOp.cmpi IntOp.addi IntOp.subi
  refine congrArg BitVec.ofBool ?_
  show BitVec.sle _ _ = _
  rw [BitVec.sle_eq_decide, decide_eq_decide]
  simp only [BitVec.toInt_eq_toNat_cond, BitVec.toNat_add, BitVec.toNat_sub, BitVec.toNat_ofNat]
  split_ifs <;> simp_all <;> omega

theorem high_word (b j : ℕ) (hb : b < 1000000) (hj : j < 1000000) :
    IntOp.cmpi .slt (IntOp.addi (BitVec.ofNat 32 b) (IntOp.subi (BitVec.ofNat 32 j) 128#32)) 8192#32 = BitVec.ofBool (decide (b + j < 8320)) := by
  unfold IntOp.cmpi IntOp.addi IntOp.subi
  refine congrArg BitVec.ofBool ?_
  show BitVec.slt _ _ = _
  rw [BitVec.slt_eq_decide, decide_eq_decide]
  simp only [BitVec.toInt_eq_toNat_cond, BitVec.toNat_add, BitVec.toNat_sub, BitVec.toNat_ofNat]
  split_ifs <;> simp_all <;> omega

theorem tab_apply (b : ℕ) (hb : b < 10000) (q : Fin 128) (j : Fin 384) :
    tab (BitVec.ofNat 32 b) (ix2 q j) = if (q.val ≤ j.val ∧ j.val ≤ q.val + 256) ∧ 128 ≤ b + j.val ∧ b + j.val < 8320 then (0 : EReal) else ⊥ := by
  pointwise [tab]
  rw [band_word _ _ (by omega) (by omega), low_word _ _ (by omega) (by omega), high_word _ _ (by omega) (by omega)]
  have low : Ideal.ofBits .f32 4286578688#32 = (⊥ : EReal) := by simp [Ideal.ofBits, Ideal.ieee]
  rw [low]
  by_cases h1 : q.val ≤ j.val ∧ j.val ≤ q.val + 256 <;> by_cases h2 : 128 ≤ b + j.val <;> by_cases h3 : b + j.val < 8320 <;>
    simp [h1, h2, h3, IntOp.andi, Scalar.select]

theorem table_eq (c : Dev nD) (w : Fin 3) (r : Fin 512) (j : Fin 384) :
    table m c (ix4 w 0 r j) = if h : w.val < 1 then tab 0#32 (ix2 ⟨r.val % 128, by omega⟩ j) else
      if h : w.val - 1 < 1 then tab 128#32 (ix2 ⟨r.val % 128, by omega⟩ j) else tab 8064#32 (ix2 ⟨r.val % 128, by omega⟩ j) := by
  show StableHlo.after (List.flatten [hostOps0, hostOps0_1, hostOps0_2, hostOps0_3, hostOps0_4, hostOps0_5, hostOps0_6]) _ _ _ = _
  simp only [hostOps0, hostOps0_1, hostOps0_2, hostOps0_3, hostOps0_4, hostOps0_5, hostOps0_6, List.flatten_cons, List.flatten_nil, List.append_nil, List.cons_append, List.nil_append]
  after_results_simp
  pointwise
  after_results_simp
  pointwise
  rfl

theorem sinks_eq (c : Dev nD) (h : Fin 4) (r : Fin 512) :
    sinks m c (ix3 h r 0) = m ((c : Thread nD τ).loc main_arg6) (ix1 ⟨h.val * 4 + r.val / 128, by omega⟩) := by
  show StableHlo.after (List.flatten [hostOps0, hostOps0_1, hostOps0_2, hostOps0_3, hostOps0_4, hostOps0_5, hostOps0_6]) _ _ _ = _
  simp only [hostOps0, hostOps0_1, hostOps0_2, hostOps0_3, hostOps0_4, hostOps0_5, hostOps0_6, List.flatten_cons, List.flatten_nil, List.append_nil, List.cons_append, List.nil_append]
  after_results_simp
  pointwise

/-- Key `j` of the window of query `q` of block `i` is a key there is, and near enough. -/
def near (i : ℕ) (q : Fin 128) (j : Fin 384) : Prop := (q.val ≤ j.val ∧ j.val ≤ q.val + 256) ∧ 128 ≤ 128 * i + j.val ∧ 128 * i + j.val < 8320

/-- The table's mask for block `i`: zero where the window's key is near enough, minus infinity elsewhere. -/
theorem mask_eq (c : Dev nD) (i : ℕ) (hi : i < 64) (w : Fin 3) (hw : w.val = if i = 0 then 0 else if i = 63 then 2 else 1) (r : Fin 512) (q : Fin 128)
    (hr : r.val % 128 = q.val) (j : Fin 384) :
    (near i q j → table m c (ix4 w 0 r j) = 0) ∧ (¬ near i q j → table m c (ix4 w 0 r j) = ⊥) := by
  have hq : (⟨r.val % 128, by omega⟩ : Fin 128) = q := Fin.ext hr
  rw [table_eq, hq]
  unfold near
  have hj := j.isLt
  have hqq := q.isLt
  by_cases h0 : i = 0
  · subst h0
    rw [if_pos rfl] at hw
    rw [dif_pos (by omega), tab_apply 0 (by omega)]
    exact ⟨fun h => if_pos (by omega), fun h => if_neg (by omega)⟩
  · rw [if_neg h0] at hw
    by_cases h1 : i = 63
    · subst h1
      rw [if_pos rfl] at hw
      rw [dif_neg (by omega), dif_neg (by omega), tab_apply 8064 (by omega)]
      exact ⟨fun h => if_pos (by omega), fun h => if_neg (by omega)⟩
    · rw [if_neg h1] at hw
      rw [dif_neg (by omega), dif_pos (by omega), tab_apply 128 (by omega)]
      exact ⟨fun h => if_pos (by omega), fun h => if_neg (by omega)⟩

end Cert.KernelIdeal.Attn

end
-- ==== Proof.AttnHead.lean ====
/-
  One block of the window attention at an index: for every key/value head the scores, their maximum, and the weighted sum of the values.
-/
module

public import proofs.«01_k».proof.Proof.Gen.KernelIdeal.Frame
public import Idealize.ShloMosaic.Lib.Pipeline.Value
public import Idealize.ShloMosaic.Lib.Pointwise
public import Idealize.ShloMosaic.Lib.Tactic

@[expose] public section

set_option maxRecDepth 16384

noncomputable section

namespace Cert.KernelIdeal.Attn

open Cert.KernelIdeal Cert.KernelIdeal.Gen Idealize.ShloMosaic

/-- The bits of the reductions' starting value are minus infinity. -/
theorem low_eq : Ideal.ofBits .f32 4286578688#32 = (⊥ : EReal) := by simp [Ideal.ofBits, Ideal.ieee]

/-- A maximum taken from minus infinity on is the supremum. -/
theorem fold_max_eq {n : ℕ} (f : Fin n → EReal) :
    Finset.fold max (Ideal.ofBits .f32 4286578688#32) f Finset.univ = Finset.univ.sup f := by
  rw [low_eq]; rfl

/-- The attention of one query row over 640 keys with a sink: scores `s`, one column `v` of the values. -/
def rowOut (s v : Fin 640 → EReal) (snk : EReal) : EReal :=
  (∑ x, Ideal.exp (s x - max (Finset.univ.sup s) snk) * v x)
    * Ideal.div 1 ((∑ x, Ideal.exp (s x - max (Finset.univ.sup s) snk)) + Ideal.exp (snk - max (Finset.univ.sup s) snk))

/-- A head's result rows from its scores, its values beside a column of ones, and its sinks. -/
def headOut (s : FVec Ideal S512x640 .f32) (v : FVec Ideal S640x128 .bf16) (snk : Vec Ideal S1x512x1 .f32) : FVec Ideal S512x64 .f32 :=
  k0_pay43 s v (k0_pay26 s) (k0_pay30 snk)

theorem headOut_apply (s : FVec Ideal S512x640 .f32) (v : FVec Ideal S640x128 .bf16) (snk : Vec Ideal S1x512x1 .f32) (r : Fin 512) (d : Fin 64)
    (ones : ∀ x, v (ix2 x (64 : Fin 128)) = (1 : EReal)) :
    headOut s v snk (ix2 r d) = rowOut (fun x => s (ix2 r x)) (fun x => v (ix2 x ⟨d.val, by omega⟩)) (snk (ix3 0 r 0)) := by
  unfold headOut rowOut
  pointwise [k0_pay43, k0_pay26, k0_pay30]
  simp only [fold_max_eq, ones, mul_one]

theorem score_apply (q p : FVec Ideal S512x64 .bf16) (k : FVec Ideal S384x64 .bf16) (bias : Vec Ideal S1x1x512x384 .f32) (kx : Vec Ideal S1x256x64 .bf16)
    (r : Fin 512) (j : Fin 640) :
    k0_pay9 q p k bias kx (ix2 r j) = if h : j.val < 384 then (∑ x : Fin 64, (fun a b : EReal => a * b) (q (ix2 r x)) (k (ix2 ⟨j.val, h⟩ x))) + bias (ix4 0 0 r ⟨j.val, h⟩)
      else ∑ x : Fin 64, (fun a b : EReal => a * b) (p (ix2 r x)) (kx (ix3 0 ⟨j.val - 384, by omega⟩ x)) := by
  pointwise [k0_pay9]

theorem vals (v0 v1 v2 : Vec Ideal S1x128x64 .bf16) (vx : Vec Ideal S1x256x64 .bf16) (j : Fin 640) (d : Fin 128) :
    k0_pay10 v0 v1 v2 vx (ix2 j d) = if h : d.val < 64 then (if h1 : j.val < 128 then v0 (ix3 0 ⟨j.val, h1⟩ ⟨d.val, h⟩) else
      if h2 : j.val - 128 < 128 then v1 (ix3 0 ⟨j.val - 128, h2⟩ ⟨d.val, h⟩) else
      if h3 : j.val - 128 - 128 < 128 then v2 (ix3 0 ⟨j.val - 128 - 128, h3⟩ ⟨d.val, h⟩) else vx (ix3 0 ⟨j.val - 384, by omega⟩ ⟨d.val, h⟩)) else (1 : EReal) := by
  pointwise [k0_pay10]
  simp only [Nat.sub_sub, Nat.reduceAdd]

theorem rows4 (v0 v1 v2 v3 : Vec Ideal S1x128x64 .bf16) (g : Fin 4) (q : Fin 128) (d : Fin 64) :
    k0_pay6 v0 v1 v2 v3 (ix2 ⟨g.val * 128 + q.val, by omega⟩ d) = (![v0, v1, v2, v3] g) (ix3 0 q d) := by
  pointwise [k0_pay6]
  have hq := q.isLt
  fin_cases g
  · simp
  · simp
  · simp only [Nat.reduceMul]
    rw [dif_neg (by omega), dif_neg (by omega), dif_pos (by omega)]
    exact congrArg (fun t => v2 (ix3 0 t d)) (Fin.ext (show 2 * 128 + q.val - 128 - 128 = q.val by omega))
  · simp only [Nat.reduceMul]
    rw [dif_neg (by omega), dif_neg (by omega), dif_neg (by omega)]
    exact congrArg (fun t => v3 (ix3 0 t d)) (Fin.ext (show 3 * 128 + q.val - 128 - 128 - 128 = q.val by omega))

theorem rows3 (v0 v1 v2 : Vec Ideal S1x128x64 .bf16) (r : Fin 384) (d : Fin 64) :
    k0_pay8 v0 v1 v2 (ix2 r d) = if h1 : r.val < 128 then v0 (ix3 0 ⟨r.val, h1⟩ d) else
      if h2 : r.val - 128 < 128 then v1 (ix3 0 ⟨r.val - 128, h2⟩ d) else v2 (ix3 0 ⟨r.val - 128 - 128, by omega⟩ d) := by
  pointwise [k0_pay8]

section
variable (x0 x1 : Vec Ideal S1x128x1024 .bf16) (x2 x3 x4 x5 x6 x7 : Vec Ideal S1x128x256 .bf16) (x8 x9 : Vec Ideal S1x256x256 .bf16)
  (x10 : Vec Ideal S1x1x512x384 .f32) (x11 : Vec Ideal S4x512x1 .f32)

theorem head0 : k0_pay75 x0 x1 x2 x3 x4 x5 x6 x7 x8 x9 x10 x11 = headOut
    (k0_pay9 (k0_pay6 (View.ld x0 r0_0) (View.ld x0 r0_1) (View.ld x0 r0_2) (View.ld x0 r0_3)) (k0_pay6 (View.ld x1 r0_0) (View.ld x1 r0_1) (View.ld x1 r0_2) (View.ld x1 r0_3))
      (k0_pay8 (View.ld x2 r0_4) (View.ld x3 r0_4) (View.ld x4 r0_4)) x10 (View.ld x8 r0_6))
    (k0_pay10 (View.ld x5 r0_4) (View.ld x6 r0_4) (View.ld x7 r0_4) (View.ld x9 r0_6)) (View.ld x11 r0_25) := by
  have e : View.ld x10 r0_5 = x10 := View.ld_unit_zero (by funext a; match a with | ⟨0, _⟩ => rfl | ⟨1, _⟩ => rfl | ⟨2, _⟩ => rfl | ⟨3, _⟩ => rfl) _ _
  unfold k0_pay75 k0_pay60 headOut
  rw [e]; rfl

theorem head1 : k0_pay76 x0 x1 x2 x3 x4 x5 x6 x7 x8 x9 x10 x11 = headOut
    (k0_pay9 (k0_pay6 (View.ld x0 r0_7) (View.ld x0 r0_8) (View.ld x0 r0_9) (View.ld x0 r0_10)) (k0_pay6 (View.ld x1 r0_7) (View.ld x1 r0_8) (View.ld x1 r0_9) (View.ld x1 r0_10))
      (k0_pay8 (View.ld x2 r0_11) (View.ld x3 r0_11) (View.ld x4 r0_11)) x10 (View.ld x8 r0_12))
    (k0_pay10 (View.ld x5 r0_11) (View.ld x6 r0_11) (View.ld x7 r0_11) (View.ld x9 r0_12)) (View.ld x11 r0_26) := by
  have e : View.ld x10 r0_5 = x10 := View.ld_unit_zero (by funext a; match a with | ⟨0, _⟩ => rfl | ⟨1, _⟩ => rfl | ⟨2, _⟩ => rfl | ⟨3, _⟩ => rfl) _ _
  unfold k0_pay76 k0_pay73 k0_pay74 k0_pay69 k0_pay72 k0_pay61 k0_pay62 headOut
  rw [e]; rfl

theorem head2 : k0_pay77 x0 x1 x2 x3 x4 x5 x6 x7 x8 x9 x10 x11 = headOut
    (k0_pay9 (k0_pay6 (View.ld x0 r0_13) (View.ld x0 r0_14) (View.ld x0 r0_15) (View.ld x0 r0_16)) (k0_pay6 (View.ld x1 r0_13) (View.ld x1 r0_14) (View.ld x1 r0_15) (View.ld x1 r0_16))
      (k0_pay8 (View.ld x2 r0_17) (View.ld x3 r0_17) (View.ld x4 r0_17)) x10 (View.ld x8 r0_18))
    (k0_pay10 (View.ld x5 r0_17) (View.ld x6 r0_17) (View.ld x7 r0_17) (View.ld x9 r0_18)) (View.ld x11 r0_27) := by
  have e : View.ld x10 r0_5 = x10 := View.ld_unit_zero (by funext a; match a with | ⟨0, _⟩ => rfl | ⟨1, _⟩ => rfl | ⟨2, _⟩ => rfl | ⟨3, _⟩ => rfl) _ _
  unfold k0_pay77 k0_pay70 k0_pay63 k0_pay64 headOut
  rw [e]; rfl

theorem head3 : k0_pay78 x0 x1 x2 x3 x4 x5 x6 x7 x8 x9 x10 x11 = headOut
    (k0_pay9 (k0_pay6 (View.ld x0 r0_19) (View.ld x0 r0_20) (View.ld x0 r0_21) (View.ld x0 r0_22)) (k0_pay6 (View.ld x1 r0_19) (View.ld x1 r0_20) (View.ld x1 r0_21) (View.ld x1 r0_22))
      (k0_pay8 (View.ld x2 r0_23) (View.ld x3 r0_23) (View.ld x4 r0_23)) x10 (View.ld x8 r0_24))
    (k0_pay10 (View.ld x5 r0_23) (View.ld x6 r0_23) (View.ld x7 r0_23) (View.ld x9 r0_24)) (View.ld x11 r0_28) := by
  have e : View.ld x10 r0_5 = x10 := View.ld_unit_zero (by funext a; match a with | ⟨0, _⟩ => rfl | ⟨1, _⟩ => rfl | ⟨2, _⟩ => rfl | ⟨3, _⟩ => rfl) _ _
  unfold k0_pay78 k0_pay71 k0_pay67 k0_pay68 k0_pay66 k0_pay65 headOut
  rw [e]; rfl
end

/-- A piece of the result: rows `g * 128 …` of a head's result. -/
theorem piece0 (o : FVec Ideal S512x64 .f32) (q : Fin 128) (d : Fin 64) : k0_pay47 o (ix3 0 q d) = o (ix2 ⟨q.val, by omega⟩ d) := by
  pointwise [k0_pay47]
theorem piece1 (o : FVec Ideal S512x64 .f32) (q : Fin 128) (d : Fin 64) : k0_pay48 o (ix3 0 q d) = o (ix2 ⟨128 + q.val, by omega⟩ d) := by
  pointwise [k0_pay48]
theorem piece2 (o : FVec Ideal S512x64 .f32) (q : Fin 128) (d : Fin 64) : k0_pay49 o (ix3 0 q d) = o (ix2 ⟨256 + q.val, by omega⟩ d) := by
  pointwise [k0_pay49]
theorem piece3 (o : FVec Ideal S512x64 .f32) (q : Fin 128) (d : Fin 64) : k0_pay50 o (ix3 0 q d) = o (ix2 ⟨384 + q.val, by omega⟩ d) := by
  pointwise [k0_pay50]

end Cert.KernelIdeal.Attn

end
-- ==== Proof.AttnBlock.lean ====
/-
  The block of the result that one grid point leaves, entry by entry.
-/
module

public import proofs.«01_k».proof.Proof.AttnHead

@[expose] public section

set_option maxRecDepth 16384

noncomputable section

namespace Cert.KernelIdeal.Attn

open Cert.KernelIdeal Cert.KernelIdeal.Gen Idealize.ShloMosaic

/-- Row `j` of three blocks of keys (or values) set one after another, at column `e`. -/
def win3 (a b c : Vec Ideal S1x128x256 .bf16) (j : Fin 384) (e : Fin 256) : EReal :=
  if h1 : j.val < 128 then a (ix3 0 ⟨j.val, h1⟩ e) else
    if h2 : j.val - 128 < 128 then b (ix3 0 ⟨j.val - 128, h2⟩ e) else c (ix3 0 ⟨j.val - 128 - 128, by omega⟩ e)

/-- The column of head `h`, group `g` at position `d`. -/
def qcol (h g : Fin 4) (d : Fin 64) : Fin 1024 := ⟨h.val * 256 + g.val * 64 + d.val, by omega⟩

/-- The column of key/value head `h` at position `d`. -/
def kcol (h : Fin 4) (d : Fin 64) : Fin 256 := ⟨h.val * 64 + d.val, by omega⟩

/-- The row of group `g` at query `q` in a head's stack of query rows. -/
def grow (g : Fin 4) (q : Fin 128) : Fin 512 := ⟨g.val * 128 + q.val, by omega⟩

section
variable (x0 x1 : Vec Ideal S1x128x1024 .bf16) (x2 x3 x4 x5 x6 x7 : Vec Ideal S1x128x256 .bf16) (x8 x9 : Vec Ideal S1x256x256 .bf16)
  (x10 : Vec Ideal S1x1x512x384 .f32) (x11 : Vec Ideal S4x512x1 .f32)

/-- The score of query `q` of head `h`, group `g`, against key `j`: 384 keys of the window with the table's entry added, then 256 context keys. -/
def blkScore (h g : Fin 4) (q : Fin 128) (j : Fin 640) : EReal :=
  if hj : j.val < 384 then (∑ x : Fin 64, (fun a b : EReal => a * b) (x0 (ix3 0 q (qcol h g x))) (win3 x2 x3 x4 ⟨j.val, hj⟩ (kcol h x))) + x10 (ix4 0 0 (grow g q) ⟨j.val, hj⟩)
  else ∑ x : Fin 64, (fun a b : EReal => a * b) (x1 (ix3 0 q (qcol h g x))) (x8 (ix3 0 ⟨j.val - 384, by omega⟩ (kcol h x)))

/-- The value at key `j`, head `h`, position `d`. -/
def blkVal (h : Fin 4) (d : Fin 64) (j : Fin 640) : EReal :=
  if hj : j.val < 384 then win3 x5 x6 x7 ⟨j.val, hj⟩ (kcol h d) else x9 (ix3 0 ⟨j.val - 384, by omega⟩ (kcol h d))

/-- The block's result at query `q` of head `h`, group `g`, position `d`. -/
def blkOut (h g : Fin 4) (q : Fin 128) (d : Fin 64) : EReal :=
  rowOut (blkScore x0 x1 x2 x3 x4 x8 x10 h g q) (blkVal x5 x6 x7 x9 h d) (x11 (ix3 h (grow g q) 0))

/-- A head's rows are the block's result at that head, when its operands are that head's columns of the windows. -/
theorem head_eq (h : Fin 4) (q0 q1 q2 q3 p0 p1 p2 p3 k0 k1 k2 v0 v1 v2 : Vec Ideal S1x128x64 .bf16) (kx vx : Vec Ideal S1x256x64 .bf16) (snk : Vec Ideal S1x512x1 .f32)
    (hq : ∀ g q d, (![q0, q1, q2, q3] g) (ix3 0 q d) = x0 (ix3 0 q (qcol h g d))) (hp : ∀ g q d, (![p0, p1, p2, p3] g) (ix3 0 q d) = x1 (ix3 0 q (qcol h g d)))
    (hk0 : ∀ j d, k0 (ix3 0 j d) = x2 (ix3 0 j (kcol h d))) (hk1 : ∀ j d, k1 (ix3 0 j d) = x3 (ix3 0 j (kcol h d))) (hk2 : ∀ j d, k2 (ix3 0 j d) = x4 (ix3 0 j (kcol h d)))
    (hv0 : ∀ j d, v0 (ix3 0 j d) = x5 (ix3 0 j (kcol h d))) (hv1 : ∀ j d, v1 (ix3 0 j d) = x6 (ix3 0 j (kcol h d))) (hv2 : ∀ j d, v2 (ix3 0 j d) = x7 (ix3 0 j (kcol h d)))
    (hkx : ∀ j d, kx (ix3 0 j d) = x8 (ix3 0 j (kcol h d))) (hvx : ∀ j d, vx (ix3 0 j d) = x9 (ix3 0 j (kcol h d)))
    (hs : ∀ r, snk (ix3 0 r 0) = x11 (ix3 h r 0)) (g : Fin 4) (q : Fin 128) (d : Fin 64) :
    headOut (k0_pay9 (k0_pay6 q0 q1 q2 q3) (k0_pay6 p0 p1 p2 p3) (k0_pay8 k0 k1 k2) x10 kx) (k0_pay10 v0 v1 v2 vx) snk (ix2 (grow g q) d)
      = blkOut x0 x1 x2 x3 x4 x5 x6 x7 x8 x9 x10 x11 h g q d := by
  rw [headOut_apply _ _ _ _ _ (fun x => by rw [vals, dif_neg (by decide)])]
  unfold blkOut
  rw [hs]
  refine congrArg₂ (fun s v => rowOut s v _) (funext fun j => ?_) (funext fun j => ?_)
  · rw [score_apply]
    unfold blkScore win3
    by_cases hj : j.val < 384
    · simp only [dif_pos hj]
      refine congrArg (· + _) (Finset.sum_congr rfl fun x _ => congrArg₂ (fun a b : EReal => a * b) ((rows4 q0 q1 q2 q3 g q x).trans (hq g q x)) ?_)
      rw [rows3]
      simp only [hk0, hk1, hk2]
    · simp only [dif_neg hj]
      exact Finset.sum_congr rfl fun x _ => congrArg₂ (fun a b : EReal => a * b) ((rows4 p0 p1 p2 p3 g q x).trans (hp g q x)) (hkx _ _)
  · rw [vals]
    unfold blkVal win3
    have hd : ((⟨d.val, by omega⟩ : Fin 128).val < 64) := d.isLt
    simp only [dif_pos hd, hv0, hv1, hv2, hvx]
    by_cases h1 : j.val < 128
    · simp only [dif_pos h1, dif_pos (show j.val < 384 by omega)]
    · by_cases h2 : j.val - 128 < 128
      · simp only [dif_neg h1, dif_pos h2, dif_pos (show j.val < 384 by omega)]
      · by_cases h3 : j.val - 128 - 128 < 128
        · simp only [dif_neg h1, dif_neg h2, dif_pos h3, dif_pos (show j.val < 384 by omega)]
        · simp only [dif_neg h1, dif_neg h2, dif_neg h3, dif_neg (show ¬ j.val < 384 by omega)]

/-- A load of 64 columns of a block of queries. -/
theorem ld_q (X : Vec Ideal S1x128x1024 .bf16) (off : ℕ) (inb) (c : Fin 1024) (q : Fin 128) (d : Fin 64) (hc : c.val = off + d.val) :
    View.ld X (Rect.unit (s := S1x128x1024) ![0, 0, off] S1x128x64.size inb) (ix3 0 q d) = X (ix3 0 q c) :=
  congrArg X (funext fun a => Fin.ext (match a with
    | ⟨0, _⟩ => rfl
    | ⟨1, _⟩ => (show 0 + 1 * q.val = q.val by omega)
    | ⟨2, _⟩ => (show off + 1 * d.val = c.val by omega)))

/-- A load of 64 columns of a block of keys or values. -/
theorem ld_k (X : Vec Ideal S1x128x256 .bf16) (off : ℕ) (inb) (c : Fin 256) (q : Fin 128) (d : Fin 64) (hc : c.val = off + d.val) :
    View.ld X (Rect.unit (s := S1x128x256) ![0, 0, off] S1x128x64.size inb) (ix3 0 q d) = X (ix3 0 q c) :=
  congrArg X (funext fun a => Fin.ext (match a with
    | ⟨0, _⟩ => rfl
    | ⟨1, _⟩ => (show 0 + 1 * q.val = q.val by omega)
    | ⟨2, _⟩ => (show off + 1 * d.val = c.val by omega)))

/-- A load of 64 columns of the context's keys or values. -/
theorem ld_x (X : Vec Ideal S1x256x256 .bf16) (off : ℕ) (inb) (c : Fin 256) (q : Fin 256) (d : Fin 64) (hc : c.val = off + d.val) :
    View.ld X (Rect.unit (s := S1x256x256) ![0, 0, off] S1x256x64.size inb) (ix3 0 q d) = X (ix3 0 q c) :=
  congrArg X (funext fun a => Fin.ext (match a with
    | ⟨0, _⟩ => rfl
    | ⟨1, _⟩ => (show 0 + 1 * q.val = q.val by omega)
    | ⟨2, _⟩ => (show off + 1 * d.val = c.val by omega)))

/-- A load of one head's sinks. -/
theorem ld_s (X : Vec Ideal S4x512x1 .f32) (off : ℕ) (inb) (h : Fin 4) (r : Fin 512) (hc : h.val = off) :
    View.ld X (Rect.unit (s := S4x512x1) ![off, 0, 0] S1x512x1.size inb) (ix3 0 r 0) = X (ix3 h r 0) :=
  congrArg X (funext fun a => Fin.ext (match a with
    | ⟨0, _⟩ => (show off + 1 * 0 = h.val by omega)
    | ⟨1, _⟩ => (show 0 + 1 * r.val = r.val by omega)
    | ⟨2, _⟩ => rfl))

/-- The four loads of a head's query rows. -/
theorem ld_group (X : Vec Ideal S1x128x1024 .bf16) (h : Fin 4) (o0 o1 o2 o3 : ℕ) (i0 i1 i2 i3) (e0 : o0 = h.val * 256) (e1 : o1 = h.val * 256 + 64) (e2 : o2 = h.val * 256 + 128)
    (e3 : o3 = h.val * 256 + 192) (g : Fin 4) (q : Fin 128) (d : Fin 64) :
    (![View.ld X (Rect.unit (s := S1x128x1024) ![0, 0, o0] S1x128x64.size i0), View.ld X (Rect.unit (s := S1x128x1024) ![0, 0, o1] S1x128x64.size i1),
      View.ld X (Rect.unit (s := S1x128x1024) ![0, 0, o2] S1x128x64.size i2), View.ld X (Rect.unit (s := S1x128x1024) ![0, 0, o3] S1x128x64.size i3)] g) (ix3 0 q d)
      = X (ix3 0 q (qcol h g d)) :=
  match g with
  | ⟨0, _⟩ => ld_q X o0 i0 _ q d (show h.val * 256 + 0 * 64 + d.val = o0 + d.val by omega)
  | ⟨1, _⟩ => ld_q X o1 i1 _ q d (show h.val * 256 + 1 * 64 + d.val = o1 + d.val by omega)
  | ⟨2, _⟩ => ld_q X o2 i2 _ q d (show h.val * 256 + 2 * 64 + d.val = o2 + d.val by omega)
  | ⟨3, _⟩ => ld_q X o3 i3 _ q d (show h.val * 256 + 3 * 64 + d.val = o3 + d.val by omega)

/-- A head's rows, its operands loaded from the windows at the head's offsets. -/
theorem head_at (h : Fin 4) (o0 o1 o2 o3 k s : ℕ) (i0 i1 i2 i3 ik ix is) (e0 : o0 = h.val * 256) (e1 : o1 = h.val * 256 + 64) (e2 : o2 = h.val * 256 + 128)
    (e3 : o3 = h.val * 256 + 192) (ek : k = h.val * 64) (es : s = h.val) (g : Fin 4) (q : Fin 128) (d : Fin 64) :
    headOut (k0_pay9
      (k0_pay6 (View.ld x0 (Rect.unit (s := S1x128x1024) ![0, 0, o0] S1x128x64.size i0)) (View.ld x0 (Rect.unit (s := S1x128x1024) ![0, 0, o1] S1x128x64.size i1))
        (View.ld x0 (Rect.unit (s := S1x128x1024) ![0, 0, o2] S1x128x64.size i2)) (View.ld x0 (Rect.unit (s := S1x128x1024) ![0, 0, o3] S1x128x64.size i3)))
      (k0_pay6 (View.ld x1 (Rect.unit (s := S1x128x1024) ![0, 0, o0] S1x128x64.size i0)) (View.ld x1 (Rect.unit (s := S1x128x1024) ![0, 0, o1] S1x128x64.size i1))
        (View.ld x1 (Rect.unit (s := S1x128x1024) ![0, 0, o2] S1x128x64.size i2)) (View.ld x1 (Rect.unit (s := S1x128x1024) ![0, 0, o3] S1x128x64.size i3)))
      (k0_pay8 (View.ld x2 (Rect.unit (s := S1x128x256) ![0, 0, k] S1x128x64.size ik)) (View.ld x3 (Rect.unit (s := S1x128x256) ![0, 0, k] S1x128x64.size ik))
        (View.ld x4 (Rect.unit (s := S1x128x256) ![0, 0, k] S1x128x64.size ik)))
      x10 (View.ld x8 (Rect.unit (s := S1x256x256) ![0, 0, k] S1x256x64.size ix)))
      (k0_pay10 (View.ld x5 (Rect.unit (s := S1x128x256) ![0, 0, k] S1x128x64.size ik)) (View.ld x6 (Rect.unit (s := S1x128x256) ![0, 0, k] S1x128x64.size ik))
        (View.ld x7 (Rect.unit (s := S1x128x256) ![0, 0, k] S1x128x64.size ik)) (View.ld x9 (Rect.unit (s := S1x256x256) ![0, 0, k] S1x256x64.size ix)))
      (View.ld x11 (Rect.unit (s := S4x512x1) ![s, 0, 0] S1x512x1.size is)) (ix2 (grow g q) d)
    = blkOut x0 x1 x2 x3 x4 x5 x6 x7 x8 x9 x10 x11 h g q d :=
  have hk : ∀ d : Fin 64, (kcol h d).val = k + d.val := fun d => by rw [ek]; rfl
  head_eq x0 x1 x2 x3 x4 x5 x6 x7 x8 x9 x10 x11 h _ _ _ _ _ _ _ _ _ _ _ _ _ _ _ _ _
    (ld_group x0 h o0 o1 o2 o3 i0 i1 i2 i3 e0 e1 e2 e3) (ld_group x1 h o0 o1 o2 o3 i0 i1 i2 i3 e0 e1 e2 e3)
    (fun j d => ld_k x2 k ik _ j d (hk d)) (fun j d => ld_k x3 k ik _ j d (hk d)) (fun j d => ld_k x4 k ik _ j d (hk d))
    (fun j d => ld_k x5 k ik _ j d (hk d)) (fun j d => ld_k x6 k ik _ j d (hk d)) (fun j d => ld_k x7 k ik _ j d (hk d))
    (fun j d => ld_x x8 k ix _ j d (hk d)) (fun j d => ld_x x9 k ix _ j d (hk d)) (fun r => ld_s x11 s is h r es.symm) g q d

theorem head0_eq (g : Fin 4) (q : Fin 128) (d : Fin 64) : k0_pay75 x0 x1 x2 x3 x4 x5 x6 x7 x8 x9 x10 x11 (ix2 (grow g q) d)
    = blkOut x0 x1 x2 x3 x4 x5 x6 x7 x8 x9 x10 x11 0 g q d :=
  (congrFun (head0 ..) _).trans (head_at x0 x1 x2 x3 x4 x5 x6 x7 x8 x9 x10 x11 0 0 64 128 192 0 0 _ _ _ _ _ _ _ rfl rfl rfl rfl rfl rfl g q d)
theorem head1_eq (g : Fin 4) (q : Fin 128) (d : Fin 64) : k0_pay76 x0 x1 x2 x3 x4 x5 x6 x7 x8 x9 x10 x11 (ix2 (grow g q) d)
    = blkOut x0 x1 x2 x3 x4 x5 x6 x7 x8 x9 x10 x11 1 g q d :=
  (congrFun (head1 ..) _).trans (head_at x0 x1 x2 x3 x4 x5 x6 x7 x8 x9 x10 x11 1 256 320 384 448 64 1 _ _ _ _ _ _ _ rfl rfl rfl rfl rfl rfl g q d)
theorem head2_eq (g : Fin 4) (q : Fin 128) (d : Fin 64) : k0_pay77 x0 x1 x2 x3 x4 x5 x6 x7 x8 x9 x10 x11 (ix2 (grow g q) d)
    = blkOut x0 x1 x2 x3 x4 x5 x6 x7 x8 x9 x10 x11 2 g q d :=
  (congrFun (head2 ..) _).trans (head_at x0 x1 x2 x3 x4 x5 x6 x7 x8 x9 x10 x11 2 512 576 640 704 128 2 _ _ _ _ _ _ _ rfl rfl rfl rfl rfl rfl g q d)
theorem head3_eq (g : Fin 4) (q : Fin 128) (d : Fin 64) : k0_pay78 x0 x1 x2 x3 x4 x5 x6 x7 x8 x9 x10 x11 (ix2 (grow g q) d)
    = blkOut x0 x1 x2 x3 x4 x5 x6 x7 x8 x9 x10 x11 3 g q d :=
  (congrFun (head3 ..) _).trans (head_at x0 x1 x2 x3 x4 x5 x6 x7 x8 x9 x10 x11 3 768 832 896 960 192 3 _ _ _ _ _ _ _ rfl rfl rfl rfl rfl rfl g q d)

/-- The block's result at a row and a column of the whole width. -/
def blkAt (y : S1x128x1024.Idx) : EReal :=
  blkOut x0 x1 x2 x3 x4 x5 x6 x7 x8 x9 x10 x11 ⟨(y 2).val / 256, by have h : (y 2).val < 1024 := (y 2).isLt; omega⟩ ⟨(y 2).val / 64 % 4, by omega⟩
    ⟨(y 1).val, (y 1).isLt⟩ ⟨(y 2).val % 64, by omega⟩

theorem blkOut_congr {h h' g g' : Fin 4} {q q' : Fin 128} {d d' : Fin 64} (eh : h.val = h'.val) (eg : g.val = g'.val) (eq : q.val = q'.val) (ed : d.val = d'.val) :
    blkOut x0 x1 x2 x3 x4 x5 x6 x7 x8 x9 x10 x11 h g q d = blkOut x0 x1 x2 x3 x4 x5 x6 x7 x8 x9 x10 x11 h' g' q' d' := by
  rw [Fin.ext eh, Fin.ext eg, Fin.ext eq, Fin.ext ed]

theorem blkAt_emb (h g : Fin 4) (off : ℕ) (inb) (ho : off = h.val * 256 + g.val * 64) (q : Fin 128) (d : Fin 64) :
    blkAt x0 x1 x2 x3 x4 x5 x6 x7 x8 x9 x10 x11 ((Rect.unit (s := S1x128x1024) ![0, 0, off] S1x128x64.size inb).emb (ix3 0 q d))
      = blkOut x0 x1 x2 x3 x4 x5 x6 x7 x8 x9 x10 x11 h g q d :=
  blkOut_congr x0 x1 x2 x3 x4 x5 x6 x7 x8 x9 x10 x11 (show (off + 1 * d.val) / 256 = h.val by omega) (show (off + 1 * d.val) / 64 % 4 = g.val by omega)
    (show 0 + 1 * q.val = q.val by omega) (show (off + 1 * d.val) % 64 = d.val by omega)

/-- A stored piece agrees with the block's result. -/
theorem piece_at (h g : Fin 4) (off : ℕ) (inb) (ho : off = h.val * 256 + g.val * 64) (w : S1x128x64.Idx → EReal)
    (hw : ∀ q d, w (ix3 0 q d) = blkOut x0 x1 x2 x3 x4 x5 x6 x7 x8 x9 x10 x11 h g q d) (x : S1x128x64.Idx) :
    w x = blkAt x0 x1 x2 x3 x4 x5 x6 x7 x8 x9 x10 x11 ((Rect.unit (s := S1x128x1024) ![0, 0, off] S1x128x64.size inb).emb x) := by
  obtain ⟨q, d, rfl⟩ : ∃ (q : Fin 128) (d : Fin 64), x = ix3 0 q d :=
    ⟨x 1, x 2, funext fun a => by match a with | ⟨0, _⟩ => exact Fin.ext (show (x 0).val = 0 by have h : (x 0).val < 1 := (x 0).isLt; omega) | ⟨1, _⟩ => rfl | ⟨2, _⟩ => rfl⟩
  rw [hw, blkAt_emb x0 x1 x2 x3 x4 x5 x6 x7 x8 x9 x10 x11 h g off inb ho]

theorem row0 (o : FVec Ideal S512x64 .f32) (q : Fin 128) (d : Fin 64) : k0_pay47 o (ix3 0 q d) = o (ix2 (grow 0 q) d) :=
  (piece0 o q d).trans (congrArg (fun t => o (ix2 t d)) (Fin.ext (show q.val = 0 * 128 + q.val by omega)))
theorem row1 (o : FVec Ideal S512x64 .f32) (q : Fin 128) (d : Fin 64) : k0_pay48 o (ix3 0 q d) = o (ix2 (grow 1 q) d) :=
  (piece1 o q d).trans (congrArg (fun t => o (ix2 t d)) (Fin.ext (show 128 + q.val = 1 * 128 + q.val by omega)))
theorem row2 (o : FVec Ideal S512x64 .f32) (q : Fin 128) (d : Fin 64) : k0_pay49 o (ix3 0 q d) = o (ix2 (grow 2 q) d) :=
  (piece2 o q d).trans (congrArg (fun t => o (ix2 t d)) (Fin.ext (show 256 + q.val = 2 * 128 + q.val by omega)))
theorem row3 (o : FVec Ideal S512x64 .f32) (q : Fin 128) (d : Fin 64) : k0_pay50 o (ix3 0 q d) = o (ix2 (grow 3 q) d) :=
  (piece3 o q d).trans (congrArg (fun t => o (ix2 t d)) (Fin.ext (show 384 + q.val = 3 * 128 + q.val by omega)))

/-- The window the block is written to holds, at every index, the block's result. -/
theorem out_eq (y : S1x128x1024.Idx) : out0_12 x0 x1 x2 x3 x4 x5 x6 x7 x8 x9 x10 x11 y = blkAt x0 x1 x2 x3 x4 x5 x6 x7 x8 x9 x10 x11 y := by
  unfold out0_12
  refine View.canon_apply_of_pieces (Val := Elt Ideal) (blkAt x0 x1 x2 x3 x4 x5 x6 x7 x8 x9 x10 x11) _ ?_ y (cover0_12 _ _ _ _ _ _ _ _ _ _ _ _ _ _ _ _ y)
  refine List.forall_mem_cons.2 ⟨piece_at x0 x1 x2 x3 x4 x5 x6 x7 x8 x9 x10 x11 3 3 960 inb_S1x128x1024_S1x128x64_0_0_960 rfl _ fun q d => (row3 (k0_pay78 x0 x1 x2 x3 x4 x5 x6 x7 x8 x9 x10 x11) q d).trans (head3_eq ..), ?_⟩
  refine List.forall_mem_cons.2 ⟨piece_at x0 x1 x2 x3 x4 x5 x6 x7 x8 x9 x10 x11 3 2 896 inb_S1x128x1024_S1x128x64_0_0_896 rfl _ fun q d => (row2 (k0_pay78 x0 x1 x2 x3 x4 x5 x6 x7 x8 x9 x10 x11) q d).trans (head3_eq ..), ?_⟩
  refine List.forall_mem_cons.2 ⟨piece_at x0 x1 x2 x3 x4 x5 x6 x7 x8 x9 x10 x11 3 1 832 inb_S1x128x1024_S1x128x64_0_0_832 rfl _ fun q d => (row1 (k0_pay78 x0 x1 x2 x3 x4 x5 x6 x7 x8 x9 x10 x11) q d).trans (head3_eq ..), ?_⟩
  refine List.forall_mem_cons.2 ⟨piece_at x0 x1 x2 x3 x4 x5 x6 x7 x8 x9 x10 x11 3 0 768 inb_S1x128x1024_S1x128x64_0_0_768 rfl _ fun q d => (row0 (k0_pay78 x0 x1 x2 x3 x4 x5 x6 x7 x8 x9 x10 x11) q d).trans (head3_eq ..), ?_⟩
  refine List.forall_mem_cons.2 ⟨piece_at x0 x1 x2 x3 x4 x5 x6 x7 x8 x9 x10 x11 2 3 704 inb_S1x128x1024_S1x128x64_0_0_704 rfl _ fun q d => (row3 (k0_pay77 x0 x1 x2 x3 x4 x5 x6 x7 x8 x9 x10 x11) q d).trans (head2_eq ..), ?_⟩
  refine List.forall_mem_cons.2 ⟨piece_at x0 x1 x2 x3 x4 x5 x6 x7 x8 x9 x10 x11 2 2 640 inb_S1x128x1024_S1x128x64_0_0_640 rfl _ fun q d => (row2 (k0_pay77 x0 x1 x2 x3 x4 x5 x6 x7 x8 x9 x10 x11) q d).trans (head2_eq ..), ?_⟩
  refine List.forall_mem_cons.2 ⟨piece_at x0 x1 x2 x3 x4 x5 x6 x7 x8 x9 x10 x11 2 1 576 inb_S1x128x1024_S1x128x64_0_0_576 rfl _ fun q d => (row1 (k0_pay77 x0 x1 x2 x3 x4 x5 x6 x7 x8 x9 x10 x11) q d).trans (head2_eq ..), ?_⟩
  refine List.forall_mem_cons.2 ⟨piece_at x0 x1 x2 x3 x4 x5 x6 x7 x8 x9 x10 x11 2 0 512 inb_S1x128x1024_S1x128x64_0_0_512 rfl _ fun q d => (row0 (k0_pay77 x0 x1 x2 x3 x4 x5 x6 x7 x8 x9 x10 x11) q d).trans (head2_eq ..), ?_⟩
  refine List.forall_mem_cons.2 ⟨piece_at x0 x1 x2 x3 x4 x5 x6 x7 x8 x9 x10 x11 1 3 448 inb_S1x128x1024_S1x128x64_0_0_448 rfl _ fun q d => (row3 (k0_pay76 x0 x1 x2 x3 x4 x5 x6 x7 x8 x9 x10 x11) q d).trans (head1_eq ..), ?_⟩
  refine List.forall_mem_cons.2 ⟨piece_at x0 x1 x2 x3 x4 x5 x6 x7 x8 x9 x10 x11 1 2 384 inb_S1x128x1024_S1x128x64_0_0_384 rfl _ fun q d => (row2 (k0_pay76 x0 x1 x2 x3 x4 x5 x6 x7 x8 x9 x10 x11) q d).trans (head1_eq ..), ?_⟩
  refine List.forall_mem_cons.2 ⟨piece_at x0 x1 x2 x3 x4 x5 x6 x7 x8 x9 x10 x11 1 1 320 inb_S1x128x1024_S1x128x64_0_0_320 rfl _ fun q d => (row1 (k0_pay76 x0 x1 x2 x3 x4 x5 x6 x7 x8 x9 x10 x11) q d).trans (head1_eq ..), ?_⟩
  refine List.forall_mem_cons.2 ⟨piece_at x0 x1 x2 x3 x4 x5 x6 x7 x8 x9 x10 x11 1 0 256 inb_S1x128x1024_S1x128x64_0_0_256 rfl _ fun q d => (row0 (k0_pay76 x0 x1 x2 x3 x4 x5 x6 x7 x8 x9 x10 x11) q d).trans (head1_eq ..), ?_⟩
  refine List.forall_mem_cons.2 ⟨piece_at x0 x1 x2 x3 x4 x5 x6 x7 x8 x9 x10 x11 0 3 192 inb_S1x128x1024_S1x128x64_0_0_192 rfl _ fun q d => (row3 (k0_pay75 x0 x1 x2 x3 x4 x5 x6 x7 x8 x9 x10 x11) q d).trans (head0_eq ..), ?_⟩
  refine List.forall_mem_cons.2 ⟨piece_at x0 x1 x2 x3 x4 x5 x6 x7 x8 x9 x10 x11 0 2 128 inb_S1x128x1024_S1x128x64_0_0_128 rfl _ fun q d => (row2 (k0_pay75 x0 x1 x2 x3 x4 x5 x6 x7 x8 x9 x10 x11) q d).trans (head0_eq ..), ?_⟩
  refine List.forall_mem_cons.2 ⟨piece_at x0 x1 x2 x3 x4 x5 x6 x7 x8 x9 x10 x11 0 1 64 inb_S1x128x1024_S1x128x64_0_0_64 rfl _ fun q d => (row1 (k0_pay75 x0 x1 x2 x3 x4 x5 x6 x7 x8 x9 x10 x11) q d).trans (head0_eq ..), ?_⟩
  refine List.forall_mem_cons.2 ⟨piece_at x0 x1 x2 x3 x4 x5 x6 x7 x8 x9 x10 x11 0 0 0 inb_S1x128x1024_S1x128x64_0_0_0 rfl _ fun q d => (row0 (k0_pay75 x0 x1 x2 x3 x4 x5 x6 x7 x8 x9 x10 x11) q d).trans (head0_eq ..), List.forall_mem_nil _⟩
end

end Cert.KernelIdeal.Attn

end
-- ==== Proof.AttnReads.lean ====
/-
  What each grid point's windows read: a block of 128 queries, the key and value blocks before, at and after it, the
  context, the mask table's entry and the sinks.
-/
module

public import proofs.«01_k».proof.Proof.AttnTables
public import proofs.«01_k».proof.Proof.AttnBlock

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

theorem index_0 : ∀ t : Fin cfg0.N, win0_0.index t = ![t.val / 64, t.val % 64, 0] := (by decide +kernel : ∀ t : Fin grid0.N, _)
theorem index_1 : ∀ t : Fin cfg0.N, win0_1.index t = ![t.val / 64, t.val % 64, 0] := (by decide +kernel : ∀ t : Fin grid0.N, _)
theorem index_2 : ∀ t : Fin cfg0.N, win0_2.index t = ![t.val / 64, t.val % 64 - 1, 0] := (by decide +kernel : ∀ t : Fin grid0.N, _)
theorem index_3 : ∀ t : Fin cfg0.N, win0_3.index t = ![t.val / 64, t.val % 64, 0] := (by decide +kernel : ∀ t : Fin grid0.N, _)
theorem index_4 : ∀ t : Fin cfg0.N, win0_4.index t = ![t.val / 64, min (t.val % 64 + 1) 63, 0] := (by decide +kernel : ∀ t : Fin grid0.N, _)
theorem index_5 : ∀ t : Fin cfg0.N, win0_5.index t = ![t.val / 64, t.val % 64 - 1, 0] := (by decide +kernel : ∀ t : Fin grid0.N, _)
theorem index_6 : ∀ t : Fin cfg0.N, win0_6.index t = ![t.val / 64, t.val % 64, 0] := (by decide +kernel : ∀ t : Fin grid0.N, _)
theorem index_7 : ∀ t : Fin cfg0.N, win0_7.index t = ![t.val / 64, min (t.val % 64 + 1) 63, 0] := (by decide +kernel : ∀ t : Fin grid0.N, _)
theorem index_8 : ∀ t : Fin cfg0.N, win0_8.index t = ![t.val / 64, 0, 0] := (by decide +kernel : ∀ t : Fin grid0.N, _)
theorem index_9 : ∀ t : Fin cfg0.N, win0_9.index t = ![t.val / 64, 0, 0] := (by decide +kernel : ∀ t : Fin grid0.N, _)
theorem index_10 : ∀ t : Fin cfg0.N, win0_10.index t = ![if t.val % 64 = 0 then 0 else if t.val % 64 = 63 then 2 else 1, 0, 0, 0] := (by decide +kernel : ∀ t : Fin grid0.N, _)
theorem index_11 : ∀ t : Fin cfg0.N, win0_11.index t = ![0, 0, 0] := (by decide +kernel : ∀ t : Fin grid0.N, _)
theorem index_12 : ∀ t : Fin cfg0.N, win0_12.index t = ![t.val / 64, t.val % 64, 0] := (by decide +kernel : ∀ t : Fin grid0.N, _)

/-- An index of a block times the block's extent, plus the place in the block. -/
theorem place {q n ext r v : ℕ} (h : q = n) (hv : n * ext + r = v) : q * ext + 1 * r = v := by subst h; omega

theorem first {a b : ℕ} (h : a = b) : a * 1 + 0 = b := by omega
theorem all (ext e : ℕ) : 0 * ext + e = e := by omega

theorem read_0 (t : Fin cfg0.N) (A : S4x8192x1024.Idx → EReal) (b : Fin 4) (r : Fin 128) (n : Fin 8192) (e : Fin 1024)
    (hb : t.val / 64 = b.val) (hn : t.val % 64 * 128 + r.val = n.val) :
    ((cfg0.win 0).blk t).view.read (Elt Ideal) A (ix3 0 r e) = A (ix3 b n e) := by
  rw [View.read_apply]
  refine congrArg A (funext fun a => Fin.ext ?_)
  match a with
  | ⟨0, _⟩ => exact place (congrFun (index_0 t) 0) (first hb)
  | ⟨1, _⟩ => exact place (congrFun (index_0 t) 1) hn
  | ⟨2, _⟩ => exact place (congrFun (index_0 t) 2) (all _ _)

theorem read_1 (t : Fin cfg0.N) (A : S4x8192x1024.Idx → EReal) (b : Fin 4) (r : Fin 128) (n : Fin 8192) (e : Fin 1024)
    (hb : t.val / 64 = b.val) (hn : t.val % 64 * 128 + r.val = n.val) :
    ((cfg0.win 1).blk t).view.read (Elt Ideal) A (ix3 0 r e) = A (ix3 b n e) := by
  rw [View.read_apply]
  refine congrArg A (funext fun a => Fin.ext ?_)
  match a with
  | ⟨0, _⟩ => exact place (congrFun (index_1 t) 0) (first hb)
  | ⟨1, _⟩ => exact place (congrFun (index_1 t) 1) hn
  | ⟨2, _⟩ => exact place (congrFun (index_1 t) 2) (all _ _)

theorem read_2 (t : Fin cfg0.N) (A : S4x8192x256.Idx → EReal) (b : Fin 4) (r : Fin 128) (n : Fin 8192) (e : Fin 256)
    (hb : t.val / 64 = b.val) (hn : (t.val % 64 - 1) * 128 + r.val = n.val) :
    ((cfg0.win 2).blk t).view.read (Elt Ideal) A (ix3 0 r e) = A (ix3 b n e) := by
  rw [View.read_apply]
  refine congrArg A (funext fun a => Fin.ext ?_)
  match a with
  | ⟨0, _⟩ => exact place (congrFun (index_2 t) 0) (first hb)
  | ⟨1, _⟩ => exact place (congrFun (index_2 t) 1) hn
  | ⟨2, _⟩ => exact place (congrFun (index_2 t) 2) (all _ _)

theorem read_3 (t : Fin cfg0.N) (A : S4x8192x256.Idx → EReal) (b : Fin 4) (r : Fin 128) (n : Fin 8192) (e : Fin 256)
    (hb : t.val / 64 = b.val) (hn : t.val % 64 * 128 + r.val = n.val) :
    ((cfg0.win 3).blk t).view.read (Elt Ideal) A (ix3 0 r e) = A (ix3 b n e) := by
  rw [View.read_apply]
  refine congrArg A (funext fun a => Fin.ext ?_)
  match a with
  | ⟨0, _⟩ => exact place (congrFun (index_3 t) 0) (first hb)
  | ⟨1, _⟩ => exact place (congrFun (index_3 t) 1) hn
  | ⟨2, _⟩ => exact place (congrFun (index_3 t) 2) (all _ _)

theorem read_4 (t : Fin cfg0.N) (A : S4x8192x256.Idx → EReal) (b : Fin 4) (r : Fin 128) (n : Fin 8192) (e : Fin 256)
    (hb : t.val / 64 = b.val) (hn : min (t.val % 64 + 1) 63 * 128 + r.val = n.val) :
    ((cfg0.win 4).blk t).view.read (Elt Ideal) A (ix3 0 r e) = A (ix3 b n e) := by
  rw [View.read_apply]
  refine congrArg A (funext fun a => Fin.ext ?_)
  match a with
  | ⟨0, _⟩ => exact place (congrFun (index_4 t) 0) (first hb)
  | ⟨1, _⟩ => exact place (congrFun (index_4 t) 1) hn
  | ⟨2, _⟩ => exact place (congrFun (index_4 t) 2) (all _ _)

theorem read_5 (t : Fin cfg0.N) (A : S4x8192x256.Idx → EReal) (b : Fin 4) (r : Fin 128) (n : Fin 8192) (e : Fin 256)
    (hb : t.val / 64 = b.val) (hn : (t.val % 64 - 1) * 128 + r.val = n.val) :
    ((cfg0.win 5).blk t).view.read (Elt Ideal) A (ix3 0 r e) = A (ix3 b n e) := by
  rw [View.read_apply]
  refine congrArg A (funext fun a => Fin.ext ?_)
  match a with
  | ⟨0, _⟩ => exact place (congrFun (index_5 t) 0) (first hb)
  | ⟨1, _⟩ => exact place (congrFun (index_5 t) 1) hn
  | ⟨2, _⟩ => exact place (congrFun (index_5 t) 2) (all _ _)

theorem read_6 (t : Fin cfg0.N) (A : S4x8192x256.Idx → EReal) (b : Fin 4) (r : Fin 128) (n : Fin 8192) (e : Fin 256)
    (hb : t.val / 64 = b.val) (hn : t.val % 64 * 128 + r.val = n.val) :
    ((cfg0.win 6).blk t).view.read (Elt Ideal) A (ix3 0 r e) = A (ix3 b n e) := by
  rw [View.read_apply]
  refine congrArg A (funext fun a => Fin.ext ?_)
  match a with
  | ⟨0, _⟩ => exact place (congrFun (index_6 t) 0) (first hb)
  | ⟨1, _⟩ => exact place (congrFun (index_6 t) 1) hn
  | ⟨2, _⟩ => exact place (congrFun (index_6 t) 2) (all _ _)

theorem read_7 (t : Fin cfg0.N) (A : S4x8192x256.Idx → EReal) (b : Fin 4) (r : Fin 128) (n : Fin 8192) (e : Fin 256)
    (hb : t.val / 64 = b.val) (hn : min (t.val % 64 + 1) 63 * 128 + r.val = n.val) :
    ((cfg0.win 7).blk t).view.read (Elt Ideal) A (ix3 0 r e) = A (ix3 b n e) := by
  rw [View.read_apply]
  refine congrArg A (funext fun a => Fin.ext ?_)
  match a with
  | ⟨0, _⟩ => exact place (congrFun (index_7 t) 0) (first hb)
  | ⟨1, _⟩ => exact place (congrFun (index_7 t) 1) hn
  | ⟨2, _⟩ => exact place (congrFun (index_7 t) 2) (all _ _)

theorem read_8 (t : Fin cfg0.N) (A : S4x256x256.Idx → EReal) (b : Fin 4) (r e : Fin 256) (hb : t.val / 64 = b.val) :
    ((cfg0.win 8).blk t).view.read (Elt Ideal) A (ix3 0 r e) = A (ix3 b r e) := by
  rw [View.read_apply]
  refine congrArg A (funext fun a => Fin.ext ?_)
  match a with
  | ⟨0, _⟩ => exact place (congrFun (index_8 t) 0) (first hb)
  | ⟨1, _⟩ => exact place (congrFun (index_8 t) 1) (all _ _)
  | ⟨2, _⟩ => exact place (congrFun (index_8 t) 2) (all _ _)

theorem read_9 (t : Fin cfg0.N) (A : S4x256x256.Idx → EReal) (b : Fin 4) (r e : Fin 256) (hb : t.val / 64 = b.val) :
    ((cfg0.win 9).blk t).view.read (Elt Ideal) A (ix3 0 r e) = A (ix3 b r e) := by
  rw [View.read_apply]
  refine congrArg A (funext fun a => Fin.ext ?_)
  match a with
  | ⟨0, _⟩ => exact place (congrFun (index_9 t) 0) (first hb)
  | ⟨1, _⟩ => exact place (congrFun (index_9 t) 1) (all _ _)
  | ⟨2, _⟩ => exact place (congrFun (index_9 t) 2) (all _ _)

theorem read_10 (t : Fin cfg0.N) (A : S3x1x512x384.Idx → EReal) (w : Fin 3) (r : Fin 512) (j : Fin 384)
    (hw : w.val = if t.val % 64 = 0 then 0 else if t.val % 64 = 63 then 2 else 1) :
    ((cfg0.win 10).blk t).view.read (Elt Ideal) A (ix4 0 0 r j) = A (ix4 w 0 r j) := by
  rw [View.read_apply]
  refine congrArg A (funext fun a => Fin.ext ?_)
  match a with
  | ⟨0, _⟩ => exact place (congrFun (index_10 t) 0) (first hw.symm)
  | ⟨1, _⟩ => exact place (congrFun (index_10 t) 1) (all _ _)
  | ⟨2, _⟩ => exact place (congrFun (index_10 t) 2) (all _ _)
  | ⟨3, _⟩ => exact place (congrFun (index_10 t) 3) (all _ _)

theorem read_11 (t : Fin cfg0.N) (A : S4x512x1.Idx → EReal) (h : Fin 4) (r : Fin 512) :
    ((cfg0.win 11).blk t).view.read (Elt Ideal) A (ix3 h r 0) = A (ix3 h r 0) := by
  rw [View.read_apply]
  refine congrArg A (funext fun a => Fin.ext ?_)
  match a with
  | ⟨0, _⟩ => exact place (congrFun (index_11 t) 0) (all _ _)
  | ⟨1, _⟩ => exact place (congrFun (index_11 t) 1) (all _ _)
  | ⟨2, _⟩ => exact place (congrFun (index_11 t) 2) (all _ _)

/-! The arrays the launch reads. -/

/-- The rotated queries. -/
def roped (c : Dev nD) : S4x8192x1024.Idx → EReal := m ((c : Thread nD τ).loc main_arg0)
/-- The queries as they are. -/
def plain (c : Dev nD) : S4x8192x1024.Idx → EReal := m ((c : Thread nD τ).loc main_arg1)
/-- The keys. -/
def keys (c : Dev nD) : S4x8192x256.Idx → EReal := m ((c : Thread nD τ).loc main_arg2)
/-- The values. -/
def values (c : Dev nD) : S4x8192x256.Idx → EReal := m ((c : Thread nD τ).loc main_arg3)
/-- The context keys. -/
def ctxKeys (c : Dev nD) : S4x256x256.Idx → EReal := m ((c : Thread nD τ).loc main_arg4)
/-- The context values. -/
def ctxVals (c : Dev nD) : S4x256x256.Idx → EReal := m ((c : Thread nD τ).loc main_arg5)
/-- The sinks. -/
def sink (c : Dev nD) : S16.Idx → EReal := m ((c : Thread nD τ).loc main_arg6)

theorem block_0 (c : Dev nD) (t : Fin cfg0.N) : iblk m c 0 t = ((cfg0.win 0).blk t).view.read (Elt Ideal) (roped m c) := by
  unfold roped; rw [← V_main_arg0 m c]; rfl
theorem block_1 (c : Dev nD) (t : Fin cfg0.N) : iblk m c 1 t = ((cfg0.win 1).blk t).view.read (Elt Ideal) (plain m c) := by
  unfold plain; rw [← V_main_arg1 m c]; rfl
theorem block_2 (c : Dev nD) (t : Fin cfg0.N) : iblk m c 2 t = ((cfg0.win 2).blk t).view.read (Elt Ideal) (keys m c) := by
  unfold keys; rw [← V_main_arg2 m c]; rfl
theorem block_3 (c : Dev nD) (t : Fin cfg0.N) : iblk m c 3 t = ((cfg0.win 3).blk t).view.read (Elt Ideal) (keys m c) := by
  unfold keys; rw [← V_main_arg2 m c]; rfl
theorem block_4 (c : Dev nD) (t : Fin cfg0.N) : iblk m c 4 t = ((cfg0.win 4).blk t).view.read (Elt Ideal) (keys m c) := by
  unfold keys; rw [← V_main_arg2 m c]; rfl
theorem block_5 (c : Dev nD) (t : Fin cfg0.N) : iblk m c 5 t = ((cfg0.win 5).blk t).view.read (Elt Ideal) (values m c) := by
  unfold values; rw [← V_main_arg3 m c]; rfl
theorem block_6 (c : Dev nD) (t : Fin cfg0.N) : iblk m c 6 t = ((cfg0.win 6).blk t).view.read (Elt Ideal) (values m c) := by
  unfold values; rw [← V_main_arg3 m c]; rfl
theorem block_7 (c : Dev nD) (t : Fin cfg0.N) : iblk m c 7 t = ((cfg0.win 7).blk t).view.read (Elt Ideal) (values m c) := by
  unfold values; rw [← V_main_arg3 m c]; rfl
theorem block_8 (c : Dev nD) (t : Fin cfg0.N) : iblk m c 8 t = ((cfg0.win 8).blk t).view.read (Elt Ideal) (ctxKeys m c) := by
  unfold ctxKeys; rw [← V_main_arg4 m c]; rfl
theorem block_9 (c : Dev nD) (t : Fin cfg0.N) : iblk m c 9 t = ((cfg0.win 9).blk t).view.read (Elt Ideal) (ctxVals m c) := by
  unfold ctxVals; rw [← V_main_arg5 m c]; rfl
theorem block_10 (c : Dev nD) (t : Fin cfg0.N) : iblk m c 10 t = ((cfg0.win 10).blk t).view.read (Elt Ideal) (table m c) := rfl
theorem block_11 (c : Dev nD) (t : Fin cfg0.N) : iblk m c 11 t = ((cfg0.win 11).blk t).view.read (Elt Ideal) (sinks m c) := rfl

/-- The sequence position of key `j` of block `i`'s window. -/
def posn (i : ℕ) (j : Fin 384) : Fin 8192 := ⟨(128 * i + j.val - 128) % 8192, Nat.mod_lt _ (by omega)⟩

theorem keys_win (c : Dev nD) (t : Fin cfg0.N) (b : Fin 4) (hb : t.val / 64 = b.val) (q : Fin 128) (j : Fin 384) (e : Fin 256) (hj : near (t.val % 64) q j) :
    win3 (iblk m c 2 t) (iblk m c 3 t) (iblk m c 4 t) j e = keys m c (ix3 b (posn (t.val % 64) j) e) := by
  rw [block_2, block_3, block_4]
  unfold win3
  have hl := j.isLt
  obtain ⟨-, h1, h2⟩ := hj
  have hp : (posn (t.val % 64) j).val = 128 * (t.val % 64) + j.val - 128 := Nat.mod_eq_of_lt (by omega)
  split_ifs with c1 c2
  · exact read_2 t (keys m c) b _ _ e hb (by rw [hp]; show (t.val % 64 - 1) * 128 + j.val = _; omega)
  · exact read_3 t (keys m c) b _ _ e hb (by rw [hp]; show t.val % 64 * 128 + (j.val - 128) = _; omega)
  · exact read_4 t (keys m c) b _ _ e hb (by rw [hp]; show min (t.val % 64 + 1) 63 * 128 + (j.val - 128 - 128) = _; omega)

theorem vals_win (c : Dev nD) (t : Fin cfg0.N) (b : Fin 4) (hb : t.val / 64 = b.val) (q : Fin 128) (j : Fin 384) (e : Fin 256) (hj : near (t.val % 64) q j) :
    win3 (iblk m c 5 t) (iblk m c 6 t) (iblk m c 7 t) j e = values m c (ix3 b (posn (t.val % 64) j) e) := by
  rw [block_5, block_6, block_7]
  unfold win3
  have hl := j.isLt
  obtain ⟨-, h1, h2⟩ := hj
  have hp : (posn (t.val % 64) j).val = 128 * (t.val % 64) + j.val - 128 := Nat.mod_eq_of_lt (by omega)
  split_ifs with c1 c2
  · exact read_5 t (values m c) b _ _ e hb (by rw [hp]; show (t.val % 64 - 1) * 128 + j.val = _; omega)
  · exact read_6 t (values m c) b _ _ e hb (by rw [hp]; show t.val % 64 * 128 + (j.val - 128) = _; omega)
  · exact read_7 t (values m c) b _ _ e hb (by rw [hp]; show min (t.val % 64 + 1) 63 * 128 + (j.val - 128 - 128) = _; omega)

/-- The mask's block at a point. -/
def maskBlk (c : Dev nD) (t : Fin cfg0.N) : S1x1x512x384.Idx → EReal := iblk m c 10 t

theorem mask_win (c : Dev nD) (t : Fin cfg0.N) (g : Fin 4) (q : Fin 128) (j : Fin 384) :
    (near (t.val % 64) q j → maskBlk m c t (ix4 0 0 (grow g q) j) = 0)
      ∧ (¬ near (t.val % 64) q j → maskBlk m c t (ix4 0 0 (grow g q) j) = ⊥) := by
  unfold maskBlk
  rw [block_10]
  have hw : (if t.val % 64 = 0 then 0 else if t.val % 64 = 63 then 2 else 1) < 3 := by split_ifs <;> omega
  rw [read_10 t (table m c) ⟨_, hw⟩ (grow g q) j rfl]
  exact mask_eq m c (t.val % 64) (Nat.mod_lt _ (by omega)) ⟨_, hw⟩ rfl (grow g q) q (by unfold grow; show (g.val * 128 + q.val) % 128 = q.val; omega) j

theorem sink_win (c : Dev nD) (t : Fin cfg0.N) (h g : Fin 4) (q : Fin 128) :
    (iblk m c 11 t : S4x512x1.Idx → EReal) (ix3 h (grow g q) 0) = sink m c (ix1 ⟨h.val * 4 + g.val, by omega⟩) := by
  rw [block_11, read_11, sinks_eq]
  exact congrArg (fun z => sink m c (ix1 z)) (Fin.ext (by show h.val * 4 + (g.val * 128 + q.val) / 128 = h.val * 4 + g.val; omega))

end Cert.KernelIdeal.Attn

end
-- ==== Proof.AttnMath.lean ====
/-
  Softmax over all keys with a mask and a sink, against softmax over the keys of a window: on the extended reals.
-/
module

public import Idealize.ShloMosaic.Lib.Pointwise
public import Idealize.ShloMosaic.Lib.Tactic

@[expose] public section

noncomputable section

namespace Cert.AttnMath

open Idealize.ShloMosaic

theorem exp_nonneg (x : EReal) : 0 ≤ Ideal.exp x := by
  induction x with
  | bot => exact le_refl _
  | top => exact le_top
  | coe r => exact EReal.coe_nonneg.2 (Real.exp_pos r).le

theorem exp_low (m : EReal) : Ideal.exp (⊥ - m) = 0 := by
  rw [sub_eq_add_neg, EReal.bot_add]; rfl

theorem exp_pos {x m : EReal} (hx : x ≠ ⊥) (hm : m ≠ ⊤) : 0 < Ideal.exp (x - m) := by
  induction x with
  | bot => exact absurd rfl hx
  | top =>
    induction m with
    | bot => exact EReal.coe_lt_top 0
    | top => exact absurd rfl hm
    | coe s => exact EReal.coe_lt_top 0
  | coe r =>
    induction m with
    | bot => exact EReal.coe_lt_top 0
    | top => exact absurd rfl hm
    | coe s => exact EReal.coe_pos.2 (Real.exp_pos (r - s))

/-- Dividing by a nonzero number multiplies by its inverse. -/
theorem div_eq {x y : EReal} (h : y ≠ 0) : Ideal.div x y = x * y⁻¹ := by
  unfold Ideal.div; rw [if_neg h]

/-- A factor that is neither negative nor infinite passes under a sum. -/
theorem sum_mul {ι : Type} (s : Finset ι) (f : ι → EReal) {r : EReal} (h0 : 0 ≤ r) (h1 : r ≠ ⊤) : (∑ x ∈ s, f x) * r = ∑ x ∈ s, f x * r := by
  classical
  induction s using Finset.induction_on with
  | empty => simp
  | insert a s ha ih => rw [Finset.sum_insert ha, Finset.sum_insert ha, EReal.right_distrib_of_nonneg_of_ne_top h0 h1, ih]

/-- Two families that agree along a matching of their index sets, and vanish off it, have one sum. -/
theorem sum_match {ι κ : Type} [Fintype ι] [Fintype κ] (P : ι → Prop) (Q : κ → Prop) (go : ι → κ) (back : κ → ι)
    (h1 : ∀ j, P j → Q (go j)) (h2 : ∀ x, Q x → P (back x)) (h3 : ∀ j, P j → back (go j) = j) (h4 : ∀ x, Q x → go (back x) = x)
    (f : ι → EReal) (g : κ → EReal) (hf : ∀ j, ¬ P j → f j = 0) (hg : ∀ x, ¬ Q x → g x = 0) (hfg : ∀ j, P j → f j = g (go j)) :
    ∑ j, f j = ∑ x, g x := by
  classical
  rw [← Finset.sum_filter_of_ne (p := P) (fun j _ h => by_contra fun c => h (hf j c)), ← Finset.sum_filter_of_ne (p := Q) (fun j _ h => by_contra fun c => h (hg j c))]
  refine Finset.sum_nbij' go back ?_ ?_ ?_ ?_ ?_
  · exact fun j hj => Finset.mem_filter.2 ⟨Finset.mem_univ _, h1 j (Finset.mem_filter.1 hj).2⟩
  · exact fun x hx => Finset.mem_filter.2 ⟨Finset.mem_univ _, h2 x (Finset.mem_filter.1 hx).2⟩
  · exact fun j hj => h3 j (Finset.mem_filter.1 hj).2
  · exact fun x hx => h4 x (Finset.mem_filter.1 hx).2
  · exact fun j hj => hfg j (Finset.mem_filter.1 hj).2

/-- Two families that agree along a matching of their index sets, and are minus infinity off it, have one supremum. -/
theorem sup_match {ι κ : Type} [Fintype ι] [Fintype κ] (P : ι → Prop) (Q : κ → Prop) (go : ι → κ) (back : κ → ι)
    (h2 : ∀ x, Q x → P (back x)) (h4 : ∀ x, Q x → go (back x) = x)
    (f : ι → EReal) (g : κ → EReal) (hf : ∀ j, ¬ P j → f j = ⊥) (hg : ∀ x, ¬ Q x → g x = ⊥) (hfg : ∀ j, P j → f j = g (go j)) :
    Finset.univ.sup f = Finset.univ.sup g := by
  refine le_antisymm (Finset.sup_le fun j _ => ?_) (Finset.sup_le fun x _ => ?_)
  · by_cases h : P j
    · rw [hfg j h]; exact Finset.le_sup (f := g) (Finset.mem_univ _)
    · rw [hf j h]; exact bot_le
  · by_cases h : Q x
    · rw [← h4 x h, ← hfg _ (h2 x h)]; exact Finset.le_sup (f := f) (Finset.mem_univ _)
    · rw [hg x h]; exact bot_le

/-- A sum over `384 + 256` keys, split. -/
theorem sum_640 (f : Fin 640 → EReal) : ∑ x, f x = (∑ j : Fin 384, f ⟨j.val, by omega⟩) + ∑ j : Fin 256, f ⟨384 + j.val, by omega⟩ :=
  Fin.sum_univ_add (a := 384) (b := 256) f

/-- A sum over `8192 + 256 + 1` keys, split. -/
theorem sum_8449 (f : Fin 8449 → EReal) :
    ∑ x, f x = (∑ j : Fin 8192, f ⟨j.val, by omega⟩) + (∑ j : Fin 256, f ⟨8192 + j.val, by omega⟩) + f ⟨8448, by omega⟩ := by
  refine (Fin.sum_univ_castSucc (n := 8448) f).trans (congrArg (· + f ⟨8448, by omega⟩) ?_)
  exact Fin.sum_univ_add (a := 8192) (b := 256) fun x => f (Fin.castSucc x)

/-- A supremum over `384 + 256` keys, split. -/
theorem sup_640 (f : Fin 640 → EReal) :
    Finset.univ.sup f = max (Finset.univ.sup fun j : Fin 384 => f ⟨j.val, by omega⟩) (Finset.univ.sup fun j : Fin 256 => f ⟨384 + j.val, by omega⟩) := by
  refine le_antisymm (Finset.sup_le fun j _ => ?_) (max_le (Finset.sup_le fun j _ => Finset.le_sup (f := f) (Finset.mem_univ _)) (Finset.sup_le fun j _ => Finset.le_sup (f := f) (Finset.mem_univ _)))
  by_cases h : j.val < 384
  · exact le_max_of_le_left (Finset.le_sup (f := fun j : Fin 384 => f ⟨j.val, by omega⟩) (Finset.mem_univ ⟨j.val, h⟩))
  · refine le_max_of_le_right (le_trans (le_of_eq (congrArg f (Fin.ext ?_))) (Finset.le_sup (f := fun j : Fin 256 => f ⟨384 + j.val, by omega⟩) (Finset.mem_univ ⟨j.val - 384, by omega⟩)))
    show j.val = 384 + (j.val - 384); omega

/-- A supremum over `8192 + 256 + 1` keys, split. -/
theorem sup_8449 (f : Fin 8449 → EReal) :
    Finset.univ.sup f = max (max (Finset.univ.sup fun j : Fin 8192 => f ⟨j.val, by omega⟩) (Finset.univ.sup fun j : Fin 256 => f ⟨8192 + j.val, by omega⟩)) (f ⟨8448, by omega⟩) := by
  refine le_antisymm (Finset.sup_le fun j _ => ?_)
    (max_le (max_le (Finset.sup_le fun j _ => Finset.le_sup (f := f) (Finset.mem_univ _)) (Finset.sup_le fun j _ => Finset.le_sup (f := f) (Finset.mem_univ _))) (Finset.le_sup (f := f) (Finset.mem_univ _)))
  by_cases h : j.val < 8192
  · exact le_max_of_le_left (le_max_of_le_left (Finset.le_sup (f := fun j : Fin 8192 => f ⟨j.val, by omega⟩) (Finset.mem_univ ⟨j.val, h⟩)))
  · by_cases h' : j.val < 8448
    · refine le_max_of_le_left (le_max_of_le_right (le_trans (le_of_eq (congrArg f (Fin.ext ?_)))
        (Finset.le_sup (f := fun j : Fin 256 => f ⟨8192 + j.val, by omega⟩) (Finset.mem_univ ⟨j.val - 8192, by omega⟩))))
      show j.val = 8192 + (j.val - 8192); omega
    · exact le_max_of_le_right (le_of_eq (congrArg f (Fin.ext (show j.val = 8448 by omega))))

/-- The supremum of finitely many numbers below plus infinity is below it. -/
theorem sup_ne_top {n : ℕ} (f : Fin n → EReal) (h : ∀ j, f j ≠ ⊤) : Finset.univ.sup f ≠ ⊤ :=
  ne_of_lt ((Finset.sup_lt_iff (bot_lt_top)).2 fun j _ => lt_of_le_of_ne le_top (h j))

/-- The whole of a row: softmax of all keys' scores `t`, minus infinity off the band, equals the window's. -/
theorem row_eq (s v : Fin 640 → EReal) (t : Fin 8449 → EReal) (snk : EReal) (w : Fin 8192 → EReal) (wx : Fin 256 → EReal)
    (P : Fin 384 → Prop) (Q : Fin 8192 → Prop) (go : Fin 384 → Fin 8192) (back : Fin 8192 → Fin 384)
    (h1 : ∀ j, P j → Q (go j)) (h2 : ∀ x, Q x → P (back x)) (h3 : ∀ j, P j → back (go j) = j) (h4 : ∀ x, Q x → go (back x) = x)
    (hs : ∀ j : Fin 384, ¬ P j → s ⟨j.val, by omega⟩ = ⊥) (ht : ∀ x : Fin 8192, ¬ Q x → t ⟨x.val, by omega⟩ = ⊥)
    (hst : ∀ j : Fin 384, P j → s ⟨j.val, by omega⟩ = t ⟨(go j).val, by omega⟩) (hctx : ∀ j : Fin 256, s ⟨384 + j.val, by omega⟩ = t ⟨8192 + j.val, by omega⟩)
    (hsnk : t ⟨8448, by omega⟩ = snk) (hv : ∀ j : Fin 384, P j → v ⟨j.val, by omega⟩ = w (go j)) (hvx : ∀ j : Fin 256, v ⟨384 + j.val, by omega⟩ = wx j)
    (hfin : ∀ j, s j ≠ ⊤) (hsnk0 : snk ≠ ⊥) (hsnk1 : snk ≠ ⊤) :
    (∑ x, Ideal.exp (s x - max (Finset.univ.sup s) snk) * v x)
        * Ideal.div 1 ((∑ x, Ideal.exp (s x - max (Finset.univ.sup s) snk)) + Ideal.exp (snk - max (Finset.univ.sup s) snk))
      = (∑ x, w x * Ideal.div (Ideal.exp (t ⟨x.val, by omega⟩ - Finset.univ.sup t)) (∑ k, Ideal.exp (t k - Finset.univ.sup t)))
        + ∑ x : Fin 256, wx x * Ideal.div (Ideal.exp (t ⟨8192 + x.val, by omega⟩ - Finset.univ.sup t)) (∑ k, Ideal.exp (t k - Finset.univ.sup t)) := by
  have hsup : Finset.univ.sup t = max (Finset.univ.sup s) snk := by
    rw [sup_8449, sup_640, hsnk]
    refine congrArg (max · snk) (congrArg₂ max (sup_match P Q go back h2 h4 _ _ hs ht hst).symm ?_)
    exact congrArg _ (funext fun j => (hctx j).symm)
  rw [hsup]
  have hm : max (Finset.univ.sup s) snk ≠ ⊤ := fun h => (max_eq_top.1 h).elim (sup_ne_top s hfin) hsnk1
  generalize max (Finset.univ.sup s) snk = M at hm ⊢
  have hloc : ∀ f : Fin 384 → EReal, ∀ g : Fin 8192 → EReal, (∀ j, P j → f j = g (go j)) →
      (∑ j : Fin 384, Ideal.exp (s ⟨j.val, by omega⟩ - M) * f j) = ∑ x : Fin 8192, Ideal.exp (t ⟨x.val, by omega⟩ - M) * g x := fun f g hfg =>
    sum_match P Q go back h1 h2 h3 h4 _ _ (fun j hj => by rw [hs j hj, exp_low, zero_mul]) (fun x hx => by rw [ht x hx, exp_low, zero_mul])
      (fun j hj => by rw [hst j hj, hfg j hj])
  have hden : (∑ x, Ideal.exp (s x - M)) + Ideal.exp (snk - M) = ∑ k, Ideal.exp (t k - M) := by
    rw [sum_640, sum_8449, hsnk]
    refine congrArg (· + _) (congrArg₂ (· + ·) ?_ (Finset.sum_congr rfl fun j _ => by rw [hctx]))
    have e := hloc (fun _ => 1) (fun _ => 1) fun _ _ => rfl
    simpa only [mul_one] using e
  rw [← hden]
  have hpos : 0 < (∑ x, Ideal.exp (s x - M)) + Ideal.exp (snk - M) :=
    lt_of_lt_of_le (exp_pos hsnk0 hm) (le_add_of_nonneg_left (Finset.sum_nonneg fun j _ => exp_nonneg _))
  generalize (∑ x, Ideal.exp (s x - M)) + Ideal.exp (snk - M) = D at hpos ⊢
  simp only [div_eq hpos.ne']
  have hr0 : 0 ≤ D⁻¹ := EReal.inv_nonneg_of_nonneg hpos.le
  have hr1 : D⁻¹ ≠ ⊤ := (EReal.inv_lt_top D).ne
  rw [one_mul, sum_640, EReal.right_distrib_of_nonneg_of_ne_top hr0 hr1, hloc _ w (fun j hj => hv j hj), sum_mul _ _ hr0 hr1, sum_mul _ _ hr0 hr1]
  refine congrArg₂ (· + ·) (Finset.sum_congr rfl fun x _ => ?_) (Finset.sum_congr rfl fun x _ => ?_)
  · rw [mul_comm (Ideal.exp _) (w x), mul_assoc]
  · rw [hctx, hvx, mul_comm (Ideal.exp _) (wx x), mul_assoc]

end Cert.AttnMath

end
-- ==== Proof.AttnRef.lean ====
/-
  The plain attention at an index.
-/
module

public import proofs.«01_k».proof.Proof.Gen.ReferenceIdeal.Read
public import Idealize.ShloMosaic.Lib.Pointwise
public import Idealize.ShloMosaic.Lib.Tactic

@[expose] public section

set_option maxRecDepth 16384

noncomputable section

namespace Cert.ReferenceIdeal.Attn

open Cert.ReferenceIdeal Cert.ReferenceIdeal.Read Idealize.ShloMosaic

theorem low_eq : Ideal.ofBits .f32 4286578688#32 = (⊥ : EReal) := by simp [Ideal.ofBits, Ideal.ieee]

/-- The distance test between two positions, on 32-bit words. -/
theorem band_word (a j : ℕ) (ha : a < 1000000) (hj : j < 1000000) :
    IntOp.cmpi .sle (IntOp.absi (IntOp.subi (BitVec.ofNat 32 a) (BitVec.ofNat 32 j))) 128#32 = BitVec.ofBool (decide (a ≤ j + 128 ∧ j ≤ a + 128)) := by
  unfold IntOp.cmpi IntOp.absi IntOp.subi
  refine congrArg BitVec.ofBool ?_
  rw [BitVec.sle_eq_decide, decide_eq_decide]
  simp only [BitVec.toInt_eq_toNat_cond, BitVec.msb_eq_decide]
  split_ifs <;> simp_all [BitVec.toNat_sub, BitVec.toNat_ofNat] <;> omega

/-- The mask: a key at most 128 positions away. -/
theorem mask_apply (n k : Fin 8192) : val_main_v14 (F := Ideal) (ix2 n k) = BitVec.ofBool (decide (n.val ≤ k.val + 128 ∧ k.val ≤ n.val + 128)) := by
  pointwise [val_main_v14, val_main_v13, val_main_v12, val_main_v11, val_main_v10, val_main_v9, val_main_v8, val_main_v7, val_main_v6]
  exact band_word _ _ (by omega) (by omega)

variable (x0 x1 : (⟨S4x8192x1024, .bf16⟩ : BufTy).Contents (Elt Ideal)) (x2 x3 : (⟨S4x8192x256, .bf16⟩ : BufTy).Contents (Elt Ideal))
  (x4 x5 : (⟨S4x256x256, .bf16⟩ : BufTy).Contents (Elt Ideal)) (x6 : (⟨S16, .f32⟩ : BufTy).Contents (Elt Ideal))

/-- The score against a key of the sequence: the product where the key is near enough, minus infinity elsewhere. -/
theorem loc_apply (b h g : Fin 4) (n k : Fin 8192) : val_main_v15 (F := Ideal) x0 x2 (ix5 b h g n k)
    = if n.val ≤ k.val + 128 ∧ k.val ≤ n.val + 128 then
        ∑ x : Fin 64, (fun a b : EReal => a * b) (x2 (ix3 b k ⟨h.val * 64 + x.val, by omega⟩)) (x0 (ix3 b n ⟨h.val * 256 + g.val * 64 + x.val, by omega⟩))
      else (⊥ : EReal) := by
  pointwise [val_main_v15, val_main_call0_v2, val_main_call0_v1, val_main_call0_v0,
    val_main_v5, val_main_v4, val_main_v3, val_main_v2, val_main_v1, val_main_v0]
  have e : id (val_main_cst (F := Ideal)) ix0 = (⊥ : EReal) := low_eq
  rw [mask_apply, e]
  by_cases h1 : n.val ≤ k.val + 128 ∧ k.val ≤ n.val + 128
  · rw [if_pos h1, decide_eq_true h1]; rfl
  · rw [if_neg h1, decide_eq_false h1]; rfl

/-- The score against a context key. -/
theorem ctx_apply (b h g : Fin 4) (n : Fin 8192) (k : Fin 256) : val_main_v21 (F := Ideal) x1 x4 (ix5 b h g n k)
    = ∑ x : Fin 64, (fun a b : EReal => a * b) (x4 (ix3 b k ⟨h.val * 64 + x.val, by omega⟩)) (x1 (ix3 b n ⟨h.val * 256 + g.val * 64 + x.val, by omega⟩)) := by
  pointwise [val_main_v21, val_main_v20, val_main_v19, val_main_v18, val_main_v17, val_main_v16]

/-- The sink's score. -/
theorem snk_apply (b h g : Fin 4) (n : Fin 8192) (k : Fin 1) : val_main_v24 (F := Ideal) x6 (ix5 b h g n k) = x6 (ix1 ⟨h.val * 4 + g.val, by omega⟩) := by
  pointwise [val_main_v24, val_main_v23, val_main_v22]

/-- All scores of a query: the sequence's, the context's, the sink's. -/
def row (b h g : Fin 4) (n : Fin 8192) (k : Fin 8449) : EReal := val_main_v25 (F := Ideal) x0 x1 x2 x4 x6 (ix5 b h g n k)

theorem row_apply (b h g : Fin 4) (n : Fin 8192) (k : Fin 8449) : row x0 x1 x2 x4 x6 b h g n k
    = if h1 : k.val < 8192 then (val_main_v15 (F := Ideal) x0 x2 (ix5 b h g n ⟨k.val, h1⟩) : EReal)
      else if h2 : k.val - 8192 < 256 then val_main_v21 (F := Ideal) x1 x4 (ix5 b h g n ⟨k.val - 8192, h2⟩)
      else val_main_v24 (F := Ideal) x6 (ix5 b h g n ⟨k.val - 8192 - 256, by omega⟩) := by
  unfold row
  pointwise [val_main_v25]

theorem row_loc (b h g : Fin 4) (n k : Fin 8192) : row x0 x1 x2 x4 x6 b h g n ⟨k.val, by omega⟩ = val_main_v15 (F := Ideal) x0 x2 (ix5 b h g n k) := by
  rw [row_apply, dif_pos k.isLt]
theorem row_ctx (b h g : Fin 4) (n : Fin 8192) (k : Fin 256) : row x0 x1 x2 x4 x6 b h g n ⟨8192 + k.val, by omega⟩ = val_main_v21 (F := Ideal) x1 x4 (ix5 b h g n k) := by
  rw [row_apply, dif_neg (show ¬ 8192 + k.val < 8192 by omega), dif_pos (show 8192 + k.val - 8192 < 256 by omega)]
  exact congrArg (fun t => val_main_v21 (F := Ideal) x1 x4 (ix5 b h g n t)) (Fin.ext (show 8192 + k.val - 8192 = k.val by omega))
theorem row_snk (b h g : Fin 4) (n : Fin 8192) : row x0 x1 x2 x4 x6 b h g n ⟨8448, by omega⟩ = x6 (ix1 ⟨h.val * 4 + g.val, by omega⟩) := by
  rw [row_apply, dif_neg (show ¬ 8448 < 8192 by omega), dif_neg (show ¬ 8448 - 8192 < 256 by omega)]
  exact snk_apply x6 b h g n _

theorem top_single (b h g : Fin 4) (n : Fin 8192) : val_main_v26 (F := Ideal) x0 x1 x2 x4 x6 (ix4 b h g n)
    = Finset.univ.fold max (Ideal.ofBits .f32 0xFF800000#32) (fun k : Fin 8449 => val_main_v25 (F := Ideal) x0 x1 x2 x4 x6 (ix5 b h g n k)) := by
  unfold val_main_v26
  generalize val_main_v25 (F := Ideal) x0 x1 x2 x4 x6 = y0
  rw [Host.reduce_eq_fold_single _ _ _ Gen.reducesTo_S4x4x4x8192x8449_S4x4x4x8192_d4 (by decide)]
  refine congrArg (fun f => Finset.univ.fold max (Ideal.ofBits .f32 0xFF800000#32) f) (funext fun k => ?_)
  exact congrArg y0 (funext fun a => Fin.ext (by match a with | ⟨0, _⟩ => rfl | ⟨1, _⟩ => rfl | ⟨2, _⟩ => rfl | ⟨3, _⟩ => rfl | ⟨4, _⟩ => rfl))

theorem sup_fold {n : ℕ} (r : Fin n → EReal) : Finset.univ.fold max (⊥ : EReal) r = Finset.univ.sup r := rfl

theorem top_max (y0 : (⟨S4x4x4x8192, .f32⟩ : BufTy).Contents (Elt Ideal)) (i : S4x4x4x8192.Idx) :
    maximumf (F := Ideal) (s := S4x4x4x8192) (φ := .f32) (val_main_v27 (F := Ideal)) y0 i = (fun a b : EReal => max a b) ⊥ (y0 i) := by
  show (fun a b : EReal => max a b) (Ideal.ofBits .f32 0xFF800000#32) (y0 i) = _
  rw [low_eq]

/-- The largest of a query's scores. -/
theorem top_apply (b h g : Fin 4) (n : Fin 8192) : val_main_v28 (F := Ideal) x0 x1 x2 x4 x6 (ix4 b h g n) = Finset.univ.sup (row x0 x1 x2 x4 x6 b h g n) := by
  unfold val_main_v28
  rw [top_max, top_single, low_eq]
  exact (max_eq_right bot_le).trans (sup_fold (row x0 x1 x2 x4 x6 b h g n))

/-- The softmax of a query's scores. -/
theorem prob_apply (b h g : Fin 4) (n : Fin 8192) (k : Fin 8449) : val_main_v36 (F := Ideal) x0 x1 x2 x4 x6 (ix5 b h g n k)
    = Ideal.div (Ideal.exp (row x0 x1 x2 x4 x6 b h g n k - Finset.univ.sup (row x0 x1 x2 x4 x6 b h g n)))
        (∑ x, Ideal.exp (row x0 x1 x2 x4 x6 b h g n x - Finset.univ.sup (row x0 x1 x2 x4 x6 b h g n))) := by
  pointwise [val_main_v36, val_main_v35, val_main_v34, val_main_v33, val_main_v32, val_main_v31, val_main_v30, val_main_v29]
  have e : val_main_cst_2 (F := Ideal) (Shape.Idx.first Gen.h_S_) = (0 : EReal) := by
    show Ideal.ofBits .f32 0x00000000#32 = 0
    simp [Ideal.ofBits, Ideal.ieee]
  rw [e, top_apply, zero_add]
  rfl

/-- The attention's result at row `n` of batch `b`, column `col`. -/
theorem out_apply (b : Fin 4) (n : Fin 8192) (col : Fin 1024) (h g : Fin 4) (kc : Fin 256) (hh : h.val = col.val / 256) (hg : g.val = col.val / 64 % 4)
    (hk : kc.val = col.val / 256 * 64 + col.val % 64) :
    val_main_v49 (F := Ideal) x0 x1 x2 x3 x4 x5 x6 (ix3 b n col)
    = (∑ x : Fin 8192, (fun a b : EReal => a * b) (x3 (ix3 b x kc))
          (Ideal.div (Ideal.exp (row x0 x1 x2 x4 x6 b h g n ⟨x.val, by omega⟩ - Finset.univ.sup (row x0 x1 x2 x4 x6 b h g n)))
            (∑ x, Ideal.exp (row x0 x1 x2 x4 x6 b h g n x - Finset.univ.sup (row x0 x1 x2 x4 x6 b h g n)))))
      + ∑ x : Fin 256, (fun a b : EReal => a * b) (x5 (ix3 b x kc))
          (Ideal.div (Ideal.exp (row x0 x1 x2 x4 x6 b h g n ⟨8192 + x.val, by omega⟩ - Finset.univ.sup (row x0 x1 x2 x4 x6 b h g n)))
            (∑ x, Ideal.exp (row x0 x1 x2 x4 x6 b h g n x - Finset.univ.sup (row x0 x1 x2 x4 x6 b h g n)))) := by
  have eh : h = ⟨col.val / 256, by omega⟩ := Fin.ext hh
  have eg : g = ⟨col.val / 64 % 4, by omega⟩ := Fin.ext hg
  have ek : kc = ⟨col.val / 256 * 64 + col.val % 64, by omega⟩ := Fin.ext hk
  rw [eh, eg, ek]
  pointwise [val_main_v49, val_main_v48, val_main_v47, val_main_v46, val_main_v45, val_main_v44, val_main_v43, val_main_v42, val_main_v41, val_main_v40, val_main_v39, val_main_v38, val_main_v37]
  simp only [prob_apply]

end Cert.ReferenceIdeal.Attn

end
-- ==== Proof.AttnValue.lean ====
/-
  The window attention's value claim. At a query the kernel sees 384 keys of the sequence and a mask, the plain
  reference all 8192 and a mask: the keys that are masked in neither are the same.
-/
module

public import proofs.«01_k».proof.Defs
public import proofs.«01_k».proof.Proof.AttnReads
public import proofs.«01_k».proof.Proof.AttnMath
public import proofs.«01_k».proof.Proof.AttnRef
public import proofs.«01_k».proof.Proof.Gen.KernelIdeal.Value
public import proofs.«01_k».proof.Proof.Gen.ReferenceIdeal.Run
public import proofs.«01_k».proof.Proof.Gen.KernelIdeal.Points
public import proofs.«01_k».proof.Proof.Gen.Pre_scores_finite

@[expose] public section

set_option maxRecDepth 16384

noncomputable section

namespace Cert.KernelIdeal.Attn

open Cert.KernelIdeal Cert.KernelIdeal.Gen Idealize.ShloMosaic Idealize.ShloMosaic.TcCoe Idealize.SL.Sem

/-- A real number, seen among the extended ones. -/
def IsReal (a : EReal) : Prop := a ≠ ⊥ ∧ a ≠ ⊤

theorem real_add {a b : EReal} (ha : IsReal a) (hb : IsReal b) : IsReal (a + b) := by
  obtain ⟨a0, a1⟩ := ha
  obtain ⟨b0, b1⟩ := hb
  lift a to ℝ using ⟨a1, a0⟩
  lift b to ℝ using ⟨b1, b0⟩
  rw [← EReal.coe_add]
  exact ⟨EReal.coe_ne_bot _, EReal.coe_ne_top _⟩

theorem real_mul {a b : EReal} (ha : IsReal a) (hb : IsReal b) : IsReal (a * b) := by
  obtain ⟨a0, a1⟩ := ha
  obtain ⟨b0, b1⟩ := hb
  lift a to ℝ using ⟨a1, a0⟩
  lift b to ℝ using ⟨b1, b0⟩
  rw [← EReal.coe_mul]
  exact ⟨EReal.coe_ne_bot _, EReal.coe_ne_top _⟩

/-- A sum of products of real numbers is one. -/
theorem real_dot {n : ℕ} (f g : Fin n → EReal) (hf : ∀ x, IsReal (f x)) (hg : ∀ x, IsReal (g x)) : IsReal (∑ x, f x * g x) :=
  Finset.sum_induction _ IsReal (fun _ _ => real_add) ⟨EReal.zero_ne_bot, EReal.zero_ne_top⟩ fun x _ => real_mul (hf x) (hg x)

/-- The place in block `i`'s window of sequence position `x`. -/
def back (i : ℕ) (x : Fin 8192) : Fin 384 := ⟨(x.val + 128 - 128 * i) % 384, Nat.mod_lt _ (by omega)⟩

theorem near_band (i : ℕ) (hi : i < 64) (q : Fin 128) (n : Fin 8192) (hn : n.val = 128 * i + q.val) (j : Fin 384) (hj : near i q j) :
    n.val ≤ (posn i j).val + 128 ∧ (posn i j).val ≤ n.val + 128 := by
  obtain ⟨h0, h1, h2⟩ := hj
  have hp : (posn i j).val = 128 * i + j.val - 128 := Nat.mod_eq_of_lt (by omega)
  omega

theorem back_val (i : ℕ) (hi : i < 64) (q : Fin 128) (n : Fin 8192) (hn : n.val = 128 * i + q.val) (x : Fin 8192)
    (hx : n.val ≤ x.val + 128 ∧ x.val ≤ n.val + 128) : (back i x).val = x.val + 128 - 128 * i := Nat.mod_eq_of_lt (by omega)

theorem band_near (i : ℕ) (hi : i < 64) (q : Fin 128) (n : Fin 8192) (hn : n.val = 128 * i + q.val) (x : Fin 8192)
    (hx : n.val ≤ x.val + 128 ∧ x.val ≤ n.val + 128) : near i q (back i x) := by
  have hp := back_val i hi q n hn x hx
  unfold near
  omega

theorem back_posn (i : ℕ) (hi : i < 64) (q : Fin 128) (j : Fin 384) (hj : near i q j) : back i (posn i j) = j := by
  obtain ⟨h0, h1, h2⟩ := hj
  have hp : (posn i j).val = 128 * i + j.val - 128 := Nat.mod_eq_of_lt (by omega)
  refine Fin.ext ?_
  show ((posn i j).val + 128 - 128 * i) % 384 = j.val
  omega

theorem posn_back (i : ℕ) (hi : i < 64) (q : Fin 128) (n : Fin 8192) (hn : n.val = 128 * i + q.val) (x : Fin 8192)
    (hx : n.val ≤ x.val + 128 ∧ x.val ≤ n.val + 128) : posn i (back i x) = x := by
  have hp := back_val i hi q n hn x hx
  refine Fin.ext ?_
  show (128 * i + (back i x).val - 128) % 8192 = x.val
  omega

section
variable (x0 x1 : S1x128x1024.Idx → EReal) (x2 x3 x4 x5 x6 x7 : S1x128x256.Idx → EReal) (x8 x9 : S1x256x256.Idx → EReal)
  (x10 : S1x1x512x384.Idx → EReal) (x11 : S4x512x1.Idx → EReal)
  (a0 a1 : S4x8192x1024.Idx → EReal) (a2 a3 : S4x8192x256.Idx → EReal) (a4 a5 : S4x256x256.Idx → EReal) (a6 : S16.Idx → EReal)

/-- A block's result is the plain attention's, when its windows read the arrays as they do. -/
theorem blk_eq (i : ℕ) (hi : i < 64) (b : Fin 4) (q : Fin 128) (n : Fin 8192) (hn : n.val = 128 * i + q.val) (h g : Fin 4) (d : Fin 64) (col : Fin 1024)
    (hh : h.val = col.val / 256) (hg : g.val = col.val / 64 % 4) (hd : d.val = col.val % 64)
    (e0 : ∀ e, x0 (ix3 0 q e) = a0 (ix3 b n e)) (e1 : ∀ e, x1 (ix3 0 q e) = a1 (ix3 b n e))
    (ek : ∀ j e, near i q j → win3 x2 x3 x4 j e = a2 (ix3 b (posn i j) e)) (ev : ∀ j e, near i q j → win3 x5 x6 x7 j e = a3 (ix3 b (posn i j) e))
    (e8 : ∀ j e, x8 (ix3 0 j e) = a4 (ix3 b j e)) (e9 : ∀ j e, x9 (ix3 0 j e) = a5 (ix3 b j e))
    (em : ∀ j, (near i q j → x10 (ix4 0 0 (grow g q) j) = 0) ∧ (¬ near i q j → x10 (ix4 0 0 (grow g q) j) = ⊥))
    (es : x11 (ix3 h (grow g q) 0) = a6 (ix1 ⟨h.val * 4 + g.val, by omega⟩))
    (r0 : ∀ y, IsReal (a0 y)) (r1 : ∀ y, IsReal (a1 y)) (r2 : ∀ y, IsReal (a2 y)) (r4 : ∀ y, IsReal (a4 y)) (r6 : ∀ y, IsReal (a6 y)) :
    blkOut x0 x1 x2 x3 x4 x5 x6 x7 x8 x9 x10 x11 h g q d = Cert.ReferenceIdeal.Read.val_main_v49 (F := Ideal) a0 a1 a2 a3 a4 a5 a6 (ix3 b n col) := by
  refine Eq.trans ?_ (Cert.ReferenceIdeal.Attn.out_apply a0 a1 a2 a3 a4 a5 a6 b n col h g (kcol h d) hh hg (by unfold kcol; show h.val * 64 + d.val = _; omega)).symm
  have near_score : ∀ j : Fin 384, near i q j → blkScore x0 x1 x2 x3 x4 x8 x10 h g q ⟨j.val, by omega⟩
      = ∑ x : Fin 64, a0 (ix3 b n (qcol h g x)) * a2 (ix3 b (posn i j) (kcol h x)) := fun j hj => by
    unfold blkScore
    rw [dif_pos j.isLt, (em j).1 hj, add_zero]
    exact Finset.sum_congr rfl fun x _ => congrArg₂ (fun a b : EReal => a * b) (e0 _) (ek j _ hj)
  have far_score : ∀ j : Fin 384, ¬ near i q j → blkScore x0 x1 x2 x3 x4 x8 x10 h g q ⟨j.val, by omega⟩ = ⊥ := fun j hj => by
    unfold blkScore
    rw [dif_pos j.isLt, (em j).2 hj, EReal.add_bot]
  have ctx_score : ∀ j : Fin 256, blkScore x0 x1 x2 x3 x4 x8 x10 h g q ⟨384 + j.val, by omega⟩
      = ∑ x : Fin 64, a1 (ix3 b n (qcol h g x)) * a4 (ix3 b j (kcol h x)) := fun j => by
    unfold blkScore
    rw [dif_neg (show ¬ 384 + j.val < 384 by omega)]
    refine Finset.sum_congr rfl fun x _ => congrArg₂ (fun a b : EReal => a * b) (e1 _) ((e8 _ _).trans ?_)
    exact congrArg (fun z => a4 (ix3 b z (kcol h x))) (Fin.ext (show 384 + j.val - 384 = j.val by omega))
  refine Cert.AttnMath.row_eq (blkScore x0 x1 x2 x3 x4 x8 x10 h g q) (blkVal x5 x6 x7 x9 h d) (Cert.ReferenceIdeal.Attn.row a0 a1 a2 a4 a6 b h g n)
    (x11 (ix3 h (grow g q) 0)) (fun x => a3 (ix3 b x (kcol h d))) (fun x => a5 (ix3 b x (kcol h d)))
    (near i q) (fun x => n.val ≤ x.val + 128 ∧ x.val ≤ n.val + 128) (posn i) (back i)
    (near_band i hi q n hn) (band_near i hi q n hn) (back_posn i hi q) (posn_back i hi q n hn)
    far_score ?_ ?_ ?_ ?_ ?_ ?_ ?_ ?_ ?_
  · intro x hx
    rw [Cert.ReferenceIdeal.Attn.row_loc, Cert.ReferenceIdeal.Attn.loc_apply, if_neg hx]
  · intro j hj
    rw [near_score j hj, Cert.ReferenceIdeal.Attn.row_loc, Cert.ReferenceIdeal.Attn.loc_apply, if_pos (near_band i hi q n hn j hj)]
    exact Finset.sum_congr rfl fun x _ => mul_comm _ _
  · intro j
    rw [ctx_score j, Cert.ReferenceIdeal.Attn.row_ctx, Cert.ReferenceIdeal.Attn.ctx_apply]
    exact Finset.sum_congr rfl fun x _ => mul_comm _ _
  · rw [Cert.ReferenceIdeal.Attn.row_snk, es]
  · intro j hj
    unfold blkVal
    rw [dif_pos j.isLt]
    exact ev j _ hj
  · intro j
    unfold blkVal
    rw [dif_neg (show ¬ 384 + j.val < 384 by omega)]
    refine (e9 _ _).trans ?_
    exact congrArg (fun z => a5 (ix3 b z (kcol h d))) (Fin.ext (show 384 + j.val - 384 = j.val by omega))
  · intro j
    by_cases hj : j.val < 384
    · by_cases hj' : near i q ⟨j.val, hj⟩
      · rw [near_score ⟨j.val, hj⟩ hj']
        exact (real_dot _ _ (fun _ => r0 _) (fun _ => r2 _)).2
      · rw [far_score ⟨j.val, hj⟩ hj']
        exact bot_ne_top
    · have hl := j.isLt
      rw [show j = ⟨384 + (j.val - 384), by omega⟩ from Fin.ext (show j.val = 384 + (j.val - 384) by omega), ctx_score ⟨j.val - 384, by omega⟩]
      exact (real_dot _ _ (fun _ => r1 _) (fun _ => r4 _)).2
  · rw [es]; exact (r6 _).1
  · rw [es]; exact (r6 _).2

end

/-! The precondition, read: the operands of the scores are real numbers. -/

/-- A number above minus infinity and below plus infinity, as the comparisons say it, is real. -/
theorem real_of_cmp {a lo hi : EReal} (hlo : lo = ⊥) (hhi : hi = ⊤) (h : IntOp.andi (Ideal.cmp .ogt a lo) (Ideal.cmp .olt a hi) = 1#1) : IsReal a := by
  subst hlo hhi
  constructor
  · rintro rfl
    simp [Ideal.cmp, IntOp.andi] at h
  · rintro rfl
    simp [Ideal.cmp, IntOp.andi] at h

theorem lo16 : Ideal.ofBits .bf16 0xFF80#16 = (⊥ : EReal) := by simp [Ideal.ofBits, Ideal.ieee]
theorem hi16 : Ideal.ofBits .bf16 0x7F80#16 = (⊤ : EReal) := by simp [Ideal.ofBits, Ideal.ieee]
theorem lo32 : Ideal.ofBits .f32 0xFF800000#32 = (⊥ : EReal) := by simp [Ideal.ofBits, Ideal.ieee]
theorem hi32 : Ideal.ofBits .f32 0x7F800000#32 = (⊤ : EReal) := by simp [Ideal.ofBits, Ideal.ieee]

variable (m : (ℓ : Loc nD τ sig) → Buf (Elt Ideal) ℓ)

theorem real_roped (h : Cert.Pre_KernelIdeal_scores_finite m) (c : Dev nD) (y) : IsReal (roped m c y) := real_of_cmp lo16 hi16 (congrFun (h c).1 y)
theorem real_plain (h : Cert.Pre_KernelIdeal_scores_finite m) (c : Dev nD) (y) : IsReal (plain m c y) := real_of_cmp lo16 hi16 (congrFun (h c).2.1 y)
theorem real_keys (h : Cert.Pre_KernelIdeal_scores_finite m) (c : Dev nD) (y) : IsReal (keys m c y) := real_of_cmp lo16 hi16 (congrFun (h c).2.2.1 y)
theorem real_ctx (h : Cert.Pre_KernelIdeal_scores_finite m) (c : Dev nD) (y) : IsReal (ctxKeys m c y) := real_of_cmp lo16 hi16 (congrFun (h c).2.2.2.1 y)
theorem real_sink (h : Cert.Pre_KernelIdeal_scores_finite m) (c : Dev nD) (y) : IsReal (sink m c y) := real_of_cmp lo32 hi32 (congrFun (h c).2.2.2.2 y)

/-- The plain attention of the launch's arguments. -/
def plainOut (c : Dev nD) : S4x8192x1024.Idx → EReal :=
  Cert.ReferenceIdeal.Read.val_main_v49 (F := Ideal) (roped m c) (plain m c) (keys m c) (values m c) (ctxKeys m c) (ctxVals m c) (sink m c)

/-- What a grid point leaves, at a row and a column of its block. -/
theorem point_eq (h : Cert.Pre_KernelIdeal_scores_finite m) (c : Dev nD) (t : Fin cfg0.N) (q : Fin 128) (b : Fin 4) (n : Fin 8192) (col : Fin 1024)
    (hb : t.val / 64 = b.val) (hn : t.val % 64 * 128 + q.val = n.val) (hd gr : Fin 4) (d : Fin 64)
    (e1 : hd.val = col.val / 256) (e2 : gr.val = col.val / 64 % 4) (e3 : d.val = col.val % 64) :
    blkOut (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) hd gr q d = plainOut m c (ix3 b n col) :=
  blk_eq _ _ _ _ _ _ _ _ _ _ _ _ (roped m c) (plain m c) (keys m c) (values m c) (ctxKeys m c) (ctxVals m c) (sink m c)
    (t.val % 64) (Nat.mod_lt _ (by omega)) b q n (by omega) hd gr d col e1 e2 e3
    (fun e => (congrFun (block_0 m c t) _).trans (read_0 t (roped m c) b q n e hb hn))
    (fun e => (congrFun (block_1 m c t) _).trans (read_1 t (plain m c) b q n e hb hn))
    (fun j e hj => keys_win m c t b hb q j e hj) (fun j e hj => vals_win m c t b hb q j e hj)
    (fun j e => (congrFun (block_8 m c t) _).trans (read_8 t (ctxKeys m c) b j e hb))
    (fun j e => (congrFun (block_9 m c t) _).trans (read_9 t (ctxVals m c) b j e hb))
    (fun j => mask_win m c t gr q j) (sink_win m c t hd gr q)
    (real_roped m h c) (real_plain m h c) (real_keys m h c) (real_ctx m h c) (real_sink m h c)

/-- Every point writes its block of the plain attention. -/
theorem flushed_eq (h : Cert.Pre_KernelIdeal_scores_finite m) (c : Dev nD) (t : Fin cfg0.N) :
    (dats m 0 c).flushed 12 t = ((cfg0.win 12).blk t).view.read (Elt Ideal) (plainOut m c) := by
  rw [Cert.KernelIdeal.Value.flushed12]
  have ht : t.val < 256 := t.isLt
  funext y
  have hy0 : (y 0).val < 1 := (y 0).isLt
  have hy1 : (y 1).val < 128 := (y 1).isLt
  have hy2 : (y 2).val < 1024 := (y 2).isLt
  rw [View.read_apply]
  have e : ((cfg0.win 12).blk t).view.emb y = (ix3 ⟨t.val / 64, by omega⟩ ⟨t.val % 64 * 128 + (y 1).val, by omega⟩ ⟨(y 2).val, hy2⟩ : S4x8192x1024.Idx) :=
    funext fun a => Fin.ext (by
      match a with
      | ⟨0, _⟩ => exact place (congrFun (index_12 t) 0) (show t.val / 64 * 1 + (y 0).val = t.val / 64 by omega)
      | ⟨1, _⟩ => exact place (congrFun (index_12 t) 1) rfl
      | ⟨2, _⟩ => exact place (congrFun (index_12 t) 2) (all _ _))
  refine Eq.trans ?_ (congrArg (plainOut m c) e).symm
  refine (out_eq (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) ((cfg0.win 12).xinj (grid0.coords t) y)).trans ?_
  exact point_eq m h c t ⟨(y 1).val, hy1⟩ _ _ ⟨(y 2).val, hy2⟩ rfl rfl _ _ _ rfl rfl rfl

/-- The blocks fill the result. -/
theorem covered (i : S4x8192x1024.Idx) : ∃ t : Fin cfg0.N, (cfg0.win 12).flush t = true ∧ i ∈ ((cfg0.win 12).blk t).view.set := by
  have h0 : (i 0).val < 4 := (i 0).isLt
  have h1 : (i 1).val < 8192 := (i 1).isLt
  have h2 : (i 2).val < 1024 := (i 2).isLt
  have hlt : (i 0).val * 64 + (i 1).val / 128 < 256 := by omega
  refine ⟨⟨(i 0).val * 64 + (i 1).val / 128, hlt⟩, flush0_12 _, ?_⟩
  generalize ht : (⟨(i 0).val * 64 + (i 1).val / 128, hlt⟩ : Fin cfg0.N) = t
  have tv : t.val = (i 0).val * 64 + (i 1).val / 128 := by rw [← ht]
  show i ∈ ((View.whole main_v66).slice (win0_12.rect t)).set
  rw [View.set_slice_whole, Rect.mem_set_unit]
  have e0 : win0_12.index t (0 : Fin 3) = t.val / 64 := congrFun (index_12 t) 0
  have e1 : win0_12.index t (1 : Fin 3) = t.val % 64 := congrFun (index_12 t) 1
  have e2 : win0_12.index t (2 : Fin 3) = 0 := congrFun (index_12 t) 2
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 128 ≤ (i 1).val ∧ (i 1).val < win0_12.index t (1 : Fin 3) * 128 + 128; omega
  | ⟨2, _⟩ => show win0_12.index t (2 : Fin 3) * 1024 ≤ (i 2).val ∧ (i 2).val < win0_12.index t (2 : Fin 3) * 1024 + 1024; omega

/-- The launch's result is the plain attention of its arguments. -/
theorem final_eq (h : Cert.Pre_KernelIdeal_scores_finite m) (c : Dev nD) : (dats m 0 c).arrAt 12 cfg0.N = plainOut m c :=
  (dats m 0 c).arrAt_eq_of_cover 12 (plainOut m c) (fun t _ => flushed_eq m h c t) covered

end Cert.KernelIdeal.Attn

namespace Cert.Proof

open Cert.KernelIdeal Cert.KernelIdeal.Gen Idealize.ShloMosaic Idealize.ShloMosaic.TcCoe Idealize.SL.Sem

/-- The window attention's kernel and the plain attention compute one array, wherever the queries, the keys and the sinks are real numbers. -/
theorem algebraic_attn : Cert.algebraic_KernelIdeal_ReferenceIdeal_pre_scores_finite := by
  unfold Cert.algebraic_KernelIdeal_ReferenceIdeal_pre_scores_finite
  intro m g m' g' hpre hagree
  refine ⟨fun c => Cert.KernelIdeal.Attn.plainOut m c,
    (θ_run Cert.KernelIdeal.defs _ _).mono (fun r h c => ⟨(h c).1.trans (Cert.KernelIdeal.Attn.final_eq m hpre c), (h c).2⟩) (Cert.KernelIdeal.Value.run_blocks m g),
    (θ_run Cert.ReferenceIdeal.defs _ _).mono (fun r h c => ⟨(h c).1.trans ?_, (h c).2⟩) (Cert.ReferenceIdeal.Value.run (F := Ideal) m' g')⟩
  obtain ⟨h0, h1, h2, h3, h4, h5, h6⟩ := hagree c
  refine (Cert.ReferenceIdeal.Read.val_main_v49_eq (F := Ideal) m' c).trans ?_
  rw [h0, h1, h2, h3, h4, h5, h6]
  rfl

end Cert.Proof

end
-- ==== Proof.RowMath.lean ====
/-
  What the calls between the mixers compute of one row: the projected row added to the residual, the row brought to unit
  mean square, scaled and shifted, and the softmax of the row's expert scores.
-/
module

public import Idealize.ShloMosaic.Lib.Pipeline.Value
public import Idealize.ShloMosaic.Lib.Pointwise
public import Idealize.ShloMosaic.Lib.Tactic

@[expose] public section

noncomputable section

namespace Cert.Row

open Idealize.ShloMosaic

/-- An entry of the residual plus the gated projection. -/
def mixed (h g : EReal) (o w : Fin 1024 → EReal) : EReal := h + g * ∑ k, o k * w k

/-- One over the root of a row's mean square. -/
def unitScale (x : Fin 1024 → EReal) : EReal :=
  Ideal.rsqrt (Ideal.div (∑ d, x d * x d) (Ideal.ofBits .f32 0x44800000#32) + Ideal.ofBits .f32 0x358637BD#32)

/-- A row of unit mean square, scaled and shifted: entry `d`. -/
def modulated (x gn sc sh : Fin 1024 → EReal) (d : Fin 1024) : EReal :=
  x d * unitScale x * gn d * (1 + sc d) + sh d

theorem mod_congr {x s u u' v v' w w' : EReal} (hu : u = u') (hv : v = v') (hw : w = w') : x * s * u * (1 + v) + w = x * s * u' * (1 + v') + w' := by
  rw [hu, hv, hw]

/-- The softmax of sixteen scores: entry `e`. -/
def chosen (l : Fin 16 → EReal) (e : Fin 16) : EReal :=
  Ideal.div (Ideal.exp (l e - Finset.univ.sup l)) (∑ k, Ideal.exp (l k - Finset.univ.sup l))

/-- Three neighbours of a column, weighted and added, plus the bias. -/
def taps (a b c s0 s1 s2 bias : EReal) : EReal := a * s0 + b * s1 + c * s2 + bias

/-- The entry before the `n`th of a column, zero before the first. -/
def before (y : Fin 8192 → EReal) (n : Fin 8192) : EReal := if h : 1 ≤ n.val then y ⟨n.val - 1, by omega⟩ else 0
/-- The entry after the `n`th of a column, zero after the last. -/
def after (y : Fin 8192 → EReal) (n : Fin 8192) : EReal := if h : n.val + 1 < 8192 then y ⟨n.val + 1, h⟩ else 0

theorem before_of {y : Fin 8192 → EReal} {n n' : Fin 8192} (h : n'.val + 1 = n.val) : before y n = y n' := by
  unfold before
  rw [dif_pos (by omega)]
  exact congrArg y (Fin.ext (show n.val - 1 = n'.val by omega))
theorem before_first {y : Fin 8192 → EReal} {n : Fin 8192} (h : n.val = 0) : before y n = 0 := by
  unfold before
  rw [dif_neg (by omega)]
theorem after_of {y : Fin 8192 → EReal} {n n' : Fin 8192} (h : n'.val = n.val + 1) : after y n = y n' := by
  unfold after
  rw [dif_pos (by omega)]
  exact congrArg y (Fin.ext (show n.val + 1 = n'.val by omega))
theorem after_last {y : Fin 8192 → EReal} {n : Fin 8192} (h : n.val = 8191) : after y n = 0 := by
  unfold after
  rw [dif_neg (by omega)]

/-- The bits of the reductions' starting value are minus infinity. -/
theorem low_eq : Ideal.ofBits .f32 4286578688#32 = (⊥ : EReal) := by simp [Ideal.ofBits, Ideal.ieee]

/-- A maximum taken from minus infinity on is the supremum. -/
theorem fold_max_eq {n : ℕ} (f : Fin n → EReal) :
    Finset.fold max (Ideal.ofBits .f32 4286578688#32) f Finset.univ = Finset.univ.sup f := by
  rw [low_eq]; rfl

theorem one_bits : Ideal.ofBits .f32 0x3F800000#32 = (1 : EReal) := by
  simp [Ideal.ofBits, Ideal.ieee]
  rw [← EReal.coe_mul]
  norm_num
theorem zero_bits : Ideal.ofBits .f32 0x00000000#32 = (0 : EReal) := by simp [Ideal.ofBits, Ideal.ieee]

/-- An index of a block times the block's extent, plus the place in the block. -/
theorem place {q n ext r v : ℕ} (h : q = n) (hv : n * ext + r = v) : q * ext + 1 * r = v := by subst h; omega
theorem first {a b : ℕ} (h : a = b) : a * 1 + 0 = b := by omega
theorem all (ext e : ℕ) : 0 * ext + e = e := by omega

end Cert.Row

end
-- ==== Proof.HeadMath.lean ====
/-
  What the input projections do with a row and its heads: the modulated row is a row of real numbers, so is its projection,
  and of such numbers the sums taken through tables of zeros and ones are the sums over the heads.
-/
module

public import proofs.«01_k».proof.Proof.RowMath

@[expose] public section

noncomputable section

namespace Cert.Row

open Idealize.ShloMosaic

/-- A real number, seen among the extended ones. -/
def IsNum (a : EReal) : Prop := a ≠ ⊥ ∧ a ≠ ⊤

theorem num_coe (r : ℝ) : IsNum (r : EReal) := ⟨EReal.coe_ne_bot r, EReal.coe_ne_top r⟩

theorem num_add {a b : EReal} (ha : IsNum a) (hb : IsNum b) : IsNum (a + b) := by
  obtain ⟨a0, a1⟩ := ha
  obtain ⟨b0, b1⟩ := hb
  lift a to ℝ using ⟨a1, a0⟩
  lift b to ℝ using ⟨b1, b0⟩
  rw [← EReal.coe_add]
  exact num_coe _

theorem num_mul {a b : EReal} (ha : IsNum a) (hb : IsNum b) : IsNum (a * b) := by
  obtain ⟨a0, a1⟩ := ha
  obtain ⟨b0, b1⟩ := hb
  lift a to ℝ using ⟨a1, a0⟩
  lift b to ℝ using ⟨b1, b0⟩
  rw [← EReal.coe_mul]
  exact num_coe _

theorem num_zero : IsNum 0 := ⟨EReal.zero_ne_bot, EReal.zero_ne_top⟩
theorem num_one : IsNum 1 := num_coe 1

theorem num_sum {n : ℕ} (f : Fin n → EReal) (hf : ∀ k, IsNum (f k)) : IsNum (∑ k, f k) :=
  Finset.sum_induction _ IsNum (fun _ _ => num_add) num_zero fun k _ => hf k

theorem num_sub_self {a : EReal} (h : IsNum a) : a - a = 0 := by
  obtain ⟨a0, a1⟩ := h
  lift a to ℝ using ⟨a1, a0⟩
  rw [← EReal.coe_sub, sub_self, EReal.coe_zero]

theorem square_nonneg (a : EReal) : 0 ≤ a * a := by
  induction a with
  | bot => rw [EReal.bot_mul_bot]; exact le_top
  | top => rw [EReal.top_mul_top]; exact le_top
  | coe r => rw [← EReal.coe_mul]; exact EReal.coe_nonneg.mpr (mul_self_nonneg r)

theorem square_top {a : EReal} (h : ¬IsNum a) : a * a = ⊤ := by
  induction a with
  | bot => exact EReal.bot_mul_bot
  | top => exact EReal.top_mul_top
  | coe r => exact absurd (num_coe r) h

/-! The constants. -/

theorem bits_1024 : Ideal.ofBits .f32 0x44800000#32 = ((1024 : ℝ) : EReal) := by
  simp [Ideal.ofBits, Ideal.ieee]
  rw [← EReal.coe_mul]
  norm_num
theorem bits_64 : Ideal.ofBits .f32 0x42800000#32 = ((64 : ℝ) : EReal) := by
  simp [Ideal.ofBits, Ideal.ieee]
  rw [← EReal.coe_mul]
  norm_num
theorem bits_64th : Ideal.ofBits .f32 0x3C800000#32 = ((1 / 64 : ℝ) : EReal) := by
  simp [Ideal.ofBits, Ideal.ieee]
  rw [← EReal.coe_mul]
  norm_num
theorem bits_8th : Ideal.ofBits .f32 0x3E000000#32 = ((1 / 8 : ℝ) : EReal) := by
  simp [Ideal.ofBits, Ideal.ieee]
  rw [← EReal.coe_mul]
  norm_num
theorem bits_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee]

theorem div_num {s r : ℝ} (hr : r ≠ 0) : Ideal.div (s : EReal) (r : EReal) = ((s / r : ℝ) : EReal) := by
  unfold Ideal.div
  rw [if_neg (by exact_mod_cast hr), ← EReal.coe_inv, ← EReal.coe_mul, div_eq_mul_inv]

/-- Dividing by 64 is multiplying by its reciprocal. -/
theorem div_64 (s : EReal) : Ideal.div s (Ideal.ofBits .f32 0x42800000#32) = s * Ideal.ofBits .f32 0x3C800000#32 := by
  rw [bits_64, bits_64th]
  unfold Ideal.div
  rw [if_neg (by norm_num), ← EReal.coe_inv, one_div]

theorem num_root {s : ℝ} (h : 0 < s) : IsNum (Ideal.rsqrt (s : EReal)) := by
  show IsNum (if s < 0 then ⊥ else if s = 0 then ⊤ else ((Real.sqrt s)⁻¹ : ℝ))
  rw [if_neg h.not_gt, if_neg h.ne']
  exact num_coe _

/-! A row of unit mean square is a row of real numbers, whatever the row. -/

theorem num_unit (x : Fin 1024 → EReal) (d : Fin 1024) : IsNum (x d * unitScale x) := by
  obtain ⟨e, he, heq⟩ := bits_eps
  unfold unitScale
  rw [heq, bits_1024]
  by_cases h : ∀ k, IsNum (x k)
  · have hs : IsNum (∑ k, x k * x k) := num_sum _ fun k => num_mul (h k) (h k)
    have h0 : 0 ≤ ∑ k, x k * x k := Finset.sum_nonneg fun k _ => square_nonneg (x k)
    refine num_mul (h d) ?_
    generalize (∑ k, x k * x k) = s at hs h0
    obtain ⟨s0, s1⟩ := hs
    lift s to ℝ using ⟨s1, s0⟩
    have h0' : 0 ≤ s := EReal.coe_nonneg.mp h0
    rw [div_num (by norm_num), ← EReal.coe_add]
    exact num_root (by positivity)
  · obtain ⟨k, hk⟩ := not_forall.mp h
    have ht : ∑ k, x k * x k = ⊤ := top_le_iff.mp ((square_top hk).symm.trans_le
      (Finset.single_le_sum (f := fun k => x k * x k) (fun k _ => square_nonneg (x k)) (Finset.mem_univ k)))
    have hd : Ideal.div ⊤ ((1024 : ℝ) : EReal) = ⊤ := by
      unfold Ideal.div
      rw [if_neg (by norm_num), ← EReal.coe_inv, EReal.top_mul_coe_of_pos (by norm_num)]
    rw [ht, hd, EReal.top_add_coe]
    show IsNum (x d * 0)
    rw [mul_zero]
    exact num_zero

theorem num_modulated {x gn sc sh : Fin 1024 → EReal} (hg : ∀ k, IsNum (gn k)) (hc : ∀ k, IsNum (sc k)) (hs : ∀ k, IsNum (sh k)) (d : Fin 1024) :
    IsNum (modulated x gn sc sh d) :=
  num_add (num_mul (num_mul (num_unit x d) (hg d)) (num_add num_one (hc d))) (hs d)

/-- A column of the projection of a modulated row. -/
def projected (x gn sc sh w : Fin 1024 → EReal) : EReal := ∑ k, modulated x gn sc sh k * w k

theorem num_projected {x gn sc sh w : Fin 1024 → EReal} (hg : ∀ k, IsNum (gn k)) (hc : ∀ k, IsNum (sc k)) (hs : ∀ k, IsNum (sh k)) (hw : ∀ k, IsNum (w k)) :
    IsNum (projected x gn sc sh w) :=
  num_sum _ fun k => num_mul (num_modulated hg hc hs k) (hw k)

/-! Sums through tables of zeros and ones. -/

/-- A product with a table whose left operand is taken in three parts: the number, what it leaves, and what that leaves. -/
def thrice {n : ℕ} (x g : Fin n → EReal) : EReal :=
  ∑ k, x k * g k + ∑ k, (x k - x k) * g k + ∑ k, (x k - x k - (x k - x k)) * g k

theorem thrice_eq {n : ℕ} {x : Fin n → EReal} (g : Fin n → EReal) (hx : ∀ k, IsNum (x k)) : thrice x g = ∑ k, x k * g k := by
  unfold thrice
  have e1 : ∑ k, (x k - x k) * g k = 0 := Finset.sum_eq_zero fun k _ => by rw [num_sub_self (hx k), zero_mul]
  have e2 : ∑ k, (x k - x k - (x k - x k)) * g k = 0 := Finset.sum_eq_zero fun k _ => by
    rw [num_sub_self (hx k), num_sub_self num_zero, zero_mul]
  rw [e1, e2, add_zero, add_zero]

/-- One where a column belongs to a head, zero elsewhere. -/
def belongs (j l : ℕ) : EReal := if j / 64 = l then 1 else 0

theorem num_belongs (j l : ℕ) : IsNum (belongs j l) := by
  unfold belongs
  split
  · exact num_one
  · exact num_zero

theorem belongs_nonneg (j l : ℕ) : 0 ≤ belongs j l := by
  unfold belongs
  split
  · exact zero_le_one
  · exact le_refl _

/-- The column of a head's entry. -/
def column {n : ℕ} (a : Fin n) (i : Fin 64) : Fin (n * 64) := ⟨a.val * 64 + i.val, by have := a.isLt; have := i.isLt; omega⟩

theorem sum_head {n : ℕ} (x : Fin (n * 64) → EReal) (a : Fin n) : ∑ j, x j * belongs j.val a.val = ∑ i : Fin 64, x (column a i) := by
  rw [← Equiv.sum_comp finProdFinEquiv, Fintype.sum_prod_type, Finset.sum_eq_single a]
  · refine Finset.sum_congr rfl fun i _ => ?_
    have e : (finProdFinEquiv (a, i) : Fin (n * 64)) = column a i := Fin.ext (by
      show i.val + 64 * a.val = a.val * 64 + i.val
      omega)
    rw [e]
    have hb : belongs (column a i).val a.val = 1 := if_pos (show (a.val * 64 + i.val) / 64 = a.val by have := i.isLt; omega)
    rw [hb, mul_one]
  · intro a' _ ha
    refine Finset.sum_eq_zero fun i _ => ?_
    have hb : belongs (finProdFinEquiv (a', i) : Fin (n * 64)).val a.val = 0 := if_neg (by
      show ¬(i.val + 64 * a'.val) / 64 = a.val
      intro h
      exact ha (Fin.ext (by have := i.isLt; omega)))
    rw [hb, mul_zero]
  · intro h
    exact absurd (Finset.mem_univ a) h

theorem sum_pick (r : Fin 128 → EReal) (j : ℕ) (l : Fin 128) (h : j / 64 = l.val) : ∑ k : Fin 128, r k * belongs j k.val = r l := by
  rw [Finset.sum_eq_single l]
  · rw [show belongs j l.val = 1 from if_pos h, mul_one]
  · intro k _ hk
    rw [show belongs j k.val = 0 from if_neg fun e => hk (Fin.ext (e.symm.trans h)), mul_zero]
  · intro h
    exact absurd (Finset.mem_univ l) h

/-- One over the root of a head's mean square. -/
def headScale (s : EReal) : EReal :=
  Ideal.rsqrt (Ideal.div s (Ideal.ofBits .f32 0x42800000#32) + Ideal.ofBits .f32 0x358637BD#32)

/-- The same as the tables give it. -/
def tableScale {n : ℕ} (p : Fin n → EReal) (gs : Fin n → Fin 128 → EReal) (ge : Fin 128 → EReal) : EReal :=
  thrice (fun l => Ideal.rsqrt (thrice (fun k => p k * p k) (fun k => gs k l) * Ideal.ofBits .f32 0x3C800000#32 + Ideal.ofBits .f32 0x358637BD#32)) ge

theorem tableScale_eq {n : ℕ} (hn : n ≤ 128) (p : Fin (n * 64) → EReal) (hp : ∀ k, IsNum (p k)) (gs : Fin (n * 64) → Fin 128 → EReal) (ge : Fin 128 → EReal)
    (j : Fin (n * 64)) (hgs : ∀ k l, gs k l = belongs k.val l.val) (hge : ∀ l : Fin 128, ge l = belongs j.val l.val) (a : Fin n) (ha : j.val / 64 = a.val) :
    tableScale p gs ge = headScale (∑ i : Fin 64, p (column a i) * p (column a i)) := by
  have hs : ∀ l, thrice (fun k => p k * p k) (fun k => gs k l) = ∑ k, p k * p k * belongs k.val l.val := fun l => by
    rw [thrice_eq _ fun k => num_mul (hp k) (hp k)]
    exact Finset.sum_congr rfl fun k _ => by rw [hgs]
  have hr : ∀ l : Fin 128, IsNum (Ideal.rsqrt (thrice (fun k => p k * p k) (fun k => gs k l) * Ideal.ofBits .f32 0x3C800000#32 + Ideal.ofBits .f32 0x358637BD#32)) := fun l => by
    obtain ⟨e, he, heq⟩ := bits_eps
    rw [hs, heq, bits_64th]
    have h1 : IsNum (∑ k, p k * p k * belongs k.val l.val) := num_sum _ fun k => num_mul (num_mul (hp k) (hp k)) (num_belongs _ _)
    have h0 : 0 ≤ ∑ k, p k * p k * belongs k.val l.val := Finset.sum_nonneg fun k _ => mul_nonneg (square_nonneg _) (belongs_nonneg _ _)
    generalize (∑ k, p k * p k * belongs k.val l.val) = s at h1 h0
    obtain ⟨s0, s1⟩ := h1
    lift s to ℝ using ⟨s1, s0⟩
    have h0' : 0 ≤ s := EReal.coe_nonneg.mp h0
    rw [← EReal.coe_mul, ← EReal.coe_add]
    exact num_root (by positivity)
  unfold tableScale
  rw [thrice_eq _ hr]
  have e : ∀ l : Fin 128, ge l = belongs j.val l.val := hge
  simp only [e]
  rw [sum_pick _ _ ⟨a.val, by have := a.isLt; omega⟩ ha, hs]
  unfold headScale
  rw [div_64]
  exact congrArg (fun s => Ideal.rsqrt (s * Ideal.ofBits .f32 0x3C800000#32 + Ideal.ofBits .f32 0x358637BD#32)) (sum_head (fun k => p k * p k) a)

/-- The comparisons that say a number is above minus infinity and below plus infinity. -/
theorem num_of_cmp {a lo hi : EReal} (hlo : lo = ⊥) (hhi : hi = ⊤) (h : IntOp.andi (Ideal.cmp .ogt a lo) (Ideal.cmp .olt a hi) = 1#1) : IsNum a := by
  subst hlo hhi
  constructor
  · rintro rfl
    simp [Ideal.cmp, IntOp.andi] at h
  · rintro rfl
    simp [Ideal.cmp, IntOp.andi] at h

theorem low_bits : Ideal.ofBits .f32 0xFF800000#32 = (⊥ : EReal) := by simp [Ideal.ofBits, Ideal.ieee]
theorem high_bits : Ideal.ofBits .f32 0x7F800000#32 = (⊤ : EReal) := by simp [Ideal.ofBits, Ideal.ieee]

/-- The comparison of two small indices, turned into a number. -/
theorem belongs_words (a l : ℕ) (ha : a < 128) (hl : l < 128) :
    (((IntOp.cmpi .eq (BitVec.ofNat 32 a) (BitVec.ofNat 32 l)).toNat : ℝ) : EReal) = if a = l then 1 else 0 := by
  unfold IntOp.cmpi
  by_cases h : a = l
  · subst h; simp
  · have e : (BitVec.ofNat 32 a == BitVec.ofNat 32 l) = false := by
      rw [beq_eq_false_iff_ne]
      intro q
      have := congrArg BitVec.toNat q
      rw [BitVec.toNat_ofNat, BitVec.toNat_ofNat] at this
      omega
    simp [h, e]

end Cert.Row

end
-- ==== Proof.Proj7Block.lean ====
/-
  One block of the projection with its norms at an index.
-/
module

public import proofs.«01_k».proof.Proof.Gen.Kernel7Ideal.Frame
public import proofs.«01_k».proof.Proof.HeadMath

@[expose] public section

set_option maxRecDepth 16384

noncomputable section

namespace Cert.Kernel7Ideal.Near

open Cert.Kernel7Ideal Cert.Kernel7Ideal.Gen Cert.Row Idealize.ShloMosaic

section
variable (h : Vec Ideal S1x256x1024 .f32) (gn : Vec Ideal S1x1024 .f32) (sh sc : Vec Ideal S1x1x1024 .f32) (w : Vec Ideal S1024x3072 .bf16)

theorem proj_apply (r : Fin 256) (j : Fin 3072) : k0_pay2 h gn sh sc w (ix2 r j)
    = projected (fun k => h (ix3 0 r k)) (fun k => gn (ix2 0 k)) (fun k => sc (ix3 0 0 k)) (fun k => sh (ix3 0 0 k)) (fun k => w (ix2 k j)) := by
  unfold projected modulated unitScale
  pointwise [k0_pay2]

theorem first_apply (r : Fin 256) (j : Fin 1024) : k0_pay3 h gn sh sc w (ix2 r j) = k0_pay2 h gn sh sc w (ix2 r ⟨j.val, by omega⟩) := by
  unfold k0_pay3
  generalize k0_pay2 h gn sh sc w = y
  pointwise
end

theorem second_apply (y : FVec Ideal S256x3072 .f32) (r : Fin 256) (j : Fin 1024) : k0_pay7 y (ix2 r j) = y (ix2 r ⟨1024 + j.val, by omega⟩) := by
  pointwise [k0_pay7]

theorem third_apply (y : FVec Ideal S256x3072 .f32) (r : Fin 256) (j : Fin 1024) : k0_pay1 (k0_pay13 y) (ix3 0 r j) = y (ix2 r ⟨2048 + j.val, by omega⟩) := by
  pointwise [k0_pay1, k0_pay13]

theorem queries_apply (x : FVec Ideal S256x1024 .f32) (gs : Vec Ideal S1024x128 .bf16) (ge : Vec Ideal S128x1024 .bf16) (qg : Vec Ideal S1x1024 .f32) (r : Fin 256) (j : Fin 1024) :
    k0_pay11 (k0_pay6 x (k0_pay4 gs) (k0_pay5 ge) qg) (ix3 0 r j)
      = (fun a b : EReal => a * b) (x (ix2 r j)) (tableScale (fun k => x (ix2 r k)) (fun k l => gs (ix2 k l)) (fun l => ge (ix2 l j))) * qg (ix2 0 j) * Ideal.ofBits .f32 0x3E000000#32 := by
  unfold tableScale thrice
  pointwise [k0_pay11, k0_pay6, k0_pay4, k0_pay5]

theorem keys_apply (x : FVec Ideal S256x1024 .f32) (gs : Vec Ideal S1024x128 .bf16) (ge : Vec Ideal S128x1024 .bf16) (kg : Vec Ideal S1x1024 .f32) (r : Fin 256) (j : Fin 1024) :
    k0_pay12 x (k0_pay8 gs) (k0_pay9 ge) (k0_pay10 kg) (ix3 0 r j)
      = (fun a b : EReal => a * b) (x (ix2 r j)) (tableScale (fun k => x (ix2 r k)) (fun k l => gs (ix2 k l)) (fun l => ge (ix2 l j))) * kg (ix2 0 j) := by
  unfold tableScale thrice
  pointwise [k0_pay12, k0_pay8, k0_pay9, k0_pay10]

end Cert.Kernel7Ideal.Near

end
-- ==== Proof.Proj7Ref.lean ====
/-
  The plain projection with its norms at an index.
-/
module

public import proofs.«01_k».proof.Proof.Gen.Reference7Ideal.Read
public import proofs.«01_k».proof.Proof.HeadMath

@[expose] public section

set_option maxRecDepth 16384

noncomputable section

namespace Cert.Reference7Ideal.Near

open Cert.Reference7Ideal Cert.Reference7Ideal.Read Cert.Row Idealize.ShloMosaic

variable (x0 : (⟨S4x8192x1024, .f32⟩ : BufTy).Contents (Elt Ideal)) (x1 x2 : (⟨S4x1x1024, .f32⟩ : BufTy).Contents (Elt Ideal))
  (x3 : (⟨S1024, .f32⟩ : BufTy).Contents (Elt Ideal)) (x4 : (⟨S1024x3072, .f32⟩ : BufTy).Contents (Elt Ideal))
  (x5 x6 : (⟨S64, .f32⟩ : BufTy).Contents (Elt Ideal))

theorem modulated_apply (b : Fin 4) (n : Fin 8192) (d : Fin 1024) : val_main_v18 (F := Ideal) x0 x1 x2 x3 (ix3 b n d)
    = modulated (fun k => x0 (ix3 b n k)) (fun k => x3 (ix1 k)) (fun k => x2 (ix3 b 0 k)) (fun k => x1 (ix3 b 0 k)) d := by
  unfold modulated unitScale
  pointwise [val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0]
  have e : val_main_cst_2 (F := Ideal) ix0 = (1 : EReal) := one_bits
  have e' : val_main_cst (F := Ideal) (Shape.Idx.first Gen.h_S_) = (0 : EReal) := zero_bits
  rw [e, e', zero_add]
  rfl

/-- The projection of a row. -/
def proj (b : Fin 4) (n : Fin 8192) (j : Fin 3072) : EReal :=
  projected (fun k => x0 (ix3 b n k)) (fun k => x3 (ix1 k)) (fun k => x2 (ix3 b 0 k)) (fun k => x1 (ix3 b 0 k)) (fun k => x4 (ix2 k j))

theorem proj_apply (b : Fin 4) (n : Fin 8192) (j : Fin 3072) : val_main_v19 (F := Ideal) x0 x1 x2 x3 x4 (ix3 b n j) = proj x0 x1 x2 x3 x4 b n j := by
  have e : val_main_v19 (F := Ideal) x0 x1 x2 x3 x4 (ix3 b n j)
      = ∑ k : Fin 1024, (fun a b : EReal => a * b) (val_main_v18 (F := Ideal) x0 x1 x2 x3 (ix3 b n k)) (x4 (ix2 k j)) := by
    unfold val_main_v19
    generalize val_main_v18 (F := Ideal) x0 x1 x2 x3 = y
    pointwise
  rw [e]
  unfold proj projected
  exact Finset.sum_congr rfl fun k _ => by rw [modulated_apply]

/-- Entry `i` of head `a`, among the columns of all heads. -/
theorem split_apply (y : (⟨S4x8192x1024, .f32⟩ : BufTy).Contents (Elt Ideal)) (h : S4x8192x1024.ShapeCasts S4x8192x16x64) (b : Fin 4) (n : Fin 8192) (a : Fin 16) (i : Fin 64) :
    shapeCast (α := EReal) S4x8192x16x64 y h (ix4 b n a i) = y (ix3 b n (column a i)) := by
  refine shapeCast_apply _ _ _ _ ?_
  rw [Shape.rowMajor_val_three, Shape.rowMajor_val_four]
  show (b.val * 8192 + n.val) * 1024 + (a.val * 64 + i.val) = ((b.val * 8192 + n.val) * 16 + a.val) * 64 + i.val
  omega

theorem join_apply (y : (⟨S4x8192x16x64, .f32⟩ : BufTy).Contents (Elt Ideal)) (h : S4x8192x16x64.ShapeCasts S4x8192x1024) (b : Fin 4) (n : Fin 8192) (j : Fin 1024) (a : Fin 16) (i : Fin 64)
    (hj : j.val = a.val * 64 + i.val) : shapeCast (α := EReal) S4x8192x1024 y h (ix3 b n j) = y (ix4 b n a i) := by
  refine shapeCast_apply _ _ _ _ ?_
  rw [Shape.rowMajor_val_three, Shape.rowMajor_val_four]
  show ((b.val * 8192 + n.val) * 16 + a.val) * 64 + i.val = (b.val * 8192 + n.val) * 1024 + j.val
  omega

theorem query_heads (b : Fin 4) (n : Fin 8192) (a : Fin 16) (i : Fin 64) : val_main_v21 (F := Ideal) x0 x1 x2 x3 x4 (ix4 b n a i)
    = proj x0 x1 x2 x3 x4 b n ⟨(column a i).val, by have := (column a i).isLt; omega⟩ := by
  rw [← proj_apply]
  unfold val_main_v21 val_main_v20
  generalize val_main_v19 (F := Ideal) x0 x1 x2 x3 x4 = y
  refine (split_apply _ _ b n a i).trans ?_
  pointwise

theorem query_sum (b : Fin 4) (n : Fin 8192) (a : Fin 16) : val_main_v23 (F := Ideal) x0 x1 x2 x3 x4 (ix3 b n a)
    = ∑ i : Fin 64, (fun u : EReal => u * u) (val_main_v21 (F := Ideal) x0 x1 x2 x3 x4 (ix4 b n a i)) := by
  unfold val_main_v23 val_main_v22
  generalize val_main_v21 (F := Ideal) x0 x1 x2 x3 x4 = y
  pointwise
  have e : val_main_cst_3 (F := Ideal) (Shape.Idx.first Gen.h_S_) = (0 : EReal) := zero_bits
  rw [e, zero_add]

theorem query_normed (b : Fin 4) (n : Fin 8192) (a : Fin 16) (i : Fin 64) : val_main_v34 (F := Ideal) x0 x1 x2 x3 x4 x5 (ix4 b n a i)
    = (fun u v w : EReal => u * v * w) (val_main_v21 (F := Ideal) x0 x1 x2 x3 x4 (ix4 b n a i)) (headScale (val_main_v23 (F := Ideal) x0 x1 x2 x3 x4 (ix3 b n a))) (x5 (ix1 i)) := by
  unfold val_main_v34 val_main_v31 val_main_v30 val_main_v29 val_main_v28 val_main_v26 val_main_v24
  generalize val_main_v23 (F := Ideal) x0 x1 x2 x3 x4 = z
  generalize val_main_v21 (F := Ideal) x0 x1 x2 x3 x4 = y
  unfold headScale
  pointwise [val_main_v33, val_main_v32, val_main_v27, val_main_v25]
  rfl

theorem key_heads (b : Fin 4) (n : Fin 8192) (a : Fin 16) (i : Fin 64) : val_main_v36 (F := Ideal) x0 x1 x2 x3 x4 (ix4 b n a i)
    = proj x0 x1 x2 x3 x4 b n ⟨1024 + (column a i).val, by have := (column a i).isLt; omega⟩ := by
  rw [← proj_apply]
  unfold val_main_v36 val_main_v35
  generalize val_main_v19 (F := Ideal) x0 x1 x2 x3 x4 = y
  refine (split_apply _ _ b n a i).trans ?_
  pointwise

theorem key_sum (b : Fin 4) (n : Fin 8192) (a : Fin 16) : val_main_v38 (F := Ideal) x0 x1 x2 x3 x4 (ix3 b n a)
    = ∑ i : Fin 64, (fun u : EReal => u * u) (val_main_v36 (F := Ideal) x0 x1 x2 x3 x4 (ix4 b n a i)) := by
  unfold val_main_v38 val_main_v37
  generalize val_main_v36 (F := Ideal) x0 x1 x2 x3 x4 = y
  pointwise
  have e : val_main_cst_6 (F := Ideal) (Shape.Idx.first Gen.h_S_) = (0 : EReal) := zero_bits
  rw [e, zero_add]

theorem key_normed (b : Fin 4) (n : Fin 8192) (a : Fin 16) (i : Fin 64) : val_main_v49 (F := Ideal) x0 x1 x2 x3 x4 x6 (ix4 b n a i)
    = (fun u v w : EReal => u * v * w) (val_main_v36 (F := Ideal) x0 x1 x2 x3 x4 (ix4 b n a i)) (headScale (val_main_v38 (F := Ideal) x0 x1 x2 x3 x4 (ix3 b n a))) (x6 (ix1 i)) := by
  unfold val_main_v49 val_main_v46 val_main_v45 val_main_v44 val_main_v43 val_main_v41 val_main_v39
  generalize val_main_v38 (F := Ideal) x0 x1 x2 x3 x4 = z
  generalize val_main_v36 (F := Ideal) x0 x1 x2 x3 x4 = y
  unfold headScale
  pointwise [val_main_v48, val_main_v47, val_main_v42, val_main_v40]
  rfl

/-- A head's entries, their sum of squares and its weight: the queries' result. -/
theorem query_apply (b : Fin 4) (n : Fin 8192) (j : Fin 1024) (a : Fin 16) (i : Fin 64) (hj : j.val = a.val * 64 + i.val) :
    val_main_v53 (F := Ideal) x0 x1 x2 x3 x4 x5 (ix3 b n j)
      = proj x0 x1 x2 x3 x4 b n ⟨j.val, by omega⟩
          * headScale (∑ i : Fin 64, proj x0 x1 x2 x3 x4 b n ⟨(column a i).val, by have := (column a i).isLt; omega⟩ * proj x0 x1 x2 x3 x4 b n ⟨(column a i).val, by have := (column a i).isLt; omega⟩)
          * x5 (ix1 i) * Ideal.ofBits .f32 0x3E000000#32 := by
  have e1 : val_main_v53 (F := Ideal) x0 x1 x2 x3 x4 x5 (ix3 b n j) = val_main_v51 (F := Ideal) x0 x1 x2 x3 x4 x5 (ix4 b n a i) := by
    unfold val_main_v53 val_main_v52
    generalize val_main_v51 (F := Ideal) x0 x1 x2 x3 x4 x5 = y
    exact join_apply y _ b n j a i hj
  have e2 : val_main_v51 (F := Ideal) x0 x1 x2 x3 x4 x5 (ix4 b n a i)
      = (fun u v : EReal => u * v) (val_main_v34 (F := Ideal) x0 x1 x2 x3 x4 x5 (ix4 b n a i)) (Ideal.ofBits .f32 0x3E000000#32) := by
    unfold val_main_v51
    generalize val_main_v34 (F := Ideal) x0 x1 x2 x3 x4 x5 = y
    pointwise [val_main_v50]
    rfl
  rw [e1, e2, query_normed, query_sum]
  simp only [query_heads]
  have ej : (⟨(column a i).val, by have := (column a i).isLt; omega⟩ : Fin 3072) = ⟨j.val, by omega⟩ := Fin.ext hj.symm
  rw [ej]

/-- The keys' result. -/
theorem key_apply (b : Fin 4) (n : Fin 8192) (j : Fin 1024) (a : Fin 16) (i : Fin 64) (hj : j.val = a.val * 64 + i.val) :
    val_main_v55 (F := Ideal) x0 x1 x2 x3 x4 x6 (ix3 b n j)
      = proj x0 x1 x2 x3 x4 b n ⟨1024 + j.val, by omega⟩
          * headScale (∑ i : Fin 64, proj x0 x1 x2 x3 x4 b n ⟨1024 + (column a i).val, by have := (column a i).isLt; omega⟩ * proj x0 x1 x2 x3 x4 b n ⟨1024 + (column a i).val, by have := (column a i).isLt; omega⟩)
          * x6 (ix1 i) := by
  have e1 : val_main_v55 (F := Ideal) x0 x1 x2 x3 x4 x6 (ix3 b n j) = val_main_v49 (F := Ideal) x0 x1 x2 x3 x4 x6 (ix4 b n a i) := by
    unfold val_main_v55 val_main_v54
    generalize val_main_v49 (F := Ideal) x0 x1 x2 x3 x4 x6 = y
    exact join_apply y _ b n j a i hj
  rw [e1, key_normed, key_sum]
  simp only [key_heads]
  have ej : (⟨1024 + (column a i).val, by have := (column a i).isLt; omega⟩ : Fin 3072) = ⟨1024 + j.val, by omega⟩ := Fin.ext (congrArg (1024 + ·) hj.symm)
  rw [ej]

/-- The values' result. -/
theorem value_apply (b : Fin 4) (n : Fin 8192) (j : Fin 1024) :
    val_main_v57 (F := Ideal) x0 x1 x2 x3 x4 (ix3 b n j) = proj x0 x1 x2 x3 x4 b n ⟨2048 + j.val, by omega⟩ := by
  rw [← proj_apply]
  unfold val_main_v57 val_main_v56
  generalize val_main_v19 (F := Ideal) x0 x1 x2 x3 x4 = y
  pointwise

end Cert.Reference7Ideal.Near

end
-- ==== Proof.Proj7Value.lean ====
/-
  The value claim of the projection with its norms. The kernel goes over blocks of 256 rows and takes each head's mean
  square through tables of zeros and ones; the plain reference sums over the heads.
-/
module

public import proofs.«01_k».proof.Defs
public import proofs.«01_k».proof.Proof.Proj7Block
public import proofs.«01_k».proof.Proof.Proj7Ref
public import proofs.«01_k».proof.Proof.Gen.Kernel7Ideal.Value
public import proofs.«01_k».proof.Proof.Gen.Reference7Ideal.Run
public import proofs.«01_k».proof.Proof.Gen.Pre_near_finite

@[expose] public section

set_option maxRecDepth 16384

noncomputable section

namespace Cert.Kernel7Ideal.Near

open Cert.Kernel7Ideal Cert.Kernel7Ideal.Gen Cert.Row Idealize.ShloMosaic Idealize.ShloMosaic.TcCoe Idealize.SL.Sem

theorem index_0 : ∀ t : Fin cfg0.N, win0_0.index t = ![t.val / 32, t.val % 32, 0] := (by decide +kernel : ∀ t : Fin grid0.N, _)
theorem index_1 : ∀ t : Fin cfg0.N, win0_1.index t = ![t.val / 32, 0, 0] := (by decide +kernel : ∀ t : Fin grid0.N, _)
theorem index_2 : ∀ t : Fin cfg0.N, win0_2.index t = ![t.val / 32, 0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)
theorem index_10 : ∀ t : Fin cfg0.N, win0_10.index t = ![0, 0] := (by decide +kernel : ∀ t : Fin grid0.N, _)
theorem index_11 : ∀ t : Fin cfg0.N, win0_11.index t = ![t.val / 32, t.val % 32, 0] := (by decide +kernel : ∀ t : Fin grid0.N, _)
theorem index_12 : ∀ t : Fin cfg0.N, win0_12.index t = ![t.val / 32, t.val % 32, 0] := (by decide +kernel : ∀ t : Fin grid0.N, _)
theorem index_13 : ∀ t : Fin cfg0.N, win0_13.index t = ![t.val / 32, t.val % 32, 0] := (by decide +kernel : ∀ t : Fin grid0.N, _)

theorem read_0 (t : Fin cfg0.N) (A : S4x8192x1024.Idx → EReal) (b : Fin 4) (r : Fin 256) (n : Fin 8192) (d : Fin 1024)
    (hb : t.val / 32 = b.val) (hn : t.val % 32 * 256 + r.val = n.val) :
    ((cfg0.win 0).blk t).view.read (Elt Ideal) A (ix3 0 r d) = A (ix3 b n d) := by
  rw [View.read_apply]
  refine congrArg A (funext fun a => Fin.ext ?_)
  match a with
  | ⟨0, _⟩ => exact place (congrFun (index_0 t) 0) (first hb)
  | ⟨1, _⟩ => exact place (congrFun (index_0 t) 1) hn
  | ⟨2, _⟩ => exact place (congrFun (index_0 t) 2) (all _ _)

theorem read_1 (t : Fin cfg0.N) (A : S4x1x1024.Idx → EReal) (b : Fin 4) (d : Fin 1024)
    (hb : t.val / 32 = b.val) :
    ((cfg0.win 1).blk t).view.read (Elt Ideal) A (ix3 0 0 d) = A (ix3 b 0 d) := by
  rw [View.read_apply]
  refine congrArg A (funext fun a => Fin.ext ?_)
  match a with
  | ⟨0, _⟩ => exact place (congrFun (index_1 t) 0) (first hb)
  | ⟨1, _⟩ => exact place (congrFun (index_1 t) 1) rfl
  | ⟨2, _⟩ => exact place (congrFun (index_1 t) 2) (all _ _)

theorem read_2 (t : Fin cfg0.N) (A : S4x1x1024.Idx → EReal) (b : Fin 4) (d : Fin 1024)
    (hb : t.val / 32 = b.val) :
    ((cfg0.win 2).blk t).view.read (Elt Ideal) A (ix3 0 0 d) = A (ix3 b 0 d) := by
  rw [View.read_apply]
  refine congrArg A (funext fun a => Fin.ext ?_)
  match a with
  | ⟨0, _⟩ => exact place (congrFun (index_2 t) 0) (first hb)
  | ⟨1, _⟩ => exact place (congrFun (index_2 t) 1) rfl
  | ⟨2, _⟩ => exact place (congrFun (index_2 t) 2) (all _ _)

theorem read_3 (t : Fin cfg0.N) (A : S1x1024.Idx → EReal) (d : Fin 1024) :
    ((cfg0.win 3).blk t).view.read (Elt Ideal) A (ix2 0 d) = A (ix2 0 d) := by
  rw [View.read_apply]
  refine congrArg A (funext fun a => Fin.ext ?_)
  match a with
  | ⟨0, _⟩ => exact place (congrFun (index_3 t) 0) rfl
  | ⟨1, _⟩ => exact place (congrFun (index_3 t) 1) (all _ _)

theorem read_5 (t : Fin cfg0.N) (A : S1x1024.Idx → EReal) (d : Fin 1024) :
    ((cfg0.win 5).blk t).view.read (Elt Ideal) A (ix2 0 d) = A (ix2 0 d) := by
  rw [View.read_apply]
  refine congrArg A (funext fun a => Fin.ext ?_)
  match a with
  | ⟨0, _⟩ => exact place (congrFun (index_5 t) 0) rfl
  | ⟨1, _⟩ => exact place (congrFun (index_5 t) 1) (all _ _)

theorem read_6 (t : Fin cfg0.N) (A : S1x1024.Idx → EReal) (d : Fin 1024) :
    ((cfg0.win 6).blk t).view.read (Elt Ideal) A (ix2 0 d) = A (ix2 0 d) := by
  rw [View.read_apply]
  refine congrArg A (funext fun a => Fin.ext ?_)
  match a with
  | ⟨0, _⟩ => exact place (congrFun (index_6 t) 0) rfl
  | ⟨1, _⟩ => exact place (congrFun (index_6 t) 1) (all _ _)

theorem read_4 (t : Fin cfg0.N) (A : S1024x3072.Idx → EReal) (k : Fin 1024) (j : Fin 3072) :
    ((cfg0.win 4).blk t).view.read (Elt Ideal) A (ix2 k j) = A (ix2 k j) := by
  rw [View.read_apply]
  refine congrArg A (funext fun a => Fin.ext ?_)
  match a with
  | ⟨0, _⟩ => exact place (congrFun (index_4 t) 0) (all _ _)
  | ⟨1, _⟩ => exact place (congrFun (index_4 t) 1) (all _ _)

theorem read_7 (t : Fin cfg0.N) (A : S1024x128.Idx → EReal) (k : Fin 1024) (l : Fin 128) :
    ((cfg0.win 7).blk t).view.read (Elt Ideal) A (ix2 k l) = A (ix2 k l) := by
  rw [View.read_apply]
  refine congrArg A (funext fun a => Fin.ext ?_)
  match a with
  | ⟨0, _⟩ => exact place (congrFun (index_7 t) 0) (all _ _)
  | ⟨1, _⟩ => exact place (congrFun (index_7 t) 1) (all _ _)

theorem read_9 (t : Fin cfg0.N) (A : S1024x128.Idx → EReal) (k : Fin 1024) (l : Fin 128) :
    ((cfg0.win 9).blk t).view.read (Elt Ideal) A (ix2 k l) = A (ix2 k l) := by
  rw [View.read_apply]
  refine congrArg A (funext fun a => Fin.ext ?_)
  match a with
  | ⟨0, _⟩ => exact place (congrFun (index_9 t) 0) (all _ _)
  | ⟨1, _⟩ => exact place (congrFun (index_9 t) 1) (all _ _)

theorem read_8 (t : Fin cfg0.N) (A : S128x1024.Idx → EReal) (l : Fin 128) (j : Fin 1024) :
    ((cfg0.win 8).blk t).view.read (Elt Ideal) A (ix2 l j) = A (ix2 l j) := by
  rw [View.read_apply]
  refine congrArg A (funext fun a => Fin.ext ?_)
  match a with
  | ⟨0, _⟩ => exact place (congrFun (index_8 t) 0) (all _ _)
  | ⟨1, _⟩ => exact place (congrFun (index_8 t) 1) (all _ _)

theorem read_10 (t : Fin cfg0.N) (A : S128x1024.Idx → EReal) (l : Fin 128) (j : Fin 1024) :
    ((cfg0.win 10).blk t).view.read (Elt Ideal) A (ix2 l j) = A (ix2 l j) := by
  rw [View.read_apply]
  refine congrArg A (funext fun a => Fin.ext ?_)
  match a with
  | ⟨0, _⟩ => exact place (congrFun (index_10 t) 0) (all _ _)
  | ⟨1, _⟩ => exact place (congrFun (index_10 t) 1) (all _ _)

/-! The tables. -/

/-- One where a head has a lane's number, for every entry of the head. -/
def table : S16x64x128.Idx → EReal :=
  broadcastInDim S16x64x128 ![0, 1, 2] bcast_S16x1x128_S16x64x128_0_1_2
    (broadcastInDim S16x1x128 ![0, 2] bcast_S16x128_S16x1x128_0_2
      (uitofp (F := Ideal) FTy.bf16
        (cmpi CmpIPredicate.eq (broadcastInDim S16x128 ![0, 1] bcast_S16x1_S16x128_0_1 (broadcastInDim S16x1 ![0] bcast_S16_S16x1_0 (iotaInDim S16 32 0)))
          (broadcastInDim S16x128 ![0, 1] bcast_S1x128_S16x128_0_1 (broadcastInDim S1x128 ![1] bcast_S128_S1x128_1 (iotaInDim S128 32 0))))))

theorem table_apply (a : Fin 16) (i : Fin 64) (l : Fin 128) : table (ix3 a i l) = if a.val = l.val then 1 else 0 := by
  refine Eq.trans ?_ (belongs_words a.val l.val (by omega) l.isLt)
  pointwise [table]
  rfl

theorem columns_apply (h : S16x64x128.ShapeCasts S1024x128) (k : Fin 1024) (l : Fin 128) : shapeCast (α := EReal) S1024x128 table h (ix2 k l) = belongs k.val l.val := by
  refine (shapeCast_apply _ _ _ (ix3 (⟨k.val / 64, by omega⟩ : Fin 16) (⟨k.val % 64, by omega⟩ : Fin 64) l) ?_).trans (table_apply _ _ _)
  rw [Shape.rowMajor_val_two, Shape.rowMajor_val_three]
  show (k.val / 64 * 64 + k.val % 64) * 128 + l.val = k.val * 128 + l.val
  omega

/-- The weight of a head's norm, repeated for every head. -/
def repeated (x : S64.Idx → EReal) : S1024.Idx → EReal :=
  shapeCast (α := EReal) S1024 (broadcastInDim S16x64 ![0, 1] bcast_S1x64_S16x64_0_1 (shapeCast (α := EReal) S1x64 x shapeCasts_S64_S1x64)) shapeCasts_S16x64_S1024

theorem repeated_apply (x : S64.Idx → EReal) (j : Fin 1024) (a : Fin 16) (i : Fin 64) (hj : j.val = a.val * 64 + i.val) : repeated x (ix1 j) = x (ix1 i) := by
  unfold repeated
  refine (shapeCast_apply _ _ _ (ix2 a i) ?_).trans ?_
  · rw [Shape.rowMajor_val_two, Shape.rowMajor_val_one]
    exact hj.symm
  · pointwise

/-! The arrays the launch reads. -/

variable (m : (ℓ : Loc nD τ sig) → Buf (Elt Ideal) ℓ)

/-- The rows. -/
def rows (c : Dev nD) : S4x8192x1024.Idx → EReal := m ((c : Thread nD τ).loc main_arg0)
/-- The shifts. -/
def shift (c : Dev nD) : S4x1x1024.Idx → EReal := m ((c : Thread nD τ).loc main_arg1)
/-- The scales. -/
def scales (c : Dev nD) : S4x1x1024.Idx → EReal := m ((c : Thread nD τ).loc main_arg2)
/-- The norm's weight. -/
def norm (c : Dev nD) : S1024.Idx → EReal := m ((c : Thread nD τ).loc main_arg3)
/-- The projection's weight. -/
def weight (c : Dev nD) : S1024x3072.Idx → EReal := m ((c : Thread nD τ).loc main_arg4)
/-- The weight of the queries' norm. -/
def queryGain (c : Dev nD) : S64.Idx → EReal := m ((c : Thread nD τ).loc main_arg5)
/-- The weight of the keys' norm. -/
def keyGain (c : Dev nD) : S64.Idx → EReal := m ((c : Thread nD τ).loc main_arg6)

theorem block_0 (c : Dev nD) (t : Fin cfg0.N) : iblk m c 0 t = ((cfg0.win 0).blk t).view.read (Elt Ideal) (rows m c) := by
  unfold rows; rw [← V_main_arg0 m c]; rfl
theorem block_1 (c : Dev nD) (t : Fin cfg0.N) : iblk m c 1 t = ((cfg0.win 1).blk t).view.read (Elt Ideal) (shift m c) := by
  unfold shift; rw [← V_main_arg1 m c]; rfl
theorem block_2 (c : Dev nD) (t : Fin cfg0.N) : iblk m c 2 t = ((cfg0.win 2).blk t).view.read (Elt Ideal) (scales m c) := by
  unfold scales; rw [← V_main_arg2 m c]; rfl
theorem block_3 (c : Dev nD) (t : Fin cfg0.N) : iblk m c 3 t = ((cfg0.win 3).blk t).view.read (Elt Ideal) (V m c main_v33 : S1x1024.Idx → EReal) := rfl
theorem block_4 (c : Dev nD) (t : Fin cfg0.N) : iblk m c 4 t = ((cfg0.win 4).blk t).view.read (Elt Ideal) (V m c main_v0 : S1024x3072.Idx → EReal) := rfl
theorem block_5 (c : Dev nD) (t : Fin cfg0.N) : iblk m c 5 t = ((cfg0.win 5).blk t).view.read (Elt Ideal) (V m c main_v28 : S1x1024.Idx → EReal) := rfl
theorem block_6 (c : Dev nD) (t : Fin cfg0.N) : iblk m c 6 t = ((cfg0.win 6).blk t).view.read (Elt Ideal) (V m c main_v32 : S1x1024.Idx → EReal) := rfl
theorem block_7 (c : Dev nD) (t : Fin cfg0.N) : iblk m c 7 t = ((cfg0.win 7).blk t).view.read (Elt Ideal) (V m c main_v11 : S1024x128.Idx → EReal) := rfl
theorem block_8 (c : Dev nD) (t : Fin cfg0.N) : iblk m c 8 t = ((cfg0.win 8).blk t).view.read (Elt Ideal) (V m c main_v12 : S128x1024.Idx → EReal) := rfl
theorem block_9 (c : Dev nD) (t : Fin cfg0.N) : iblk m c 9 t = ((cfg0.win 9).blk t).view.read (Elt Ideal) (V m c main_v23 : S1024x128.Idx → EReal) := rfl
theorem block_10 (c : Dev nD) (t : Fin cfg0.N) : iblk m c 10 t = ((cfg0.win 10).blk t).view.read (Elt Ideal) (V m c main_v24 : S128x1024.Idx → EReal) := rfl

theorem host_weight (c : Dev nD) (k : Fin 1024) (j : Fin 3072) : (V m c main_v0 : S1024x3072.Idx → EReal) (ix2 k j) = weight m c (ix2 k j) := by
  show StableHlo.after hostOps0 _ _ _ = _
  after_results_simp
  rfl
theorem host_norm (c : Dev nD) (d : Fin 1024) : (V m c main_v33 : S1x1024.Idx → EReal) (ix2 0 d) = norm m c (ix1 d) := by
  show StableHlo.after hostOps0 _ _ _ = _
  after_results_simp
  unfold norm
  pointwise
theorem host_query (c : Dev nD) (j : Fin 1024) (a : Fin 16) (i : Fin 64) (hj : j.val = a.val * 64 + i.val) : (V m c main_v28 : S1x1024.Idx → EReal) (ix2 0 j) = queryGain m c (ix1 i) := by
  refine Eq.trans ?_ (repeated_apply (queryGain m c) j a i hj)
  show StableHlo.after hostOps0 _ _ _ = _
  after_results_simp
  show broadcastInDim S1x1024 ![1] bcast_S1024_S1x1024_1 (repeated (queryGain m c)) (ix2 0 j) = _
  generalize repeated (queryGain m c) = y
  pointwise
theorem host_key (c : Dev nD) (j : Fin 1024) (a : Fin 16) (i : Fin 64) (hj : j.val = a.val * 64 + i.val) : (V m c main_v32 : S1x1024.Idx → EReal) (ix2 0 j) = keyGain m c (ix1 i) := by
  refine Eq.trans ?_ (repeated_apply (keyGain m c) j a i hj)
  show StableHlo.after hostOps0 _ _ _ = _
  after_results_simp
  show broadcastInDim S1x1024 ![1] bcast_S1024_S1x1024_1 (repeated (keyGain m c)) (ix2 0 j) = _
  generalize repeated (keyGain m c) = y
  pointwise
theorem host_v11 (c : Dev nD) (k : Fin 1024) (l : Fin 128) : (V m c main_v11 : S1024x128.Idx → EReal) (ix2 k l) = belongs k.val l.val := by
  show StableHlo.after hostOps0 _ _ _ = _
  after_results_simp
  exact columns_apply _ k l
theorem host_v12 (c : Dev nD) (l : Fin 128) (j : Fin 1024) : (V m c main_v12 : S128x1024.Idx → EReal) (ix2 l j) = belongs j.val l.val := by
  show StableHlo.after hostOps0 _ _ _ = _
  after_results_simp
  refine Eq.trans ?_ (columns_apply shapeCasts_S16x64x128_S1024x128 j l)
  show transpose S128x1024 [1, 0] (shapeCast (α := EReal) S1024x128 table shapeCasts_S16x64x128_S1024x128) transposes_S1024x128_S128x1024_1_0 (ix2 l j) = _
  generalize shapeCast (α := EReal) S1024x128 table shapeCasts_S16x64x128_S1024x128 = y
  pointwise
theorem host_v23 (c : Dev nD) (k : Fin 1024) (l : Fin 128) : (V m c main_v23 : S1024x128.Idx → EReal) (ix2 k l) = belongs k.val l.val := by
  show StableHlo.after hostOps0 _ _ _ = _
  after_results_simp
  exact columns_apply _ k l
theorem host_v24 (c : Dev nD) (l : Fin 128) (j : Fin 1024) : (V m c main_v24 : S128x1024.Idx → EReal) (ix2 l j) = belongs j.val l.val := by
  show StableHlo.after hostOps0 _ _ _ = _
  after_results_simp
  refine Eq.trans ?_ (columns_apply shapeCasts_S16x64x128_S1024x128 j l)
  show transpose S128x1024 [1, 0] (shapeCast (α := EReal) S1024x128 table shapeCasts_S16x64x128_S1024x128) transposes_S1024x128_S128x1024_1_0 (ix2 l j) = _
  generalize shapeCast (α := EReal) S1024x128 table shapeCasts_S16x64x128_S1024x128 = y
  pointwise

/-! One row's projection. -/

/-- The projection of a row. -/
def projRow (c : Dev nD) (b : Fin 4) (n : Fin 8192) (j : Fin 3072) : EReal :=
  Cert.Reference7Ideal.Near.proj (rows m c) (shift m c) (scales m c) (norm m c) (weight m c) b n j

section
variable (hpre : Cert.Pre_Kernel7Ideal_near_finite m)

include hpre in
theorem finite_shift (c : Dev nD) (y : S4x1x1024.Idx) : IsNum (shift m c y) := num_of_cmp low_bits high_bits (congrFun (hpre c).1 y)
include hpre in
theorem finite_scales (c : Dev nD) (y : S4x1x1024.Idx) : IsNum (scales m c y) := num_of_cmp low_bits high_bits (congrFun (hpre c).2.1 y)
include hpre in
theorem finite_norm (c : Dev nD) (y : S1024.Idx) : IsNum (norm m c y) := num_of_cmp low_bits high_bits (congrFun (hpre c).2.2.1 y)
include hpre in
theorem finite_weight (c : Dev nD) (y : S1024x3072.Idx) : IsNum (weight m c y) := num_of_cmp low_bits high_bits (congrFun (hpre c).2.2.2 y)

include hpre in
/-- Finite shifts, scales and weights make the projection a real number. -/
theorem num_projRow (c : Dev nD) (b : Fin 4) (n : Fin 8192) (j : Fin 3072) : IsNum (projRow m c b n j) :=
  num_projected (x := fun k => rows m c (ix3 b n k)) (fun k => finite_norm m hpre c (ix1 k)) (fun k => finite_scales m hpre c (ix3 b 0 k)) (fun k => finite_shift m hpre c (ix3 b 0 k)) (fun k => finite_weight m hpre c (ix2 k j))
end

/-- The scale of the head a column belongs to, read through tables. -/
theorem scale_eq (p : Fin 1024 → EReal) (hp : ∀ k, IsNum (p k)) (gs : Fin 1024 → Fin 128 → EReal) (ge : Fin 128 → EReal) (j : Fin 1024)
    (hgs : ∀ k l, gs k l = belongs k.val l.val) (hge : ∀ l : Fin 128, ge l = belongs j.val l.val) (a : Fin 16) (ha : j.val / 64 = a.val) :
    tableScale p gs ge = headScale (∑ i : Fin 64, p (column a i) * p (column a i)) :=
  tableScale_eq (n := 16) (by norm_num) p hp gs ge j hgs hge a ha

section
variable (c : Dev nD) (t : Fin cfg0.N) (b : Fin 4) (hb : t.val / 32 = b.val)

/-- What a point projects. -/
def block : FVec Ideal S256x3072 .f32 := k0_pay2 (iblk m c 0 t) (iblk m c 3 t) (iblk m c 1 t) (iblk m c 2 t) (iblk m c 4 t)

include hb in
theorem point_proj (r : Fin 256) (n : Fin 8192) (hn : t.val % 32 * 256 + r.val = n.val) (j : Fin 3072) : block m c t (ix2 r j) = projRow m c b n j := by
  unfold block
  rw [proj_apply, block_0, block_1, block_2, block_3, block_4]
  have e0 := funext fun k => read_0 t (rows m c) b r n k hb hn
  have e1 := funext fun k => read_1 t (shift m c) b k hb
  have e2 := funext fun k => read_2 t (scales m c) b k hb
  have e3 := funext fun k => (read_3 t (V m c main_v33 : S1x1024.Idx → EReal) k).trans (host_norm m c k)
  have e4 := funext fun k => (read_4 t (V m c main_v0 : S1024x3072.Idx → EReal) k j).trans (host_weight m c k j)
  unfold projRow Cert.Reference7Ideal.Near.proj
  exact congr (congr (congr (congr (congrArg projected e0) e3) e2) e1) e4

theorem sum_table_7 (k : Fin 1024) (l : Fin 128) : (iblk m c 7 t : S1024x128.Idx → EReal) (ix2 k l) = belongs k.val l.val := by
  rw [block_7]
  exact (read_7 t (V m c main_v11 : S1024x128.Idx → EReal) k l).trans (host_v11 m c k l)
theorem sum_table_9 (k : Fin 1024) (l : Fin 128) : (iblk m c 9 t : S1024x128.Idx → EReal) (ix2 k l) = belongs k.val l.val := by
  rw [block_9]
  exact (read_9 t (V m c main_v23 : S1024x128.Idx → EReal) k l).trans (host_v23 m c k l)
theorem spread_table_8 (l : Fin 128) (j : Fin 1024) : (iblk m c 8 t : S128x1024.Idx → EReal) (ix2 l j) = belongs j.val l.val := by
  rw [block_8]
  exact (read_8 t (V m c main_v12 : S128x1024.Idx → EReal) l j).trans (host_v12 m c l j)
theorem spread_table_10 (l : Fin 128) (j : Fin 1024) : (iblk m c 10 t : S128x1024.Idx → EReal) (ix2 l j) = belongs j.val l.val := by
  rw [block_10]
  exact (read_10 t (V m c main_v24 : S128x1024.Idx → EReal) l j).trans (host_v24 m c l j)
theorem gain_5 (j : Fin 1024) (a : Fin 16) (i : Fin 64) (hj : j.val = a.val * 64 + i.val) : (iblk m c 5 t : S1x1024.Idx → EReal) (ix2 0 j) = queryGain m c (ix1 i) := by
  rw [block_5]
  exact (read_5 t (V m c main_v28 : S1x1024.Idx → EReal) j).trans (host_query m c j a i hj)
theorem gain_6 (j : Fin 1024) (a : Fin 16) (i : Fin 64) (hj : j.val = a.val * 64 + i.val) : (iblk m c 6 t : S1x1024.Idx → EReal) (ix2 0 j) = keyGain m c (ix1 i) := by
  rw [block_6]
  exact (read_6 t (V m c main_v32 : S1x1024.Idx → EReal) j).trans (host_key m c j a i hj)
end

/-! The reference's three results. -/

def plain0 (c : Dev nD) : S4x8192x1024.Idx → EReal :=
  Cert.Reference7Ideal.Read.val_main_v53 (F := Ideal) (rows m c) (shift m c) (scales m c) (norm m c) (weight m c) (queryGain m c)
def plain1 (c : Dev nD) : S4x8192x1024.Idx → EReal :=
  Cert.Reference7Ideal.Read.val_main_v55 (F := Ideal) (rows m c) (shift m c) (scales m c) (norm m c) (weight m c) (keyGain m c)
def plain2 (c : Dev nD) : S4x8192x1024.Idx → EReal :=
  Cert.Reference7Ideal.Read.val_main_v57 (F := Ideal) (rows m c) (shift m c) (scales m c) (norm m c) (weight m c)

section
variable (hpre : Cert.Pre_Kernel7Ideal_near_finite m) (c : Dev nD) (t : Fin cfg0.N) (b : Fin 4) (hb : t.val / 32 = b.val)

include hpre hb in
theorem point_query (r : Fin 256) (n : Fin 8192) (hn : t.val % 32 * 256 + r.val = n.val) (j : Fin 1024) :
    k0_pay11 (k0_pay6 (k0_pay3 (iblk m c 0 t) (iblk m c 3 t) (iblk m c 1 t) (iblk m c 2 t) (iblk m c 4 t)) (k0_pay4 (iblk m c 7 t)) (k0_pay5 (iblk m c 8 t)) (iblk m c 5 t)) (ix3 0 r j) = plain0 m c (ix3 b n j) := by
  have hj : j.val = j.val / 64 * 64 + j.val % 64 := by omega
  unfold plain0
  rw [Cert.Reference7Ideal.Near.query_apply _ _ _ _ _ _ b n j ⟨j.val / 64, by omega⟩ ⟨j.val % 64, by omega⟩ hj, queries_apply]
  have ex : ∀ k : Fin 1024, (k0_pay3 (F := Ideal) (iblk m c 0 t) (iblk m c 3 t) (iblk m c 1 t) (iblk m c 2 t) (iblk m c 4 t)) (ix2 r k) = projRow m c b n ⟨k.val, by omega⟩ := fun k =>
    (first_apply _ _ _ _ _ r k).trans (point_proj m c t b hb r n hn _)
  simp only [ex]
  have es := scale_eq (fun k => projRow m c b n ⟨k.val, by omega⟩) (fun k => num_projRow m hpre c b n _) (fun k l => (iblk m c 7 t : S1024x128.Idx → EReal) (ix2 k l))
    (fun l => (iblk m c 8 t : S128x1024.Idx → EReal) (ix2 l j)) j (fun k l => sum_table_7 m c t k l) (fun l => spread_table_8 m c t l j) ⟨j.val / 64, by omega⟩ rfl
  have eg := gain_5 m c t j ⟨j.val / 64, by omega⟩ ⟨j.val % 64, by omega⟩ hj
  exact congrArg₂ (fun u v : EReal => projRow m c b n ⟨j.val, by omega⟩ * u * v * Ideal.ofBits .f32 0x3E000000#32) es eg

include hpre hb in
theorem point_key (r : Fin 256) (n : Fin 8192) (hn : t.val % 32 * 256 + r.val = n.val) (j : Fin 1024) :
    k0_pay12 (k0_pay7 (block m c t)) (k0_pay8 (iblk m c 9 t)) (k0_pay9 (iblk m c 10 t)) (k0_pay10 (iblk m c 6 t)) (ix3 0 r j) = plain1 m c (ix3 b n j) := by
  have hj : j.val = j.val / 64 * 64 + j.val % 64 := by omega
  unfold plain1
  rw [Cert.Reference7Ideal.Near.key_apply _ _ _ _ _ _ b n j ⟨j.val / 64, by omega⟩ ⟨j.val % 64, by omega⟩ hj, keys_apply]
  have ex : ∀ k : Fin 1024, (k0_pay7 (block m c t)) (ix2 r k) = projRow m c b n ⟨1024 + k.val, by omega⟩ := fun k =>
    (second_apply _ r k).trans (point_proj m c t b hb r n hn _)
  simp only [ex]
  have es := scale_eq (fun k => projRow m c b n ⟨1024 + k.val, by omega⟩) (fun k => num_projRow m hpre c b n _) (fun k l => (iblk m c 9 t : S1024x128.Idx → EReal) (ix2 k l))
    (fun l => (iblk m c 10 t : S128x1024.Idx → EReal) (ix2 l j)) j (fun k l => sum_table_9 m c t k l) (fun l => spread_table_10 m c t l j) ⟨j.val / 64, by omega⟩ rfl
  have eg := gain_6 m c t j ⟨j.val / 64, by omega⟩ ⟨j.val % 64, by omega⟩ hj
  exact congrArg₂ (fun u v : EReal => projRow m c b n ⟨1024 + j.val, by omega⟩ * u * v) es eg

include hb in
theorem point_value (r : Fin 256) (n : Fin 8192) (hn : t.val % 32 * 256 + r.val = n.val) (j : Fin 1024) :
    k0_pay1 (k0_pay13 (block m c t)) (ix3 0 r j) = plain2 m c (ix3 b n j) := by
  unfold plain2
  rw [Cert.Reference7Ideal.Near.value_apply, third_apply, point_proj m c t b hb r n hn]
  rfl
end

/-! What each point writes. -/

theorem hz2 : (![0, 0] : Fin 2 → ℕ) = fun _ => 0 := by funext a; match a with | ⟨0, _⟩ => rfl | ⟨1, _⟩ => rfl
theorem hz3 : (![0, 0, 0] : Fin 3 → ℕ) = fun _ => 0 := by funext a; match a with | ⟨0, _⟩ => rfl | ⟨1, _⟩ => rfl | ⟨2, _⟩ => rfl

section
variable (x0 : Vec Ideal S1x256x1024 .f32) (x1 x2 : Vec Ideal S1x1x1024 .f32) (x3 : Vec Ideal S1x1024 .f32) (x4 : Vec Ideal S1024x3072 .bf16) (x5 x6 : Vec Ideal S1x1024 .f32)
  (x7 : Vec Ideal S1024x128 .bf16) (x8 : Vec Ideal S128x1024 .bf16) (x9 : Vec Ideal S1024x128 .bf16) (x10 : Vec Ideal S128x1024 .bf16)

theorem out_11 : out0_11 x0 x1 x2 x3 x4 x5 x6 x7 x8 x9 x10 = k0_pay11 (k0_pay6 (k0_pay3 x0 x3 x1 x2 x4) (k0_pay4 x7) (k0_pay5 x8) x5) := by
  unfold out0_11
  rw [View.canon_unit_zero hz3]
  simp only [View.ld_unit_zero (S := S1x256x1024) hz3, View.ld_unit_zero (S := S1x1x1024) hz3, View.ld_unit_zero (S := S1024x3072) hz2, View.ld_unit_zero (S := S1x1024) hz2,
    View.ld_unit_zero (S := S1024x128) hz2, View.ld_unit_zero (S := S128x1024) hz2]

theorem out_12 : out0_12 x0 x1 x2 x3 x4 x5 x6 x7 x8 x9 x10 = k0_pay12 (k0_pay7 (k0_pay2 x0 x3 x1 x2 x4)) (k0_pay8 x9) (k0_pay9 x10) (k0_pay10 x6) := by
  unfold out0_12 k0_pay14
  rw [View.canon_unit_zero hz3]
  simp only [View.ld_unit_zero (S := S1x256x1024) hz3, View.ld_unit_zero (S := S1x1x1024) hz3, View.ld_unit_zero (S := S1024x3072) hz2, View.ld_unit_zero (S := S1x1024) hz2,
    View.ld_unit_zero (S := S1024x128) hz2, View.ld_unit_zero (S := S128x1024) hz2]

theorem out_13 : out0_13 x0 x1 x2 x3 x4 x5 x6 x7 x8 x9 x10 = k0_pay1 (k0_pay13 (k0_pay2 x0 x3 x1 x2 x4)) := by
  unfold out0_13 k0_pay14
  rw [View.canon_unit_zero hz3]
  simp only [View.ld_unit_zero (S := S1x256x1024) hz3, View.ld_unit_zero (S := S1x1x1024) hz3, View.ld_unit_zero (S := S1024x3072) hz2, View.ld_unit_zero (S := S1x1024) hz2,
    View.ld_unit_zero (S := S1024x128) hz2, View.ld_unit_zero (S := S128x1024) hz2]

end

theorem flushed_11 (hpre : Cert.Pre_Kernel7Ideal_near_finite m) (c : Dev nD) (t : Fin cfg0.N) : (dats m 0 c).flushed 11 t = ((cfg0.win 11).blk t).view.read (Elt Ideal) (plain0 m c) := by
  rw [Cert.Kernel7Ideal.Value.flushed11]
  have ht : t.val < 128 := t.isLt
  funext y
  have hy0 : (y 0).val < 1 := (y 0).isLt
  have hy1 : (y 1).val < 256 := (y 1).isLt
  have hy2 : (y 2).val < 1024 := (y 2).isLt
  rw [View.read_apply]
  have e : ((cfg0.win 11).blk t).view.emb y = (ix3 ⟨t.val / 32, by omega⟩ ⟨t.val % 32 * 256 + (y 1).val, by omega⟩ ⟨(y 2).val, hy2⟩ : S4x8192x1024.Idx) :=
    funext fun a => Fin.ext (by
      match a with
      | ⟨0, _⟩ => exact place (congrFun (index_11 t) 0) (show t.val / 32 * 1 + (y 0).val = t.val / 32 by omega)
      | ⟨1, _⟩ => exact place (congrFun (index_11 t) 1) rfl
      | ⟨2, _⟩ => exact place (congrFun (index_11 t) 2) (all _ _))
  refine Eq.trans ?_ (congrArg (plain0 m c) e).symm
  have ey : ((cfg0.win 11).xinj (grid0.coords t) y : S1x256x1024.Idx) = ix3 0 ⟨(y 1).val, hy1⟩ ⟨(y 2).val, hy2⟩ := by
    funext a
    apply Fin.ext
    match a with
    | ⟨0, _⟩ => exact Nat.lt_one_iff.mp hy0
    | ⟨1, _⟩ => rfl
    | ⟨2, _⟩ => rfl
  show out0_11 _ _ _ _ _ _ _ _ _ _ _ ((cfg0.win 11).xinj (grid0.coords t) y : S1x256x1024.Idx) = _
  rw [ey, out_11]
  exact point_query m hpre c t ⟨t.val / 32, by omega⟩ rfl ⟨(y 1).val, hy1⟩ ⟨t.val % 32 * 256 + (y 1).val, by omega⟩ rfl _

theorem flushed_12 (hpre : Cert.Pre_Kernel7Ideal_near_finite m) (c : Dev nD) (t : Fin cfg0.N) : (dats m 0 c).flushed 12 t = ((cfg0.win 12).blk t).view.read (Elt Ideal) (plain1 m c) := by
  rw [Cert.Kernel7Ideal.Value.flushed12]
  have ht : t.val < 128 := t.isLt
  funext y
  have hy0 : (y 0).val < 1 := (y 0).isLt
  have hy1 : (y 1).val < 256 := (y 1).isLt
  have hy2 : (y 2).val < 1024 := (y 2).isLt
  rw [View.read_apply]
  have e : ((cfg0.win 12).blk t).view.emb y = (ix3 ⟨t.val / 32, by omega⟩ ⟨t.val % 32 * 256 + (y 1).val, by omega⟩ ⟨(y 2).val, hy2⟩ : S4x8192x1024.Idx) :=
    funext fun a => Fin.ext (by
      match a with
      | ⟨0, _⟩ => exact place (congrFun (index_12 t) 0) (show t.val / 32 * 1 + (y 0).val = t.val / 32 by omega)
      | ⟨1, _⟩ => exact place (congrFun (index_12 t) 1) rfl
      | ⟨2, _⟩ => exact place (congrFun (index_12 t) 2) (all _ _))
  refine Eq.trans ?_ (congrArg (plain1 m c) e).symm
  have ey : ((cfg0.win 12).xinj (grid0.coords t) y : S1x256x1024.Idx) = ix3 0 ⟨(y 1).val, hy1⟩ ⟨(y 2).val, hy2⟩ := by
    funext a
    apply Fin.ext
    match a with
    | ⟨0, _⟩ => exact Nat.lt_one_iff.mp hy0
    | ⟨1, _⟩ => rfl
    | ⟨2, _⟩ => rfl
  show out0_12 _ _ _ _ _ _ _ _ _ _ _ ((cfg0.win 12).xinj (grid0.coords t) y : S1x256x1024.Idx) = _
  rw [ey, out_12]
  exact point_key m hpre c t ⟨t.val / 32, by omega⟩ rfl ⟨(y 1).val, hy1⟩ ⟨t.val % 32 * 256 + (y 1).val, by omega⟩ rfl _

theorem flushed_13 (hpre : Cert.Pre_Kernel7Ideal_near_finite m) (c : Dev nD) (t : Fin cfg0.N) : (dats m 0 c).flushed 13 t = ((cfg0.win 13).blk t).view.read (Elt Ideal) (plain2 m c) := by
  rw [Cert.Kernel7Ideal.Value.flushed13]
  have ht : t.val < 128 := t.isLt
  funext y
  have hy0 : (y 0).val < 1 := (y 0).isLt
  have hy1 : (y 1).val < 256 := (y 1).isLt
  have hy2 : (y 2).val < 1024 := (y 2).isLt
  rw [View.read_apply]
  have e : ((cfg0.win 13).blk t).view.emb y = (ix3 ⟨t.val / 32, by omega⟩ ⟨t.val % 32 * 256 + (y 1).val, by omega⟩ ⟨(y 2).val, hy2⟩ : S4x8192x1024.Idx) :=
    funext fun a => Fin.ext (by
      match a with
      | ⟨0, _⟩ => exact place (congrFun (index_13 t) 0) (show t.val / 32 * 1 + (y 0).val = t.val / 32 by omega)
      | ⟨1, _⟩ => exact place (congrFun (index_13 t) 1) rfl
      | ⟨2, _⟩ => exact place (congrFun (index_13 t) 2) (all _ _))
  refine Eq.trans ?_ (congrArg (plain2 m c) e).symm
  have ey : ((cfg0.win 13).xinj (grid0.coords t) y : S1x256x1024.Idx) = ix3 0 ⟨(y 1).val, hy1⟩ ⟨(y 2).val, hy2⟩ := by
    funext a
    apply Fin.ext
    match a with
    | ⟨0, _⟩ => exact Nat.lt_one_iff.mp hy0
    | ⟨1, _⟩ => rfl
    | ⟨2, _⟩ => rfl
  show out0_13 _ _ _ _ _ _ _ _ _ _ _ ((cfg0.win 13).xinj (grid0.coords t) y : S1x256x1024.Idx) = _
  rw [ey, out_13]
  exact point_value m c t ⟨t.val / 32, by omega⟩ rfl ⟨(y 1).val, hy1⟩ ⟨t.val % 32 * 256 + (y 1).val, by omega⟩ rfl _

/-! The blocks fill the results. -/

theorem covered_11 (i : S4x8192x1024.Idx) : ∃ t : Fin cfg0.N, (cfg0.win 11).flush t = true ∧ i ∈ ((cfg0.win 11).blk t).view.set := by
  have h0 : (i 0).val < 4 := (i 0).isLt
  have h1 : (i 1).val < 8192 := (i 1).isLt
  have h2 : (i 2).val < 1024 := (i 2).isLt
  have hlt : (i 0).val * 32 + (i 1).val / 256 < 128 := by omega
  refine ⟨⟨(i 0).val * 32 + (i 1).val / 256, hlt⟩, flush0_11 _, ?_⟩
  generalize ht : (⟨(i 0).val * 32 + (i 1).val / 256, hlt⟩ : Fin cfg0.N) = t
  have tv : t.val = (i 0).val * 32 + (i 1).val / 256 := by rw [← ht]
  show i ∈ ((View.whole main_v34_0).slice (win0_11.rect t)).set
  rw [View.set_slice_whole, Rect.mem_set_unit]
  have e0 : win0_11.index t (0 : Fin 3) = t.val / 32 := congrFun (index_11 t) 0
  have e1 : win0_11.index t (1 : Fin 3) = t.val % 32 := congrFun (index_11 t) 1
  have e2 : win0_11.index t (2 : Fin 3) = 0 := congrFun (index_11 t) 2
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 256 ≤ (i 1).val ∧ (i 1).val < win0_11.index t (1 : Fin 3) * 256 + 256; omega
  | ⟨2, _⟩ => show win0_11.index t (2 : Fin 3) * 1024 ≤ (i 2).val ∧ (i 2).val < win0_11.index t (2 : Fin 3) * 1024 + 1024; omega

theorem covered_12 (i : S4x8192x1024.Idx) : ∃ t : Fin cfg0.N, (cfg0.win 12).flush t = true ∧ i ∈ ((cfg0.win 12).blk t).view.set := by
  have h0 : (i 0).val < 4 := (i 0).isLt
  have h1 : (i 1).val < 8192 := (i 1).isLt
  have h2 : (i 2).val < 1024 := (i 2).isLt
  have hlt : (i 0).val * 32 + (i 1).val / 256 < 128 := by omega
  refine ⟨⟨(i 0).val * 32 + (i 1).val / 256, hlt⟩, flush0_12 _, ?_⟩
  generalize ht : (⟨(i 0).val * 32 + (i 1).val / 256, hlt⟩ : Fin cfg0.N) = t
  have tv : t.val = (i 0).val * 32 + (i 1).val / 256 := by rw [← ht]
  show i ∈ ((View.whole main_v34_1).slice (win0_12.rect t)).set
  rw [View.set_slice_whole, Rect.mem_set_unit]
  have e0 : win0_12.index t (0 : Fin 3) = t.val / 32 := congrFun (index_12 t) 0
  have e1 : win0_12.index t (1 : Fin 3) = t.val % 32 := congrFun (index_12 t) 1
  have e2 : win0_12.index t (2 : Fin 3) = 0 := congrFun (index_12 t) 2
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 256 ≤ (i 1).val ∧ (i 1).val < win0_12.index t (1 : Fin 3) * 256 + 256; omega
  | ⟨2, _⟩ => show win0_12.index t (2 : Fin 3) * 1024 ≤ (i 2).val ∧ (i 2).val < win0_12.index t (2 : Fin 3) * 1024 + 1024; omega

theorem covered_13 (i : S4x8192x1024.Idx) : ∃ t : Fin cfg0.N, (cfg0.win 13).flush t = true ∧ i ∈ ((cfg0.win 13).blk t).view.set := by
  have h0 : (i 0).val < 4 := (i 0).isLt
  have h1 : (i 1).val < 8192 := (i 1).isLt
  have h2 : (i 2).val < 1024 := (i 2).isLt
  have hlt : (i 0).val * 32 + (i 1).val / 256 < 128 := by omega
  refine ⟨⟨(i 0).val * 32 + (i 1).val / 256, hlt⟩, flush0_13 _, ?_⟩
  generalize ht : (⟨(i 0).val * 32 + (i 1).val / 256, hlt⟩ : Fin cfg0.N) = t
  have tv : t.val = (i 0).val * 32 + (i 1).val / 256 := by rw [← ht]
  show i ∈ ((View.whole main_v34_2).slice (win0_13.rect t)).set
  rw [View.set_slice_whole, Rect.mem_set_unit]
  have e0 : win0_13.index t (0 : Fin 3) = t.val / 32 := congrFun (index_13 t) 0
  have e1 : win0_13.index t (1 : Fin 3) = t.val % 32 := congrFun (index_13 t) 1
  have e2 : win0_13.index t (2 : Fin 3) = 0 := congrFun (index_13 t) 2
  intro a
  match a with
  | ⟨0, _⟩ => show win0_13.index t (0 : Fin 3) * 1 ≤ (i 0).val ∧ (i 0).val < win0_13.index t (0 : Fin 3) * 1 + 1; omega
  | ⟨1, _⟩ => show win0_13.index t (1 : Fin 3) * 256 ≤ (i 1).val ∧ (i 1).val < win0_13.index t (1 : Fin 3) * 256 + 256; omega
  | ⟨2, _⟩ => show win0_13.index t (2 : Fin 3) * 1024 ≤ (i 2).val ∧ (i 2).val < win0_13.index t (2 : Fin 3) * 1024 + 1024; omega

/-! The launch's results are the plain ones of its arguments. -/

theorem final_11 (hpre : Cert.Pre_Kernel7Ideal_near_finite m) (c : Dev nD) : (dats m 0 c).arrAt 11 cfg0.N = plain0 m c :=
  (dats m 0 c).arrAt_eq_of_cover 11 (plain0 m c) (fun t _ => flushed_11 m hpre c t) covered_11
theorem final_12 (hpre : Cert.Pre_Kernel7Ideal_near_finite m) (c : Dev nD) : (dats m 0 c).arrAt 12 cfg0.N = plain1 m c :=
  (dats m 0 c).arrAt_eq_of_cover 12 (plain1 m c) (fun t _ => flushed_12 m hpre c t) covered_12
theorem final_13 (hpre : Cert.Pre_Kernel7Ideal_near_finite m) (c : Dev nD) : (dats m 0 c).arrAt 13 cfg0.N = plain2 m c :=
  (dats m 0 c).arrAt_eq_of_cover 13 (plain2 m c) (fun t _ => flushed_13 m hpre c t) covered_13

end Cert.Kernel7Ideal.Near

namespace Cert.Proof

open Cert.Kernel7Ideal Cert.Kernel7Ideal.Gen Idealize.ShloMosaic Idealize.ShloMosaic.TcCoe Idealize.SL.Sem

/-- The projection with its norms: of finite shifts, scales and weights the kernel and the plain reference compute the same
    three arrays. -/
theorem algebraic_near : Cert.algebraic_Kernel7Ideal_Reference7Ideal_pre_near_finite := by
  unfold Cert.algebraic_Kernel7Ideal_Reference7Ideal_pre_near_finite
  intro m g m' g' hpre hagree
  refine ⟨fun c => Cert.Kernel7Ideal.Near.plain0 m c, fun c => Cert.Kernel7Ideal.Near.plain1 m c, fun c => Cert.Kernel7Ideal.Near.plain2 m c,
    (θ_run Cert.Kernel7Ideal.defs _ _).mono (fun r h c => ⟨(h c).1.trans (Cert.Kernel7Ideal.Near.final_11 m hpre c),
      (h c).2.1.trans (Cert.Kernel7Ideal.Near.final_12 m hpre c), (h c).2.2.1.trans (Cert.Kernel7Ideal.Near.final_13 m hpre c), (h c).2.2.2⟩)
      (Cert.Kernel7Ideal.Value.run_blocks m g),
    (θ_run Cert.Reference7Ideal.defs _ _).mono (fun r h c => ⟨(h c).1.trans ?_, (h c).2.1.trans ?_, (h c).2.2.1.trans ?_, (h c).2.2.2⟩)
      (Cert.Reference7Ideal.Value.run (F := Ideal) m' g')⟩
  all_goals obtain ⟨h0, h1, h2, h3, h4, h5, h6⟩ := hagree c
  · refine (Cert.Reference7Ideal.Read.val_main_v53_eq (F := Ideal) m' c).trans ?_
    rw [h0, h1, h2, h3, h4, h5]
    rfl
  · refine (Cert.Reference7Ideal.Read.val_main_v55_eq (F := Ideal) m' c).trans ?_
    rw [h0, h1, h2, h3, h4, h6]
    rfl
  · refine (Cert.Reference7Ideal.Read.val_main_v57_eq (F := Ideal) _ _ _ _ _).trans ?_
    rw [h0, h1, h2, h3, h4]
    rfl

end Cert.Proof

end
-- ==== Proof.Out8Block.lean ====
/-
  One block of the output projection of the layers before the last at an index: the rows with the residual, the modulated rows, and their experts' softmax.
-/
module

public import proofs.«01_k».proof.Proof.Gen.Kernel8Ideal.Frame
public import proofs.«01_k».proof.Proof.RowMath

@[expose] public section

set_option maxRecDepth 16384

noncomputable section

namespace Cert.Kernel8Ideal.Out

open Cert.Kernel8Ideal Cert.Kernel8Ideal.Gen Cert.Row Idealize.ShloMosaic

theorem mixed_apply (o : Vec Ideal S1x512x1024 .bf16) (w : Vec Ideal S1024x1024 .bf16) (h : Vec Ideal S1x512x1024 .f32) (g : Vec Ideal S1x1x1024 .f32)
    (r : Fin 512) (d : Fin 1024) :
    k0_pay4 o w h g (ix2 r d) = mixed (h (ix3 0 r d)) (g (ix3 0 0 d)) (fun k => o (ix3 0 r k)) (fun k => w (ix2 k d)) := by
  unfold mixed
  pointwise [k0_pay4]

theorem unit_apply (o : Vec Ideal S1x512x1024 .bf16) (w : Vec Ideal S1024x1024 .bf16) (h : Vec Ideal S1x512x1024 .f32) (g : Vec Ideal S1x1x1024 .f32)
    (r : Fin 512) (d : Fin 1024) :
    k0_pay9 o w h g (ix2 r d) = (fun a b : EReal => a * b) (k0_pay4 o w h g (ix2 r d)) (unitScale fun k => k0_pay4 o w h g (ix2 r k)) := by
  unfold unitScale k0_pay9
  generalize k0_pay4 o w h g = x
  pointwise

theorem modulated_apply (sc sh : Vec Ideal S1x1x1024 .f32) (gn : Vec Ideal S1x1024 .f32) (x : FVec Ideal S512x1024 .f32) (r : Fin 512) (d : Fin 1024) :
    k0_pay1 (k0_pay6 gn) (k0_pay7 sh) (k0_pay8 sc) x (ix2 r d)
      = (fun a b c e : EReal => a * b * (1 + c) + e) (x (ix2 r d)) (gn (ix2 0 d)) (sc (ix3 0 0 d)) (sh (ix3 0 0 d)) := by
  pointwise [k0_pay1, k0_pay6, k0_pay7, k0_pay8]

theorem chosen_apply (v16 v18 v20 : FVec Ideal S1x1024 .f32) (v30 : FVec Ideal S512x1024 .f32) (rw : Vec Ideal S16x1024 .f32) (e : Fin 16) (r : Fin 512) :
    k0_pay3 v16 v18 v20 v30 rw (ix3 0 e r)
      = chosen (fun e => ∑ k : Fin 1024, (fun a b : EReal => a * b) (rw (ix2 e k)) (k0_pay1 v16 v18 v20 v30 (ix2 r k))) e := by
  unfold chosen k0_pay3
  generalize k0_pay1 v16 v18 v20 v30 = x
  pointwise
  simp only [fold_max_eq]

end Cert.Kernel8Ideal.Out

end
-- ==== Proof.Out8Ref.lean ====
/-
  The plain output projection at an index.
-/
module

public import proofs.«01_k».proof.Proof.Gen.Reference8Ideal.Read
public import proofs.«01_k».proof.Proof.RowMath

@[expose] public section

set_option maxRecDepth 16384

noncomputable section

namespace Cert.Reference8Ideal.Out

open Cert.Reference8Ideal Cert.Reference8Ideal.Read Cert.Row Idealize.ShloMosaic

variable (x0 : (⟨S4x8192x1024, .bf16⟩ : BufTy).Contents (Elt Ideal)) (x1 : (⟨S1024x1024, .f32⟩ : BufTy).Contents (Elt Ideal))
  (x2 : (⟨S4x8192x1024, .f32⟩ : BufTy).Contents (Elt Ideal)) (x3 : (⟨S4x1x1024, .f32⟩ : BufTy).Contents (Elt Ideal))
  (x4 : (⟨S1024, .f32⟩ : BufTy).Contents (Elt Ideal)) (x5 x6 : (⟨S4x1x1024, .f32⟩ : BufTy).Contents (Elt Ideal))
  (x7 : (⟨S1024x16, .f32⟩ : BufTy).Contents (Elt Ideal))

theorem mixed_apply (b : Fin 4) (n : Fin 8192) (d : Fin 1024) : val_main_v4 (F := Ideal) x0 x1 x2 x3 (ix3 b n d)
    = mixed (x2 (ix3 b n d)) (x3 (ix3 b 0 d)) (fun k => x0 (ix3 b n k)) (fun k => x1 (ix2 k d)) := by
  unfold mixed
  pointwise [val_main_v4, val_main_v3, val_main_v2, val_main_v1, val_main_v0]

theorem square_apply (b : Fin 4) (n : Fin 8192) : val_main_v6 (F := Ideal) x0 x1 x2 x3 (ix2 b n)
    = ∑ k : Fin 1024, (fun a : EReal => a * a) (val_main_v4 (F := Ideal) x0 x1 x2 x3 (ix3 b n k)) := by
  unfold val_main_v6 val_main_v5
  generalize val_main_v4 (F := Ideal) x0 x1 x2 x3 = y
  pointwise
  have e : val_main_cst (F := Ideal) (Shape.Idx.first Gen.h_S_) = (0 : EReal) := zero_bits
  rw [e, zero_add]

theorem modulated_apply (b : Fin 4) (n : Fin 8192) (d : Fin 1024) : val_main_v23 (F := Ideal) x0 x1 x2 x3 x4 x5 x6 (ix3 b n d)
    = modulated (fun k => val_main_v4 (F := Ideal) x0 x1 x2 x3 (ix3 b n k)) (fun k => x4 (ix1 k)) (fun k => x6 (ix3 b 0 k)) (fun k => x5 (ix3 b 0 k)) d := by
  unfold modulated unitScale
  pointwise [val_main_v23, val_main_v22, val_main_v21, val_main_v20, val_main_v19, val_main_v18, val_main_v17, val_main_v16, val_main_v15, val_main_v14,
    val_main_v13, val_main_v12, val_main_v11, val_main_v10, val_main_v9, val_main_v8, val_main_v7]
  rw [square_apply]
  have e : val_main_cst_2 (F := Ideal) ix0 = (1 : EReal) := one_bits
  rw [e]
  rfl

/-- An expert's score of a row. -/
def score (b : Fin 4) (n : Fin 8192) (e : Fin 16) : EReal := val_main_v24 (F := Ideal) x0 x1 x2 x3 x4 x5 x6 x7 (ix3 b n e)

theorem score_apply (b : Fin 4) (n : Fin 8192) (e : Fin 16) : score x0 x1 x2 x3 x4 x5 x6 x7 b n e
    = ∑ k : Fin 1024, (fun a b : EReal => a * b) (val_main_v23 (F := Ideal) x0 x1 x2 x3 x4 x5 x6 (ix3 b n k)) (x7 (ix2 k e)) := by
  unfold score val_main_v24
  generalize val_main_v23 (F := Ideal) x0 x1 x2 x3 x4 x5 x6 = y
  pointwise

theorem top_single (b : Fin 4) (n : Fin 8192) : val_main_v25 (F := Ideal) x0 x1 x2 x3 x4 x5 x6 x7 (ix2 b n)
    = Finset.univ.fold max (Ideal.ofBits .f32 0xFF800000#32) (score x0 x1 x2 x3 x4 x5 x6 x7 b n) := by
  unfold val_main_v25 score
  generalize val_main_v24 (F := Ideal) x0 x1 x2 x3 x4 x5 x6 x7 = y0
  rw [Host.reduce_eq_fold_single _ _ _ Gen.reducesTo_S4x8192x16_S4x8192_d2 (by decide)]
  refine congrArg (fun f => Finset.univ.fold max (Ideal.ofBits .f32 0xFF800000#32) f) (funext fun k => ?_)
  exact congrArg y0 (funext fun a => Fin.ext (by match a with | ⟨0, _⟩ => rfl | ⟨1, _⟩ => rfl | ⟨2, _⟩ => rfl))

theorem top_max (y0 : (⟨S4x8192, .f32⟩ : BufTy).Contents (Elt Ideal)) (i : S4x8192.Idx) :
    maximumf (F := Ideal) (s := S4x8192) (φ := .f32) (val_main_v26 (F := Ideal)) y0 i = (fun a b : EReal => max a b) ⊥ (y0 i) := by
  show (fun a b : EReal => max a b) (Ideal.ofBits .f32 0xFF800000#32) (y0 i) = _
  rw [low_eq]

/-- The largest of a row's scores. -/
theorem top_apply (b : Fin 4) (n : Fin 8192) : val_main_v27 (F := Ideal) x0 x1 x2 x3 x4 x5 x6 x7 (ix2 b n)
    = Finset.univ.sup (score x0 x1 x2 x3 x4 x5 x6 x7 b n) := by
  unfold val_main_v27
  rw [top_max, top_single, fold_max_eq]
  exact max_eq_right bot_le

/-- The exponential of a score below the largest. -/
theorem exp_apply (b : Fin 4) (n : Fin 8192) (e : Fin 16) : val_main_v31 (F := Ideal) x0 x1 x2 x3 x4 x5 x6 x7 (ix3 b n e)
    = Ideal.exp (score x0 x1 x2 x3 x4 x5 x6 x7 b n e - Finset.univ.sup (score x0 x1 x2 x3 x4 x5 x6 x7 b n)) := by
  pointwise [val_main_v31, val_main_v30, val_main_v29, val_main_v28]
  rw [top_apply]
  rfl

theorem total_apply (b : Fin 4) (n : Fin 8192) : val_main_v32 (F := Ideal) x0 x1 x2 x3 x4 x5 x6 x7 (ix2 b n)
    = ∑ k : Fin 16, (fun a : EReal => a) (val_main_v31 (F := Ideal) x0 x1 x2 x3 x4 x5 x6 x7 (ix3 b n k)) := by
  unfold val_main_v32
  generalize val_main_v31 (F := Ideal) x0 x1 x2 x3 x4 x5 x6 x7 = y
  pointwise
  have e : val_main_cst_5 (F := Ideal) (Shape.Idx.first Gen.h_S_) = (0 : EReal) := zero_bits
  rw [e, zero_add]

/-- The softmax of a row's scores, the experts before the rows. -/
theorem chosen_apply (b : Fin 4) (n : Fin 8192) (e : Fin 16) : val_main_v40 (F := Ideal) x0 x1 x2 x3 x4 x5 x6 x7 (ix3 b e n)
    = chosen (score x0 x1 x2 x3 x4 x5 x6 x7 b n) e := by
  unfold chosen
  pointwise [val_main_v40, val_main_v35, val_main_v34, val_main_v33]
  simp only [total_apply, exp_apply]

/-- The rows of all batches one under another. -/
theorem flat_apply (b : Fin 4) (n : Fin 8192) (d : Fin 1024) (r : Fin 32768) (hr : r.val = b.val * 8192 + n.val) :
    val_main_v36 (F := Ideal) x0 x1 x2 x3 x4 x5 x6 (ix2 r d) = val_main_v23 (F := Ideal) x0 x1 x2 x3 x4 x5 x6 (ix3 b n d) := by
  unfold val_main_v36
  generalize val_main_v23 (F := Ideal) x0 x1 x2 x3 x4 x5 x6 = y
  show shapeCast (α := EReal) S32768x1024 y _ (ix2 r d) = _
  refine shapeCast_apply _ _ _ _ ?_
  rw [Shape.rowMajor_val_two, Shape.rowMajor_val_three]
  show (b.val * 8192 + n.val) * 1024 + d.val = r.val * 1024 + d.val
  rw [hr]

/-- They come first; the rows after them are zero. -/
theorem joined_apply (r : Fin 33792) (d : Fin 1024) : val_main_v39 (F := Ideal) x0 x1 x2 x3 x4 x5 x6 (ix2 r d)
    = if h : r.val < 32768 then val_main_v36 (F := Ideal) x0 x1 x2 x3 x4 x5 x6 (ix2 ⟨r.val, h⟩ d) else (0 : EReal) := by
  unfold val_main_v39 val_main_v38 val_main_v37
  generalize val_main_v36 (F := Ideal) x0 x1 x2 x3 x4 x5 x6 = y
  pointwise
  have e : val_main_cst_6 (F := Ideal) ix0 = (0 : EReal) := zero_bits
  rw [e]

end Cert.Reference8Ideal.Out

end
-- ==== Proof.Out8Value.lean ====
/-
  The value claim of the output projection of the layers before the last. The kernel goes over blocks of 512 rows, the plain
  reference over all rows at once; both compute each row by itself. The kernel's second result is longer than its blocks and
  keeps zeros in the rest.
-/
module

public import proofs.«01_k».proof.Defs
public import proofs.«01_k».proof.Proof.Out8Block
public import proofs.«01_k».proof.Proof.Out8Ref
public import proofs.«01_k».proof.Proof.Gen.Kernel8Ideal.Value
public import proofs.«01_k».proof.Proof.Gen.Reference8Ideal.Run

@[expose] public section

set_option maxRecDepth 16384

noncomputable section

namespace Cert.Kernel8Ideal.Out

open Cert.Kernel8Ideal Cert.Kernel8Ideal.Gen Cert.Row Idealize.ShloMosaic Idealize.ShloMosaic.TcCoe Idealize.SL.Sem

theorem index_0 : ∀ t : Fin cfg0.N, win0_0.index t = ![t.val / 16, t.val % 16, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val / 16, t.val % 16, 0] := (by decide +kernel : ∀ t : Fin grid0.N, _)
theorem index_3 : ∀ t : Fin cfg0.N, win0_3.index t = ![t.val / 16, 0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![t.val / 16, 0, 0] := (by decide +kernel : ∀ t : Fin grid0.N, _)
theorem index_6 : ∀ t : Fin cfg0.N, win0_6.index t = ![t.val / 16, 0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![t.val / 16, t.val % 16, 0] := (by decide +kernel : ∀ t : Fin grid0.N, _)
theorem index_9 : ∀ t : Fin cfg0.N, win0_9.index t = ![t.val, 0] := (by decide +kernel : ∀ t : Fin grid0.N, _)
theorem index_10 : ∀ t : Fin cfg0.N, win0_10.index t = ![t.val / 16, 0, t.val % 16] := (by decide +kernel : ∀ t : Fin grid0.N, _)

theorem read_0 (t : Fin cfg0.N) (A : S4x8192x1024.Idx → EReal) (b : Fin 4) (r : Fin 512) (n : Fin 8192) (d : Fin 1024)
    (hb : t.val / 16 = b.val) (hn : t.val % 16 * 512 + r.val = n.val) :
    ((cfg0.win 0).blk t).view.read (Elt Ideal) A (ix3 0 r d) = A (ix3 b n d) := by
  rw [View.read_apply]
  refine congrArg A (funext fun a => Fin.ext ?_)
  match a with
  | ⟨0, _⟩ => exact place (congrFun (index_0 t) 0) (first hb)
  | ⟨1, _⟩ => exact place (congrFun (index_0 t) 1) hn
  | ⟨2, _⟩ => exact place (congrFun (index_0 t) 2) (all _ _)

theorem read_2 (t : Fin cfg0.N) (A : S4x8192x1024.Idx → EReal) (b : Fin 4) (r : Fin 512) (n : Fin 8192) (d : Fin 1024)
    (hb : t.val / 16 = b.val) (hn : t.val % 16 * 512 + r.val = n.val) :
    ((cfg0.win 2).blk t).view.read (Elt Ideal) A (ix3 0 r d) = A (ix3 b n d) := by
  rw [View.read_apply]
  refine congrArg A (funext fun a => Fin.ext ?_)
  match a with
  | ⟨0, _⟩ => exact place (congrFun (index_2 t) 0) (first hb)
  | ⟨1, _⟩ => exact place (congrFun (index_2 t) 1) hn
  | ⟨2, _⟩ => exact place (congrFun (index_2 t) 2) (all _ _)

theorem read_1 (t : Fin cfg0.N) (A : S1024x1024.Idx → EReal) (k d : Fin 1024) :
    ((cfg0.win 1).blk t).view.read (Elt Ideal) A (ix2 k d) = A (ix2 k d) := by
  rw [View.read_apply]
  refine congrArg A (funext fun a => Fin.ext ?_)
  match a with
  | ⟨0, _⟩ => exact place (congrFun (index_1 t) 0) (all _ _)
  | ⟨1, _⟩ => exact place (congrFun (index_1 t) 1) (all _ _)

theorem read_3 (t : Fin cfg0.N) (A : S4x1x1024.Idx → EReal) (b : Fin 4) (d : Fin 1024)
    (hb : t.val / 16 = b.val) :
    ((cfg0.win 3).blk t).view.read (Elt Ideal) A (ix3 0 0 d) = A (ix3 b 0 d) := by
  rw [View.read_apply]
  refine congrArg A (funext fun a => Fin.ext ?_)
  match a with
  | ⟨0, _⟩ => exact place (congrFun (index_3 t) 0) (first hb)
  | ⟨1, _⟩ => exact place (congrFun (index_3 t) 1) rfl
  | ⟨2, _⟩ => exact place (congrFun (index_3 t) 2) (all _ _)

theorem read_5 (t : Fin cfg0.N) (A : S4x1x1024.Idx → EReal) (b : Fin 4) (d : Fin 1024)
    (hb : t.val / 16 = b.val) :
    ((cfg0.win 5).blk t).view.read (Elt Ideal) A (ix3 0 0 d) = A (ix3 b 0 d) := by
  rw [View.read_apply]
  refine congrArg A (funext fun a => Fin.ext ?_)
  match a with
  | ⟨0, _⟩ => exact place (congrFun (index_5 t) 0) (first hb)
  | ⟨1, _⟩ => exact place (congrFun (index_5 t) 1) rfl
  | ⟨2, _⟩ => exact place (congrFun (index_5 t) 2) (all _ _)

theorem read_6 (t : Fin cfg0.N) (A : S4x1x1024.Idx → EReal) (b : Fin 4) (d : Fin 1024)
    (hb : t.val / 16 = b.val) :
    ((cfg0.win 6).blk t).view.read (Elt Ideal) A (ix3 0 0 d) = A (ix3 b 0 d) := by
  rw [View.read_apply]
  refine congrArg A (funext fun a => Fin.ext ?_)
  match a with
  | ⟨0, _⟩ => exact place (congrFun (index_6 t) 0) (first hb)
  | ⟨1, _⟩ => exact place (congrFun (index_6 t) 1) rfl
  | ⟨2, _⟩ => exact place (congrFun (index_6 t) 2) (all _ _)

theorem read_4 (t : Fin cfg0.N) (A : S1x1024.Idx → EReal) (d : Fin 1024) :
    ((cfg0.win 4).blk t).view.read (Elt Ideal) A (ix2 0 d) = A (ix2 0 d) := by
  rw [View.read_apply]
  refine congrArg A (funext fun a => Fin.ext ?_)
  match a with
  | ⟨0, _⟩ => exact place (congrFun (index_4 t) 0) rfl
  | ⟨1, _⟩ => exact place (congrFun (index_4 t) 1) (all _ _)

theorem read_7 (t : Fin cfg0.N) (A : S16x1024.Idx → EReal) (e : Fin 16) (d : Fin 1024) :
    ((cfg0.win 7).blk t).view.read (Elt Ideal) A (ix2 e d) = A (ix2 e d) := by
  rw [View.read_apply]
  refine congrArg A (funext fun a => Fin.ext ?_)
  match a with
  | ⟨0, _⟩ => exact place (congrFun (index_7 t) 0) (all _ _)
  | ⟨1, _⟩ => exact place (congrFun (index_7 t) 1) (all _ _)

/-! The arrays the launch reads. -/

variable (m : (ℓ : Loc nD τ sig) → Buf (Elt Ideal) ℓ)

/-- The mixer's rows. -/
def heads (c : Dev nD) : S4x8192x1024.Idx → EReal := m ((c : Thread nD τ).loc main_arg0)
/-- The projection's weight. -/
def weight (c : Dev nD) : S1024x1024.Idx → EReal := m ((c : Thread nD τ).loc main_arg1)
/-- The residual. -/
def resid (c : Dev nD) : S4x8192x1024.Idx → EReal := m ((c : Thread nD τ).loc main_arg2)
/-- The gates of the mixer's result. -/
def gates (c : Dev nD) : S4x1x1024.Idx → EReal := m ((c : Thread nD τ).loc main_arg3)
/-- The norm's weight. -/
def norm (c : Dev nD) : S1024.Idx → EReal := m ((c : Thread nD τ).loc main_arg4)
/-- The shifts. -/
def shift (c : Dev nD) : S4x1x1024.Idx → EReal := m ((c : Thread nD τ).loc main_arg5)
/-- The scales. -/
def scales (c : Dev nD) : S4x1x1024.Idx → EReal := m ((c : Thread nD τ).loc main_arg6)
/-- The experts' weights. -/
def router (c : Dev nD) : S1024x16.Idx → EReal := m ((c : Thread nD τ).loc main_arg7)

theorem block_0 (c : Dev nD) (t : Fin cfg0.N) : iblk m c 0 t = ((cfg0.win 0).blk t).view.read (Elt Ideal) (heads m c) := by
  unfold heads; rw [← V_main_arg0 m c]; rfl
theorem block_1 (c : Dev nD) (t : Fin cfg0.N) : iblk m c 1 t = ((cfg0.win 1).blk t).view.read (Elt Ideal) (V m c main_v0 : S1024x1024.Idx → EReal) := rfl
theorem block_2 (c : Dev nD) (t : Fin cfg0.N) : iblk m c 2 t = ((cfg0.win 2).blk t).view.read (Elt Ideal) (resid m c) := by
  unfold resid; rw [← V_main_arg2 m c]; rfl
theorem block_3 (c : Dev nD) (t : Fin cfg0.N) : iblk m c 3 t = ((cfg0.win 3).blk t).view.read (Elt Ideal) (gates m c) := by
  unfold gates; rw [← V_main_arg3 m c]; rfl
theorem block_4 (c : Dev nD) (t : Fin cfg0.N) : iblk m c 4 t = ((cfg0.win 4).blk t).view.read (Elt Ideal) (V m c main_v3 : S1x1024.Idx → EReal) := rfl
theorem block_5 (c : Dev nD) (t : Fin cfg0.N) : iblk m c 5 t = ((cfg0.win 5).blk t).view.read (Elt Ideal) (shift m c) := by
  unfold shift; rw [← V_main_arg5 m c]; rfl
theorem block_6 (c : Dev nD) (t : Fin cfg0.N) : iblk m c 6 t = ((cfg0.win 6).blk t).view.read (Elt Ideal) (scales m c) := by
  unfold scales; rw [← V_main_arg6 m c]; rfl
theorem block_7 (c : Dev nD) (t : Fin cfg0.N) : iblk m c 7 t = ((cfg0.win 7).blk t).view.read (Elt Ideal) (V m c main_v1 : S16x1024.Idx → EReal) := rfl

theorem host_weight (c : Dev nD) (k d : Fin 1024) : (V m c main_v0 : S1024x1024.Idx → EReal) (ix2 k d) = weight m c (ix2 k d) := by
  show StableHlo.after hostOps0 _ _ _ = _
  after_results_simp
  rfl
theorem host_router (c : Dev nD) (e : Fin 16) (d : Fin 1024) : (V m c main_v1 : S16x1024.Idx → EReal) (ix2 e d) = router m c (ix2 d e) := by
  show StableHlo.after hostOps0 _ _ _ = _
  after_results_simp
  unfold router
  pointwise
theorem host_norm (c : Dev nD) (d : Fin 1024) : (V m c main_v3 : S1x1024.Idx → EReal) (ix2 0 d) = norm m c (ix1 d) := by
  show StableHlo.after hostOps0 _ _ _ = _
  after_results_simp
  unfold norm
  pointwise

/-! One point's rows. -/

/-- The residual plus the gated projection of the launch's arguments. -/
def row (c : Dev nD) (b : Fin 4) (n : Fin 8192) (d : Fin 1024) : EReal :=
  mixed (resid m c (ix3 b n d)) (gates m c (ix3 b 0 d)) (fun k => heads m c (ix3 b n k)) (fun k => weight m c (ix2 k d))

/-- The row, modulated. -/
def modRow (c : Dev nD) (b : Fin 4) (n : Fin 8192) (d : Fin 1024) : EReal :=
  modulated (row m c b n) (fun k => norm m c (ix1 k)) (fun k => scales m c (ix3 b 0 k)) (fun k => shift m c (ix3 b 0 k)) d

section
variable (c : Dev nD) (t : Fin cfg0.N) (b : Fin 4) (r : Fin 512) (n : Fin 8192) (hb : t.val / 16 = b.val) (hn : t.val % 16 * 512 + r.val = n.val)

include hb hn in
theorem point_row (d : Fin 1024) : k0_pay4 (iblk m c 0 t) (iblk m c 1 t) (iblk m c 2 t) (iblk m c 3 t) (ix2 r d) = row m c b n d := by
  rw [mixed_apply, block_0, block_1, block_2, block_3]
  unfold row
  have e2 := read_2 t (resid m c) b r n d hb hn
  have e3 := read_3 t (gates m c) b d hb
  have e0 : (fun k => ((cfg0.win 0).blk t).view.read (Elt Ideal) (heads m c) (ix3 0 r k)) = fun k => heads m c (ix3 b n k) :=
    funext fun k => read_0 t (heads m c) b r n k hb hn
  have e1 : (fun k => ((cfg0.win 1).blk t).view.read (Elt Ideal) (V m c main_v0 : S1024x1024.Idx → EReal) (ix2 k d)) = fun k => weight m c (ix2 k d) :=
    funext fun k => (read_1 t _ k d).trans (host_weight m c k d)
  exact congr (congr (congr (congrArg mixed e2) e3) e0) e1

include hb hn in
theorem point_mod (d : Fin 1024) : k0_pay1 (k0_pay6 (iblk m c 4 t)) (k0_pay7 (iblk m c 5 t)) (k0_pay8 (iblk m c 6 t))
      (k0_pay9 (iblk m c 0 t) (iblk m c 1 t) (iblk m c 2 t) (iblk m c 3 t)) (ix2 r d) = modRow m c b n d := by
  rw [modulated_apply, unit_apply, block_4, block_5, block_6]
  have er : (fun k => k0_pay4 (iblk m c 0 t) (iblk m c 1 t) (iblk m c 2 t) (iblk m c 3 t) (ix2 r k)) = row m c b n :=
    funext fun k => point_row m c t b r n hb hn k
  rw [er, point_row m c t b r n hb hn d]
  have e4 := (read_4 t (V m c main_v3 : S1x1024.Idx → EReal) d).trans (host_norm m c d)
  have e5 := read_5 t (shift m c) b d hb
  have e6 := read_6 t (scales m c) b d hb
  unfold modRow modulated
  exact mod_congr e4 e6 e5

include hb hn in
theorem point_chosen (e : Fin 16) : k0_pay3 (k0_pay6 (iblk m c 4 t)) (k0_pay7 (iblk m c 5 t)) (k0_pay8 (iblk m c 6 t))
      (k0_pay9 (iblk m c 0 t) (iblk m c 1 t) (iblk m c 2 t) (iblk m c 3 t)) (iblk m c 7 t) (ix3 0 e r)
    = chosen (fun e => ∑ k : Fin 1024, modRow m c b n k * router m c (ix2 k e)) e := by
  rw [chosen_apply]
  refine congrArg (fun l => chosen l e) (funext fun e => Finset.sum_congr rfl fun k _ => ?_)
  rw [point_mod m c t b r n hb hn k, block_7]
  have e7 := (read_7 t (V m c main_v1 : S16x1024.Idx → EReal) e k).trans (host_router m c e k)
  refine (congrArg (fun u : EReal => u * modRow m c b n k) e7).trans ?_
  exact mul_comm _ _
end

/-! The reference's three results. -/

def plain0 (c : Dev nD) : S4x8192x1024.Idx → EReal :=
  Cert.Reference8Ideal.Read.val_main_v4 (F := Ideal) (heads m c) (weight m c) (resid m c) (gates m c)
def plain1 (c : Dev nD) : S33792x1024.Idx → EReal :=
  Cert.Reference8Ideal.Read.val_main_v39 (F := Ideal) (heads m c) (weight m c) (resid m c) (gates m c) (norm m c) (shift m c) (scales m c)
def plain2 (c : Dev nD) : S4x16x8192.Idx → EReal :=
  Cert.Reference8Ideal.Read.val_main_v40 (F := Ideal) (heads m c) (weight m c) (resid m c) (gates m c) (norm m c) (shift m c) (scales m c) (router m c)

theorem plain0_apply (c : Dev nD) (b : Fin 4) (n : Fin 8192) (d : Fin 1024) : plain0 m c (ix3 b n d) = row m c b n d :=
  Cert.Reference8Ideal.Out.mixed_apply _ _ _ _ b n d

theorem mod_eq (c : Dev nD) (b : Fin 4) (n : Fin 8192) (d : Fin 1024) :
    Cert.Reference8Ideal.Read.val_main_v23 (F := Ideal) (heads m c) (weight m c) (resid m c) (gates m c) (norm m c) (shift m c) (scales m c) (ix3 b n d)
      = modRow m c b n d := by
  rw [Cert.Reference8Ideal.Out.modulated_apply]
  unfold modRow
  have er : (fun k => Cert.Reference8Ideal.Read.val_main_v4 (F := Ideal) (heads m c) (weight m c) (resid m c) (gates m c) (ix3 b n k)) = row m c b n :=
    funext fun k => plain0_apply m c b n k
  rw [er]

theorem plain1_apply (c : Dev nD) (b : Fin 4) (n : Fin 8192) (d : Fin 1024) (r : Fin 33792) (hr : r.val = b.val * 8192 + n.val) :
    plain1 m c (ix2 r d) = modRow m c b n d := by
  have hb := b.isLt
  have hn := n.isLt
  unfold plain1
  rw [Cert.Reference8Ideal.Out.joined_apply, dif_pos (show r.val < 32768 by omega)]
  exact (Cert.Reference8Ideal.Out.flat_apply _ _ _ _ _ _ _ b n d ⟨r.val, by omega⟩ hr).trans (mod_eq m c b n d)

theorem plain1_rest (c : Dev nD) (r : Fin 33792) (d : Fin 1024) (h : ¬r.val < 32768) : plain1 m c (ix2 r d) = 0 := by
  unfold plain1
  rw [Cert.Reference8Ideal.Out.joined_apply, dif_neg h]

theorem plain2_apply (c : Dev nD) (b : Fin 4) (n : Fin 8192) (e : Fin 16) :
    plain2 m c (ix3 b e n) = chosen (fun e => ∑ k : Fin 1024, modRow m c b n k * router m c (ix2 k e)) e := by
  refine (Cert.Reference8Ideal.Out.chosen_apply _ _ _ _ _ _ _ _ b n e).trans ?_
  refine congrArg (fun l => chosen l e) (funext fun e => ?_)
  rw [Cert.Reference8Ideal.Out.score_apply]
  refine Finset.sum_congr rfl fun k _ => ?_
  rw [mod_eq]

/-! What each point writes. -/

theorem hz2 : (![0, 0] : Fin 2 → ℕ) = fun _ => 0 := by funext a; match a with | ⟨0, _⟩ => rfl | ⟨1, _⟩ => rfl
theorem hz3 : (![0, 0, 0] : Fin 3 → ℕ) = fun _ => 0 := by funext a; match a with | ⟨0, _⟩ => rfl | ⟨1, _⟩ => rfl | ⟨2, _⟩ => rfl

section
variable (c : Dev nD) (i : grid0.Coords) (arg2 : Memref sig .tc .vmem S1x512x1024 .bf16) (harg2 : arg2.IsWhole) (arg3 : Memref sig .tc .vmem S1024x1024 .bf16) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S16x1024 .f32) (harg9 : arg9.IsWhole) (arg11 : Memref sig .tc .vmem S1x512x1024 .f32) (harg11 : arg11.IsWhole) (arg12 : Memref sig .tc .vmem S512x1024 .bf16) (harg12 : arg12.IsWhole) (arg13 : Memref sig .tc .vmem S1x16x512 .f32) (harg13 : arg13.IsWhole)
  (x0 : Vec Ideal S1x512x1024 .bf16) (x1 : Vec Ideal S1024x1024 .bf16) (x2 : Vec Ideal S1x512x1024 .f32) (x3 : Vec Ideal S1x1x1024 .f32)
  (x4 : Vec Ideal S1x1024 .f32) (x5 x6 : Vec Ideal S1x1x1024 .f32) (x7 : Vec Ideal S16x1024 .f32)

theorem out_8 : out0_A_8 c i arg2 harg2 arg3 harg3 arg4 harg4 arg5 harg5 arg6 harg6 arg7 harg7 arg8 harg8 arg9 harg9 arg11 harg11 arg12 harg12 arg13 harg13 x0 x1 x2 x3 x4 x5 x6 x7 = k0_pay5 x0 x1 x2 x3 := by
  unfold out0_A_8
  rw [View.read_writes_eq_canon _ _ _ (cover0_A_8 c i arg2 harg2 arg3 harg3 arg4 harg4 arg5 harg5 arg6 harg6 arg7 harg7 arg8 harg8 arg9 harg9 arg11 harg11 arg12 harg12 arg13 harg13 x0 x1 x2 x3 x4 x5 x6 x7)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread,
    View.ld_unit_zero (S := S1x512x1024) hz3, View.ld_unit_zero (S := S1x1x1024) hz3, View.ld_unit_zero (S := S1024x1024) hz2,
    View.ld_unit_zero (S := S1x1024) hz2, View.ld_unit_zero (S := S16x1024) hz2]

theorem out_9 : out0_A_9 c i arg2 harg2 arg3 harg3 arg4 harg4 arg5 harg5 arg6 harg6 arg7 harg7 arg8 harg8 arg9 harg9 arg11 harg11 arg12 harg12 arg13 harg13 x0 x1 x2 x3 x4 x5 x6 x7 = k0_pay2 (k0_pay6 x4) (k0_pay7 x5) (k0_pay8 x6) (k0_pay9 x0 x1 x2 x3) := by
  unfold out0_A_9
  rw [View.read_writes_eq_canon _ _ _ (cover0_A_9 c i arg2 harg2 arg3 harg3 arg4 harg4 arg5 harg5 arg6 harg6 arg7 harg7 arg8 harg8 arg9 harg9 arg11 harg11 arg12 harg12 arg13 harg13 x0 x1 x2 x3 x4 x5 x6 x7)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread,
    View.ld_unit_zero (S := S1x512x1024) hz3, View.ld_unit_zero (S := S1x1x1024) hz3, View.ld_unit_zero (S := S1024x1024) hz2,
    View.ld_unit_zero (S := S1x1024) hz2, View.ld_unit_zero (S := S16x1024) hz2]

theorem out_10 : out0_A_10 c i arg2 harg2 arg3 harg3 arg4 harg4 arg5 harg5 arg6 harg6 arg7 harg7 arg8 harg8 arg9 harg9 arg11 harg11 arg12 harg12 arg13 harg13 x0 x1 x2 x3 x4 x5 x6 x7 = k0_pay3 (k0_pay6 x4) (k0_pay7 x5) (k0_pay8 x6) (k0_pay9 x0 x1 x2 x3) x7 := by
  unfold out0_A_10
  rw [View.read_writes_eq_canon _ _ _ (cover0_A_10 c i arg2 harg2 arg3 harg3 arg4 harg4 arg5 harg5 arg6 harg6 arg7 harg7 arg8 harg8 arg9 harg9 arg11 harg11 arg12 harg12 arg13 harg13 x0 x1 x2 x3 x4 x5 x6 x7)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread,
    View.ld_unit_zero (S := S1x512x1024) hz3, View.ld_unit_zero (S := S1x1x1024) hz3, View.ld_unit_zero (S := S1024x1024) hz2,
    View.ld_unit_zero (S := S1x1024) hz2, View.ld_unit_zero (S := S16x1024) hz2]

theorem pay5_apply (r : Fin 512) (d : Fin 1024) : k0_pay5 x0 x1 x2 x3 (ix3 0 r d) = k0_pay4 x0 x1 x2 x3 (ix2 r d) := by
  unfold k0_pay5
  generalize k0_pay4 x0 x1 x2 x3 = y
  pointwise
end

theorem flushed_8 (c : Dev nD) (t : Fin cfg0.N) : (dats m 0 c).flushed 8 t = ((cfg0.win 8).blk t).view.read (Elt Ideal) (plain0 m c) := by
  rw [Cert.Kernel8Ideal.Value.flushed8_A, out_8]
  have ht : t.val < 64 := t.isLt
  funext y
  have hy0 : (y 0).val < 1 := (y 0).isLt
  have hy1 : (y 1).val < 512 := (y 1).isLt
  have hy2 : (y 2).val < 1024 := (y 2).isLt
  rw [View.read_apply]
  have e : ((cfg0.win 8).blk t).view.emb y = (ix3 ⟨t.val / 16, by omega⟩ ⟨t.val % 16 * 512 + (y 1).val, by omega⟩ ⟨(y 2).val, hy2⟩ : S4x8192x1024.Idx) :=
    funext fun a => Fin.ext (by
      match a with
      | ⟨0, _⟩ => exact place (congrFun (index_8 t) 0) (show t.val / 16 * 1 + (y 0).val = t.val / 16 by omega)
      | ⟨1, _⟩ => exact place (congrFun (index_8 t) 1) rfl
      | ⟨2, _⟩ => exact place (congrFun (index_8 t) 2) (all _ _))
  refine Eq.trans ?_ (congrArg (plain0 m c) e).symm
  have ey : ((cfg0.win 8).xinj (grid0.coords t) y : S1x512x1024.Idx) = ix3 0 ⟨(y 1).val, hy1⟩ ⟨(y 2).val, hy2⟩ := by
    funext a
    apply Fin.ext
    match a with
    | ⟨0, _⟩ => exact Nat.lt_one_iff.mp hy0
    | ⟨1, _⟩ => rfl
    | ⟨2, _⟩ => rfl
  show k0_pay5 _ _ _ _ ((cfg0.win 8).xinj (grid0.coords t) y : S1x512x1024.Idx) = _
  rw [ey, pay5_apply, point_row m c t ⟨t.val / 16, by omega⟩ ⟨(y 1).val, hy1⟩ ⟨t.val % 16 * 512 + (y 1).val, by omega⟩ rfl rfl, plain0_apply]

theorem flushed_9 (c : Dev nD) (t : Fin cfg0.N) : (dats m 0 c).flushed 9 t = ((cfg0.win 9).blk t).view.read (Elt Ideal) (plain1 m c) := by
  rw [Cert.Kernel8Ideal.Value.flushed9_A, out_9]
  have ht : t.val < 64 := t.isLt
  funext y
  have hy0 : (y 0).val < 512 := (y 0).isLt
  have hy1 : (y 1).val < 1024 := (y 1).isLt
  rw [View.read_apply]
  have e : ((cfg0.win 9).blk t).view.emb y = (ix2 ⟨t.val * 512 + (y 0).val, by omega⟩ ⟨(y 1).val, hy1⟩ : S33792x1024.Idx) :=
    funext fun a => Fin.ext (by
      match a with
      | ⟨0, _⟩ => exact place (congrFun (index_9 t) 0) rfl
      | ⟨1, _⟩ => exact place (congrFun (index_9 t) 1) (all _ _))
  refine Eq.trans ?_ (congrArg (plain1 m c) e).symm
  have ey : ((cfg0.win 9).xinj (grid0.coords t) y : S512x1024.Idx) = ix2 ⟨(y 0).val, hy0⟩ ⟨(y 1).val, hy1⟩ := by
    funext a
    apply Fin.ext
    match a with
    | ⟨0, _⟩ => rfl
    | ⟨1, _⟩ => rfl
  show k0_pay2 _ _ _ _ ((cfg0.win 9).xinj (grid0.coords t) y : S512x1024.Idx) = _
  rw [ey]
  refine Eq.trans ?_ (plain1_apply m c ⟨t.val / 16, by omega⟩ ⟨t.val % 16 * 512 + (y 0).val, by omega⟩ _ _ (by dsimp only; omega)).symm
  exact point_mod m c t _ _ _ rfl rfl _

theorem flushed_10 (c : Dev nD) (t : Fin cfg0.N) : (dats m 0 c).flushed 10 t = ((cfg0.win 10).blk t).view.read (Elt Ideal) (plain2 m c) := by
  rw [Cert.Kernel8Ideal.Value.flushed10_A, out_10]
  have ht : t.val < 64 := t.isLt
  funext y
  have hy0 : (y 0).val < 1 := (y 0).isLt
  have hy1 : (y 1).val < 16 := (y 1).isLt
  have hy2 : (y 2).val < 512 := (y 2).isLt
  rw [View.read_apply]
  have e : ((cfg0.win 10).blk t).view.emb y = (ix3 ⟨t.val / 16, by omega⟩ ⟨(y 1).val, hy1⟩ ⟨t.val % 16 * 512 + (y 2).val, by omega⟩ : S4x16x8192.Idx) :=
    funext fun a => Fin.ext (by
      match a with
      | ⟨0, _⟩ => exact place (congrFun (index_10 t) 0) (show t.val / 16 * 1 + (y 0).val = t.val / 16 by omega)
      | ⟨1, _⟩ => exact place (congrFun (index_10 t) 1) (all _ _)
      | ⟨2, _⟩ => exact place (congrFun (index_10 t) 2) rfl)
  refine Eq.trans ?_ (congrArg (plain2 m c) e).symm
  have ey : ((cfg0.win 10).xinj (grid0.coords t) y : S1x16x512.Idx) = ix3 0 ⟨(y 1).val, hy1⟩ ⟨(y 2).val, hy2⟩ := by
    funext a
    apply Fin.ext
    match a with
    | ⟨0, _⟩ => exact Nat.lt_one_iff.mp hy0
    | ⟨1, _⟩ => rfl
    | ⟨2, _⟩ => rfl
  show k0_pay3 _ _ _ _ _ ((cfg0.win 10).xinj (grid0.coords t) y : S1x16x512.Idx) = _
  rw [ey, point_chosen m c t ⟨t.val / 16, by omega⟩ ⟨(y 2).val, hy2⟩ ⟨t.val % 16 * 512 + (y 2).val, by omega⟩ rfl rfl, plain2_apply]

/-! The blocks fill the results. -/

theorem covered_8 (i : S4x8192x1024.Idx) : ∃ t : Fin cfg0.N, (cfg0.win 8).flush t = true ∧ i ∈ ((cfg0.win 8).blk t).view.set := by
  have h0 : (i 0).val < 4 := (i 0).isLt
  have h1 : (i 1).val < 8192 := (i 1).isLt
  have h2 : (i 2).val < 1024 := (i 2).isLt
  have hlt : (i 0).val * 16 + (i 1).val / 512 < 64 := by omega
  refine ⟨⟨(i 0).val * 16 + (i 1).val / 512, hlt⟩, flush0_8 _, ?_⟩
  generalize ht : (⟨(i 0).val * 16 + (i 1).val / 512, hlt⟩ : Fin cfg0.N) = t
  have tv : t.val = (i 0).val * 16 + (i 1).val / 512 := by rw [← ht]
  show i ∈ ((View.whole main_v4_0).slice (win0_8.rect t)).set
  rw [View.set_slice_whole, Rect.mem_set_unit]
  have e0 : win0_8.index t (0 : Fin 3) = t.val / 16 := congrFun (index_8 t) 0
  have e1 : win0_8.index t (1 : Fin 3) = t.val % 16 := congrFun (index_8 t) 1
  have e2 : win0_8.index t (2 : Fin 3) = 0 := congrFun (index_8 t) 2
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 1024 ≤ (i 2).val ∧ (i 2).val < win0_8.index t (2 : Fin 3) * 1024 + 1024; omega

/-- Where a point's rows lie among all. -/
theorem placed_9 (t : Fin cfg0.N) (r : Fin 512) (d : Fin 1024) (n : Fin 33792) (hn : t.val * 512 + r.val = n.val) :
    ((cfg0.win 9).blk t).view.emb (ix2 r d : S512x1024.Idx) = (ix2 n d : S33792x1024.Idx) :=
  funext fun a => Fin.ext (by
    match a with
    | ⟨0, _⟩ => exact place (congrFun (index_9 t) 0) hn
    | ⟨1, _⟩ => exact place (congrFun (index_9 t) 1) (all _ _))

theorem written_9 (c : Dev nD) (t : Fin cfg0.N) (r : Fin 512) (d : Fin 1024) (n : Fin 33792) (hn : t.val * 512 + r.val = n.val) :
    ((dats m 0 c).arrAt 9 cfg0.N : S33792x1024.Idx → EReal) (ix2 n d) = plain1 m c (ix2 n d) := by
  have h := congrFun ((Cert.Kernel8Ideal.Value.blocks9 m c t (flush0_9 t)).trans (flushed_9 m c t)) (ix2 r d : S512x1024.Idx)
  rw [View.read_apply, View.read_apply, placed_9 t r d n hn] at h
  exact h

theorem uncovered_9 (i : S33792x1024.Idx) (hi : ¬(i 0).val < 32768) (t : Fin cfg0.N) : i ∉ ((cfg0.win 9).blk t).view.set := by
  have ht : t.val < 64 := t.isLt
  show i ∉ ((View.whole main_v4_1).slice (win0_9.rect t)).set
  rw [View.set_slice_whole, Rect.mem_set_unit]
  have e0 : win0_9.index t (0 : Fin 2) = t.val := congrFun (index_9 t) 0
  intro h
  have h0 : win0_9.index t (0 : Fin 2) * 512 ≤ (i 0).val ∧ (i 0).val < win0_9.index t (0 : Fin 2) * 512 + 512 := h 0
  omega

theorem zero_bits_half : Ideal.ofBits .bf16 0x0000#16 = (0 : EReal) := by
  simp [Ideal.ofBits, Ideal.ieee]

/-- The second result before the launch. -/
theorem empty_rows (c : Dev nD) (i : S33792x1024.Idx) : (V m c main_v4_1 : S33792x1024.Idx → EReal) i = (0 : EReal) := by
  show StableHlo.after hostOps0 _ _ _ = _
  after_results_simp
  show Ideal.ofBits .bf16 0x0000#16 = (0 : EReal)
  exact zero_bits_half

theorem covered_10 (i : S4x16x8192.Idx) : ∃ t : Fin cfg0.N, (cfg0.win 10).flush t = true ∧ i ∈ ((cfg0.win 10).blk t).view.set := by
  have h0 : (i 0).val < 4 := (i 0).isLt
  have h1 : (i 1).val < 16 := (i 1).isLt
  have h2 : (i 2).val < 8192 := (i 2).isLt
  have hlt : (i 0).val * 16 + (i 2).val / 512 < 64 := by omega
  refine ⟨⟨(i 0).val * 16 + (i 2).val / 512, hlt⟩, flush0_10 _, ?_⟩
  generalize ht : (⟨(i 0).val * 16 + (i 2).val / 512, hlt⟩ : Fin cfg0.N) = t
  have tv : t.val = (i 0).val * 16 + (i 2).val / 512 := by rw [← ht]
  show i ∈ ((View.whole main_v4_2).slice (win0_10.rect t)).set
  rw [View.set_slice_whole, Rect.mem_set_unit]
  have e0 : win0_10.index t (0 : Fin 3) = t.val / 16 := congrFun (index_10 t) 0
  have e1 : win0_10.index t (1 : Fin 3) = 0 := congrFun (index_10 t) 1
  have e2 : win0_10.index t (2 : Fin 3) = t.val % 16 := congrFun (index_10 t) 2
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 16 ≤ (i 1).val ∧ (i 1).val < win0_10.index t (1 : Fin 3) * 16 + 16; omega
  | ⟨2, _⟩ => show win0_10.index t (2 : Fin 3) * 512 ≤ (i 2).val ∧ (i 2).val < win0_10.index t (2 : Fin 3) * 512 + 512; omega

/-! The launch's results are the plain ones of its arguments. -/

theorem final_8 (c : Dev nD) : (dats m 0 c).arrAt 8 cfg0.N = plain0 m c :=
  (dats m 0 c).arrAt_eq_of_cover 8 (plain0 m c) (fun t _ => flushed_8 m c t) covered_8
theorem final_9 (c : Dev nD) : (dats m 0 c).arrAt 9 cfg0.N = plain1 m c := by
  refine funext fun (i : S33792x1024.Idx) => ?_
  have h1 : (i 1).val < 1024 := (i 1).isLt
  have h0 : (i 0).val < 33792 := (i 0).isLt
  have e : i = ix2 ⟨(i 0).val, h0⟩ ⟨(i 1).val, h1⟩ := funext fun a => by match a with | ⟨0, _⟩ => rfl | ⟨1, _⟩ => rfl
  by_cases hi : (i 0).val < 32768
  · have w := written_9 m c ⟨(i 0).val / 512, by show _ < 64; omega⟩ ⟨(i 0).val % 512, by omega⟩ ⟨(i 1).val, h1⟩ ⟨(i 0).val, h0⟩ (by dsimp only; omega)
    rw [← e] at w
    exact w
  · have z := plain1_rest m c ⟨(i 0).val, h0⟩ ⟨(i 1).val, h1⟩ hi
    rw [← e] at z
    exact ((Cert.Kernel8Ideal.Value.entry9 m c i fun t _ => uncovered_9 i hi t).trans (empty_rows m c i)).trans z.symm
theorem final_10 (c : Dev nD) : (dats m 0 c).arrAt 10 cfg0.N = plain2 m c :=
  (dats m 0 c).arrAt_eq_of_cover 10 (plain2 m c) (fun t _ => flushed_10 m c t) covered_10

end Cert.Kernel8Ideal.Out

namespace Cert.Proof

open Cert.Kernel8Ideal Cert.Kernel8Ideal.Gen Idealize.ShloMosaic Idealize.ShloMosaic.TcCoe Idealize.SL.Sem

/-- The kernel of the output projection before the last layer and the plain projection compute the same three arrays. -/
theorem algebraic_joined : Cert.algebraic_Kernel8Ideal_Reference8Ideal := by
  unfold Cert.algebraic_Kernel8Ideal_Reference8Ideal
  intro m g m' g' _ hagree
  refine ⟨fun c => Cert.Kernel8Ideal.Out.plain0 m c, fun c => Cert.Kernel8Ideal.Out.plain1 m c, fun c => Cert.Kernel8Ideal.Out.plain2 m c,
    (θ_run Cert.Kernel8Ideal.defs _ _).mono (fun r h c => ⟨(h c).1.trans (Cert.Kernel8Ideal.Out.final_8 m c),
      (h c).2.1.trans (Cert.Kernel8Ideal.Out.final_9 m c), (h c).2.2.1.trans (Cert.Kernel8Ideal.Out.final_10 m c), (h c).2.2.2⟩)
      (Cert.Kernel8Ideal.Value.run_blocks m g),
    (θ_run Cert.Reference8Ideal.defs _ _).mono (fun r h c => ⟨(h c).1.trans ?_, (h c).2.1.trans ?_, (h c).2.2.1.trans ?_, (h c).2.2.2⟩)
      (Cert.Reference8Ideal.Value.run (F := Ideal) m' g')⟩
  all_goals obtain ⟨h0, h1, h2, h3, h4, h5, h6, h7⟩ := hagree c
  · refine (Cert.Reference8Ideal.Read.val_main_v4_eq (F := Ideal) _ _ _ _).trans ?_
    rw [h0, h1, h2, h3]
    rfl
  · refine (Cert.Reference8Ideal.Read.val_main_v39_eq (F := Ideal) _ _ _ _ _ _ _).trans ?_
    rw [h0, h1, h2, h3, h4, h5, h6]
    rfl
  · refine (Cert.Reference8Ideal.Read.val_main_v40_eq (F := Ideal) m' c).trans ?_
    rw [h0, h1, h2, h3, h4, h5, h6, h7]
    rfl

end Cert.Proof

end
-- ==== Proof.Proj5Block.lean ====
/-
  One block of the projection with its short convolution at an index.
-/
module

public import proofs.«01_k».proof.Proof.Gen.Kernel5Ideal.Frame
public import proofs.«01_k».proof.Proof.RowMath

@[expose] public section

set_option maxRecDepth 16384

noncomputable section

namespace Cert.Kernel5Ideal.Proj

open Cert.Kernel5Ideal Cert.Kernel5Ideal.Gen Cert.Row Idealize.ShloMosaic

/-- The 272 rows a point sees: eight before its block, its block, eight after. -/
def ext (p : Vec Ideal S1x8x1024 .f32) (h : Vec Ideal S1x256x1024 .f32) (s : Vec Ideal S1x8x1024 .f32) (q : Fin 272) (k : Fin 1024) : EReal :=
  if h1 : q.val < 8 then p (ix3 0 ⟨q.val, h1⟩ k) else
    if h2 : q.val - 8 < 256 then h (ix3 0 ⟨q.val - 8, h2⟩ k) else s (ix3 0 ⟨q.val - 8 - 256, by omega⟩ k)

theorem modulated_apply (p : Vec Ideal S1x8x1024 .f32) (h : Vec Ideal S1x256x1024 .f32) (s : Vec Ideal S1x8x1024 .f32) (gn : Vec Ideal S1x1024 .f32)
    (sh sc : Vec Ideal S1x1x1024 .f32) (q : Fin 272) (d : Fin 1024) :
    k0_pay2 p h s gn sh sc (ix2 q d) = modulated (ext p h s q) (fun k => gn (ix2 0 k)) (fun k => sc (ix3 0 0 k)) (fun k => sh (ix3 0 0 k)) d := by
  unfold modulated unitScale ext
  pointwise [k0_pay2]

/-- The projection of the seen rows. -/
def proj (x : FVec Ideal S272x1024 .bf16) (w : FVec Ideal S1024x3072 .bf16) : FVec Ideal S272x3072 .f32 :=
  matmul (F := Ideal) dot_S272x1024_S1024x3072_S272x3072_1_0_0_1_n_n none x w (constant S272x3072 .f32 0x00000000#32)

theorem proj_apply (x : FVec Ideal S272x1024 .bf16) (w : FVec Ideal S1024x3072 .bf16) (q : Fin 272) (j : Fin 3072) :
    proj x w (ix2 q j) = ∑ k : Fin 1024, (fun a b : EReal => a * b) (x (ix2 q k)) (w (ix2 k j)) := by
  pointwise [proj]

theorem select_eq (i n : BitVec 32) (a b : EReal) : Scalar.select (Scalar.cmpi CmpIPredicate.eq i n) a b = if i = n then a else b := by
  unfold Scalar.select Scalar.cmpi IntOp.cmpi
  by_cases h : i = n
  · subst h; simp
  · have e : (i == n) = false := by simp [h]
    simp [h, e]

theorem conv_apply (i : BitVec 32) (x : FVec Ideal S272x1024 .bf16) (w : FVec Ideal S1024x3072 .bf16) (sw : Vec Ideal S3x3072 .f32) (sb : Vec Ideal S1x3072 .f32)
    (r : Fin 256) (j : Fin 3072) :
    k0_pay4 i x w (constant S272x3072 .f32 0x00000000#32) sw sb (ix2 r j)
      = taps (if r.val < 1 then (if i = 0#32 then 0 else proj x w (ix2 ⟨7 + r.val, by omega⟩ j)) else proj x w (ix2 ⟨8 + (r.val - 1), by omega⟩ j))
          (proj x w (ix2 ⟨8 + r.val, by omega⟩ j))
          (if r.val < 255 then proj x w (ix2 ⟨8 + (1 + r.val), by omega⟩ j) else (if i = 31#32 then 0 else proj x w (ix2 ⟨264 + (r.val - 255), by omega⟩ j)))
          (sw (ix2 0 j)) (sw (ix2 1 j)) (sw (ix2 2 j)) (sb (ix2 0 j)) := by
  unfold k0_pay4 taps
  rw [show matmul (F := Ideal) dot_S272x1024_S1024x3072_S272x3072_1_0_0_1_n_n none x w (constant S272x3072 .f32 0x00000000#32) = proj x w from rfl]
  generalize proj x w = y
  pointwise
  simp only [select_eq]
  rfl

theorem first_apply (i : BitVec 32) (x : FVec Ideal S272x1024 .bf16) (w : FVec Ideal S1024x3072 .bf16) (z : FVec Ideal S272x3072 .f32) (sw : Vec Ideal S3x3072 .f32)
    (sb : Vec Ideal S1x3072 .f32) (r : Fin 256) (d : Fin 1024) : k0_pay5 i x w z sw sb (ix3 0 r d) = k0_pay4 i x w z sw sb (ix2 r ⟨d.val, by omega⟩) := by
  unfold k0_pay5
  generalize k0_pay4 i x w z sw sb = y
  pointwise

theorem second_apply (i : BitVec 32) (x : FVec Ideal S272x1024 .bf16) (w : FVec Ideal S1024x3072 .bf16) (z : FVec Ideal S272x3072 .f32) (sw : Vec Ideal S3x3072 .f32)
    (sb : Vec Ideal S1x3072 .f32) (r : Fin 256) (d : Fin 1024) : k0_pay6 i x w z sw sb (ix3 0 r d) = k0_pay4 i x w z sw sb (ix2 r ⟨1024 + d.val, by omega⟩) := by
  unfold k0_pay6
  generalize k0_pay4 i x w z sw sb = y
  pointwise

theorem third_apply (i : BitVec 32) (x : FVec Ideal S272x1024 .bf16) (w : FVec Ideal S1024x3072 .bf16) (z : FVec Ideal S272x3072 .f32) (sw : Vec Ideal S3x3072 .f32)
    (sb : Vec Ideal S1x3072 .f32) (r : Fin 256) (d : Fin 1024) : k0_pay1 (k0_pay7 i x w z sw sb) (ix3 0 r d) = k0_pay4 i x w z sw sb (ix2 r ⟨2048 + d.val, by omega⟩) := by
  unfold k0_pay1 k0_pay7
  generalize k0_pay4 i x w z sw sb = y
  pointwise

end Cert.Kernel5Ideal.Proj

end
-- ==== Proof.Proj5Ref.lean ====
/-
  The plain projection with its short convolution at an index.
-/
module

public import proofs.«01_k».proof.Proof.Gen.Reference5Ideal.Read
public import proofs.«01_k».proof.Proof.RowMath

@[expose] public section

set_option maxRecDepth 16384

noncomputable section

namespace Cert.Reference5Ideal.Proj

open Cert.Reference5Ideal Cert.Reference5Ideal.Read Cert.Row Idealize.ShloMosaic

variable (x0 : (⟨S4x8192x1024, .f32⟩ : BufTy).Contents (Elt Ideal)) (x1 x2 : (⟨S4x1x1024, .f32⟩ : BufTy).Contents (Elt Ideal))
  (x3 : (⟨S1024, .f32⟩ : BufTy).Contents (Elt Ideal)) (x4 : (⟨S1024x3072, .f32⟩ : BufTy).Contents (Elt Ideal))
  (x5 : (⟨S3x3072, .f32⟩ : BufTy).Contents (Elt Ideal)) (x6 : (⟨S3072, .f32⟩ : BufTy).Contents (Elt Ideal))

theorem modulated_apply (b : Fin 4) (n : Fin 8192) (d : Fin 1024) : val_main_v18 (F := Ideal) x0 x1 x2 x3 (ix3 b n d)
    = modulated (fun k => x0 (ix3 b n k)) (fun k => x3 (ix1 k)) (fun k => x2 (ix3 b 0 k)) (fun k => x1 (ix3 b 0 k)) d := by
  unfold modulated unitScale
  pointwise [val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0]
  have e : val_main_cst_2 (F := Ideal) ix0 = (1 : EReal) := one_bits
  have e' : val_main_cst (F := Ideal) (Shape.Idx.first Gen.h_S_) = (0 : EReal) := zero_bits
  rw [e, e', zero_add]
  rfl

/-- The projection of a row. -/
def proj : S4x8192x3072.Idx → EReal := val_main_v19 (F := Ideal) x0 x1 x2 x3 x4

theorem proj_apply (b : Fin 4) (n : Fin 8192) (j : Fin 3072) : proj x0 x1 x2 x3 x4 (ix3 b n j)
    = ∑ k : Fin 1024, (fun a b : EReal => a * b) (val_main_v18 (F := Ideal) x0 x1 x2 x3 (ix3 b n k)) (x4 (ix2 k j)) := by
  unfold proj val_main_v19
  generalize val_main_v18 (F := Ideal) x0 x1 x2 x3 = y
  pointwise

theorem pad_value : val_main_call0_v0 (F := Ideal) (Shape.Idx.first Gen.h_S_) = (0 : EReal) := by
  show (((0#32 : BitVec 32).toInt : ℝ) : EReal) = 0
  simp

theorem conv_apply (b : Fin 4) (n : Fin 8192) (j : Fin 3072) : val_main_v45 (F := Ideal) x0 x1 x2 x3 x4 x5 x6 (ix3 b n j)
    = taps (before (fun n => proj x0 x1 x2 x3 x4 (ix3 b n j)) n) (proj x0 x1 x2 x3 x4 (ix3 b n j)) (after (fun n => proj x0 x1 x2 x3 x4 (ix3 b n j)) n)
        (x5 (ix2 0 j)) (x5 (ix2 1 j)) (x5 (ix2 2 j)) (x6 (ix1 j)) := by
  unfold taps before after proj
  unfold val_main_v45 val_main_v42 val_main_v41 val_main_v36 val_main_v35 val_main_v34 val_main_v29 val_main_v28 val_main_v26 val_main_v21 val_main_v20
  generalize val_main_v19 (F := Ideal) x0 x1 x2 x3 x4 = y
  pointwise [val_main_v44, val_main_v43, val_main_v40, val_main_v39, val_main_v38, val_main_v37, val_main_v33, val_main_v32, val_main_v31, val_main_v30,
    val_main_v27, val_main_v25, val_main_v24, val_main_v23, val_main_v22]
  have e : val_main_cst_3 (F := Ideal) ix0 = (0 : EReal) := zero_bits
  rw [e, pad_value, zero_add]
  have h1 : (if h : 1 ≤ n.val ∧ n.val - 1 < 8192 then (y (ix3 b ⟨n.val - 1, by omega⟩ j) : EReal) else 0)
      = if h : 1 ≤ n.val then y (ix3 b ⟨n.val - 1, by omega⟩ j) else 0 := by
    by_cases h : 1 ≤ n.val
    · rw [dif_pos h, dif_pos ⟨h, by omega⟩]
    · rw [dif_neg h, dif_neg (fun u => h u.1)]
  have h2 : (if h : 1 ≤ 2 + n.val ∧ 2 + n.val - 1 < 8192 then (y (ix3 b ⟨2 + n.val - 1, by omega⟩ j) : EReal) else 0)
      = if h : n.val + 1 < 8192 then y (ix3 b ⟨n.val + 1, h⟩ j) else 0 := by
    by_cases h : n.val + 1 < 8192
    · rw [dif_pos h, dif_pos ⟨by omega, by omega⟩]
      exact congrArg (fun u => y (ix3 b u j)) (Fin.ext (show 2 + n.val - 1 = n.val + 1 by omega))
    · rw [dif_neg h, dif_neg (fun u => h (by omega))]
  rw [h1, h2]

theorem first_apply (b : Fin 4) (n : Fin 8192) (d : Fin 1024) : val_main_v46 (F := Ideal) x0 x1 x2 x3 x4 x5 x6 (ix3 b n d)
    = val_main_v45 (F := Ideal) x0 x1 x2 x3 x4 x5 x6 (ix3 b n ⟨d.val, by omega⟩) := by
  unfold val_main_v46
  generalize val_main_v45 (F := Ideal) x0 x1 x2 x3 x4 x5 x6 = y
  pointwise

theorem second_apply (b : Fin 4) (n : Fin 8192) (d : Fin 1024) : val_main_v47 (F := Ideal) x0 x1 x2 x3 x4 x5 x6 (ix3 b n d)
    = val_main_v45 (F := Ideal) x0 x1 x2 x3 x4 x5 x6 (ix3 b n ⟨1024 + d.val, by omega⟩) := by
  unfold val_main_v47
  generalize val_main_v45 (F := Ideal) x0 x1 x2 x3 x4 x5 x6 = y
  pointwise

theorem third_apply (b : Fin 4) (n : Fin 8192) (d : Fin 1024) : val_main_v48 (F := Ideal) x0 x1 x2 x3 x4 x5 x6 (ix3 b n d)
    = val_main_v45 (F := Ideal) x0 x1 x2 x3 x4 x5 x6 (ix3 b n ⟨2048 + d.val, by omega⟩) := by
  unfold val_main_v48
  generalize val_main_v45 (F := Ideal) x0 x1 x2 x3 x4 x5 x6 = y
  pointwise

end Cert.Reference5Ideal.Proj

end
-- ==== Proof.Proj5Value.lean ====
/-
  The value claim of the projection with its short convolution. The kernel goes over blocks of 256 rows and projects the
  row before and the row after each block once more; the plain reference projects each row once.
-/
module

public import proofs.«01_k».proof.Defs
public import proofs.«01_k».proof.Proof.Proj5Block
public import proofs.«01_k».proof.Proof.Proj5Ref
public import proofs.«01_k».proof.Proof.Gen.Kernel5Ideal.Value
public import proofs.«01_k».proof.Proof.Gen.Reference5Ideal.Run

@[expose] public section

set_option maxRecDepth 16384

noncomputable section

namespace Cert.Kernel5Ideal.Proj

open Cert.Kernel5Ideal Cert.Kernel5Ideal.Gen Cert.Row Idealize.ShloMosaic Idealize.ShloMosaic.TcCoe Idealize.SL.Sem

theorem index_0 : ∀ t : Fin cfg0.N, win0_0.index t = ![t.val / 32, t.val % 32, 0] := (by decide +kernel : ∀ t : Fin grid0.N, _)
theorem index_1 : ∀ t : Fin cfg0.N, win0_1.index t = ![t.val / 32, t.val % 32 * 32 - 1, 0] := (by decide +kernel : ∀ t : Fin grid0.N, _)
theorem index_2 : ∀ t : Fin cfg0.N, win0_2.index t = ![t.val / 32, min (t.val % 32 * 32 + 32) 1023, 0] := (by decide +kernel : ∀ t : Fin grid0.N, _)
theorem index_3 : ∀ t : Fin cfg0.N, win0_3.index t = ![t.val / 32, 0, 0] := (by decide +kernel : ∀ t : Fin grid0.N, _)
theorem index_4 : ∀ t : Fin cfg0.N, win0_4.index t = ![t.val / 32, 0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![t.val / 32, t.val % 32, 0] := (by decide +kernel : ∀ t : Fin grid0.N, _)
theorem index_10 : ∀ t : Fin cfg0.N, win0_10.index t = ![t.val / 32, t.val % 32, 0] := (by decide +kernel : ∀ t : Fin grid0.N, _)
theorem index_11 : ∀ t : Fin cfg0.N, win0_11.index t = ![t.val / 32, t.val % 32, 0] := (by decide +kernel : ∀ t : Fin grid0.N, _)
theorem coord : ∀ t : Fin cfg0.N, (grid0.coords t 1).val = t.val % 32 := (by decide +kernel : ∀ t : Fin grid0.N, _)

theorem read_0 (t : Fin cfg0.N) (A : S4x8192x1024.Idx → EReal) (b : Fin 4) (r : Fin 256) (n : Fin 8192) (d : Fin 1024)
    (hb : t.val / 32 = b.val) (hn : t.val % 32 * 256 + r.val = n.val) :
    ((cfg0.win 0).blk t).view.read (Elt Ideal) A (ix3 0 r d) = A (ix3 b n d) := by
  rw [View.read_apply]
  refine congrArg A (funext fun a => Fin.ext ?_)
  match a with
  | ⟨0, _⟩ => exact place (congrFun (index_0 t) 0) (first hb)
  | ⟨1, _⟩ => exact place (congrFun (index_0 t) 1) hn
  | ⟨2, _⟩ => exact place (congrFun (index_0 t) 2) (all _ _)

theorem read_1 (t : Fin cfg0.N) (A : S4x8192x1024.Idx → EReal) (b : Fin 4) (r : Fin 8) (n : Fin 8192) (d : Fin 1024)
    (hb : t.val / 32 = b.val) (hn : (t.val % 32 * 32 - 1) * 8 + r.val = n.val) :
    ((cfg0.win 1).blk t).view.read (Elt Ideal) A (ix3 0 r d) = A (ix3 b n d) := by
  rw [View.read_apply]
  refine congrArg A (funext fun a => Fin.ext ?_)
  match a with
  | ⟨0, _⟩ => exact place (congrFun (index_1 t) 0) (first hb)
  | ⟨1, _⟩ => exact place (congrFun (index_1 t) 1) hn
  | ⟨2, _⟩ => exact place (congrFun (index_1 t) 2) (all _ _)

theorem read_2 (t : Fin cfg0.N) (A : S4x8192x1024.Idx → EReal) (b : Fin 4) (r : Fin 8) (n : Fin 8192) (d : Fin 1024)
    (hb : t.val / 32 = b.val) (hn : min (t.val % 32 * 32 + 32) 1023 * 8 + r.val = n.val) :
    ((cfg0.win 2).blk t).view.read (Elt Ideal) A (ix3 0 r d) = A (ix3 b n d) := by
  rw [View.read_apply]
  refine congrArg A (funext fun a => Fin.ext ?_)
  match a with
  | ⟨0, _⟩ => exact place (congrFun (index_2 t) 0) (first hb)
  | ⟨1, _⟩ => exact place (congrFun (index_2 t) 1) hn
  | ⟨2, _⟩ => exact place (congrFun (index_2 t) 2) (all _ _)

theorem read_3 (t : Fin cfg0.N) (A : S4x1x1024.Idx → EReal) (b : Fin 4) (d : Fin 1024)
    (hb : t.val / 32 = b.val) :
    ((cfg0.win 3).blk t).view.read (Elt Ideal) A (ix3 0 0 d) = A (ix3 b 0 d) := by
  rw [View.read_apply]
  refine congrArg A (funext fun a => Fin.ext ?_)
  match a with
  | ⟨0, _⟩ => exact place (congrFun (index_3 t) 0) (first hb)
  | ⟨1, _⟩ => exact place (congrFun (index_3 t) 1) rfl
  | ⟨2, _⟩ => exact place (congrFun (index_3 t) 2) (all _ _)

theorem read_4 (t : Fin cfg0.N) (A : S4x1x1024.Idx → EReal) (b : Fin 4) (d : Fin 1024)
    (hb : t.val / 32 = b.val) :
    ((cfg0.win 4).blk t).view.read (Elt Ideal) A (ix3 0 0 d) = A (ix3 b 0 d) := by
  rw [View.read_apply]
  refine congrArg A (funext fun a => Fin.ext ?_)
  match a with
  | ⟨0, _⟩ => exact place (congrFun (index_4 t) 0) (first hb)
  | ⟨1, _⟩ => exact place (congrFun (index_4 t) 1) rfl
  | ⟨2, _⟩ => exact place (congrFun (index_4 t) 2) (all _ _)

theorem read_5 (t : Fin cfg0.N) (A : S1x1024.Idx → EReal) (d : Fin 1024) :
    ((cfg0.win 5).blk t).view.read (Elt Ideal) A (ix2 0 d) = A (ix2 0 d) := by
  rw [View.read_apply]
  refine congrArg A (funext fun a => Fin.ext ?_)
  match a with
  | ⟨0, _⟩ => exact place (congrFun (index_5 t) 0) rfl
  | ⟨1, _⟩ => exact place (congrFun (index_5 t) 1) (all _ _)

theorem read_6 (t : Fin cfg0.N) (A : S1024x3072.Idx → EReal) (k : Fin 1024) (j : Fin 3072) :
    ((cfg0.win 6).blk t).view.read (Elt Ideal) A (ix2 k j) = A (ix2 k j) := by
  rw [View.read_apply]
  refine congrArg A (funext fun a => Fin.ext ?_)
  match a with
  | ⟨0, _⟩ => exact place (congrFun (index_6 t) 0) (all _ _)
  | ⟨1, _⟩ => exact place (congrFun (index_6 t) 1) (all _ _)

theorem read_7 (t : Fin cfg0.N) (A : S3x3072.Idx → EReal) (e : Fin 3) (j : Fin 3072) :
    ((cfg0.win 7).blk t).view.read (Elt Ideal) A (ix2 e j) = A (ix2 e j) := by
  rw [View.read_apply]
  refine congrArg A (funext fun a => Fin.ext ?_)
  match a with
  | ⟨0, _⟩ => exact place (congrFun (index_7 t) 0) (all _ _)
  | ⟨1, _⟩ => exact place (congrFun (index_7 t) 1) (all _ _)

theorem read_8 (t : Fin cfg0.N) (A : S1x3072.Idx → EReal) (j : Fin 3072) :
    ((cfg0.win 8).blk t).view.read (Elt Ideal) A (ix2 0 j) = A (ix2 0 j) := by
  rw [View.read_apply]
  refine congrArg A (funext fun a => Fin.ext ?_)
  match a with
  | ⟨0, _⟩ => exact place (congrFun (index_8 t) 0) rfl
  | ⟨1, _⟩ => exact place (congrFun (index_8 t) 1) (all _ _)

/-! The arrays the launch reads. -/

variable (m : (ℓ : Loc nD τ sig) → Buf (Elt Ideal) ℓ)

/-- The rows. -/
def rows (c : Dev nD) : S4x8192x1024.Idx → EReal := m ((c : Thread nD τ).loc main_arg0)
/-- The shifts. -/
def shift (c : Dev nD) : S4x1x1024.Idx → EReal := m ((c : Thread nD τ).loc main_arg1)
/-- The scales. -/
def scales (c : Dev nD) : S4x1x1024.Idx → EReal := m ((c : Thread nD τ).loc main_arg2)
/-- The norm's weight. -/
def norm (c : Dev nD) : S1024.Idx → EReal := m ((c : Thread nD τ).loc main_arg3)
/-- The projection's weight. -/
def weight (c : Dev nD) : S1024x3072.Idx → EReal := m ((c : Thread nD τ).loc main_arg4)
/-- The convolution's weight. -/
def short (c : Dev nD) : S3x3072.Idx → EReal := m ((c : Thread nD τ).loc main_arg5)
/-- The convolution's bias. -/
def bias (c : Dev nD) : S3072.Idx → EReal := m ((c : Thread nD τ).loc main_arg6)

theorem block_0 (c : Dev nD) (t : Fin cfg0.N) : iblk m c 0 t = ((cfg0.win 0).blk t).view.read (Elt Ideal) (rows m c) := by
  unfold rows; rw [← V_main_arg0 m c]; rfl
theorem block_1 (c : Dev nD) (t : Fin cfg0.N) : iblk m c 1 t = ((cfg0.win 1).blk t).view.read (Elt Ideal) (rows m c) := by
  unfold rows; rw [← V_main_arg0 m c]; rfl
theorem block_2 (c : Dev nD) (t : Fin cfg0.N) : iblk m c 2 t = ((cfg0.win 2).blk t).view.read (Elt Ideal) (rows m c) := by
  unfold rows; rw [← V_main_arg0 m c]; rfl
theorem block_3 (c : Dev nD) (t : Fin cfg0.N) : iblk m c 3 t = ((cfg0.win 3).blk t).view.read (Elt Ideal) (shift m c) := by
  unfold shift; rw [← V_main_arg1 m c]; rfl
theorem block_4 (c : Dev nD) (t : Fin cfg0.N) : iblk m c 4 t = ((cfg0.win 4).blk t).view.read (Elt Ideal) (scales m c) := by
  unfold scales; rw [← V_main_arg2 m c]; rfl
theorem block_5 (c : Dev nD) (t : Fin cfg0.N) : iblk m c 5 t = ((cfg0.win 5).blk t).view.read (Elt Ideal) (V m c main_v1 : S1x1024.Idx → EReal) := rfl
theorem block_6 (c : Dev nD) (t : Fin cfg0.N) : iblk m c 6 t = ((cfg0.win 6).blk t).view.read (Elt Ideal) (V m c main_v0 : S1024x3072.Idx → EReal) := rfl
theorem block_7 (c : Dev nD) (t : Fin cfg0.N) : iblk m c 7 t = ((cfg0.win 7).blk t).view.read (Elt Ideal) (short m c) := by
  unfold short; rw [← V_main_arg5 m c]; rfl
theorem block_8 (c : Dev nD) (t : Fin cfg0.N) : iblk m c 8 t = ((cfg0.win 8).blk t).view.read (Elt Ideal) (V m c main_v2 : S1x3072.Idx → EReal) := rfl

theorem host_weight (c : Dev nD) (k : Fin 1024) (j : Fin 3072) : (V m c main_v0 : S1024x3072.Idx → EReal) (ix2 k j) = weight m c (ix2 k j) := by
  show StableHlo.after hostOps0 _ _ _ = _
  after_results_simp
  rfl
theorem host_norm (c : Dev nD) (d : Fin 1024) : (V m c main_v1 : S1x1024.Idx → EReal) (ix2 0 d) = norm m c (ix1 d) := by
  show StableHlo.after hostOps0 _ _ _ = _
  after_results_simp
  unfold norm
  pointwise
theorem host_bias (c : Dev nD) (j : Fin 3072) : (V m c main_v2 : S1x3072.Idx → EReal) (ix2 0 j) = bias m c (ix1 j) := by
  show StableHlo.after hostOps0 _ _ _ = _
  after_results_simp
  unfold bias
  pointwise

/-! One point's rows. -/

/-- A row, modulated. -/
def modRow (c : Dev nD) (b : Fin 4) (n : Fin 8192) (d : Fin 1024) : EReal :=
  modulated (fun k => rows m c (ix3 b n k)) (fun k => norm m c (ix1 k)) (fun k => scales m c (ix3 b 0 k)) (fun k => shift m c (ix3 b 0 k)) d

/-- Its projection. -/
def projRow (c : Dev nD) (b : Fin 4) (j : Fin 3072) (n : Fin 8192) : EReal := ∑ k : Fin 1024, modRow m c b n k * weight m c (ix2 k j)

/-- The projection beside its neighbours, weighted. -/
def convRow (c : Dev nD) (b : Fin 4) (j : Fin 3072) (n : Fin 8192) : EReal :=
  taps (before (projRow m c b j) n) (projRow m c b j n) (after (projRow m c b j) n) (short m c (ix2 0 j)) (short m c (ix2 1 j)) (short m c (ix2 2 j)) (bias m c (ix1 j))

section
variable (c : Dev nD) (t : Fin cfg0.N) (b : Fin 4) (hb : t.val / 32 = b.val)

include hb in
/-- Row `q` of the rows a point sees, from the last before its block to the first after it. -/
theorem point_ext (q : Fin 272) (n : Fin 8192) (hn : t.val % 32 * 256 + q.val = n.val + 8) (h1 : 7 ≤ q.val) (h2 : q.val ≤ 264) (k : Fin 1024) :
    ext (iblk m c 1 t) (iblk m c 0 t) (iblk m c 2 t) q k = rows m c (ix3 b n k) := by
  rw [block_0, block_1, block_2]
  have hn8 := n.isLt
  unfold ext
  by_cases u1 : q.val < 8
  · rw [dif_pos u1]
    exact read_1 t (rows m c) b ⟨q.val, u1⟩ n k hb (by dsimp only; omega)
  · rw [dif_neg u1]
    by_cases u2 : q.val - 8 < 256
    · rw [dif_pos u2]
      exact read_0 t (rows m c) b ⟨q.val - 8, u2⟩ n k hb (by dsimp only; omega)
    · rw [dif_neg u2]
      exact read_2 t (rows m c) b ⟨q.val - 8 - 256, by omega⟩ n k hb (by dsimp only; omega)

/-- The rows a point projects. -/
def seen : FVec Ideal S272x1024 .bf16 := k0_pay2 (iblk m c 1 t) (iblk m c 0 t) (iblk m c 2 t) (iblk m c 5 t) (iblk m c 3 t) (iblk m c 4 t)

include hb in
theorem point_mod (q : Fin 272) (n : Fin 8192) (hn : t.val % 32 * 256 + q.val = n.val + 8) (h1 : 7 ≤ q.val) (h2 : q.val ≤ 264) (d : Fin 1024) :
    seen m c t (ix2 q d) = modRow m c b n d := by
  unfold seen
  rw [modulated_apply, block_3, block_4, block_5]
  have er : ext (iblk m c 1 t) (iblk m c 0 t) (iblk m c 2 t) q = fun k => rows m c (ix3 b n k) := funext fun k => point_ext m c t b hb q n hn h1 h2 k
  rw [er]
  have e5 := (read_5 t (V m c main_v1 : S1x1024.Idx → EReal) d).trans (host_norm m c d)
  have e3 := read_3 t (shift m c) b d hb
  have e4 := read_4 t (scales m c) b d hb
  unfold modRow modulated
  exact mod_congr e5 e4 e3

theorem weight_apply (k : Fin 1024) (j : Fin 3072) : k0_pay3 (iblk m c 6 t) (ix2 k j) = weight m c (ix2 k j) := by
  rw [block_6]
  have e : k0_pay3 (F := Ideal) (((cfg0.win 6).blk t).view.read (Elt Ideal) (V m c main_v0 : S1024x3072.Idx → EReal)) = ((cfg0.win 6).blk t).view.read (Elt Ideal) (V m c main_v0 : S1024x3072.Idx → EReal) := by
    unfold k0_pay3
    exact shapeCast_self _ _
  rw [e]
  exact (read_6 t (V m c main_v0 : S1024x3072.Idx → EReal) k j).trans (host_weight m c k j)

include hb in
theorem point_proj (q : Fin 272) (n : Fin 8192) (hn : t.val % 32 * 256 + q.val = n.val + 8) (h1 : 7 ≤ q.val) (h2 : q.val ≤ 264) (j : Fin 3072) :
    proj (seen m c t) (k0_pay3 (iblk m c 6 t)) (ix2 q j) = projRow m c b j n := by
  rw [proj_apply]
  unfold projRow
  refine Finset.sum_congr rfl fun k _ => ?_
  rw [point_mod m c t b hb q n hn h1 h2 k, weight_apply]

include hb in
/-- What a point leaves before splitting its columns in three. -/
theorem point_conv (r : Fin 256) (n : Fin 8192) (hn : t.val % 32 * 256 + r.val = n.val) (j : Fin 3072) :
    k0_pay4 (BitVec.ofNat 32 (grid0.coords t 1).val) (seen m c t) (k0_pay3 (iblk m c 6 t)) (constant S272x3072 .f32 0x00000000#32) (iblk m c 7 t) (iblk m c 8 t) (ix2 r j)
      = convRow m c b j n := by
  have hr := r.isLt
  have hn8 := n.isLt
  rw [conv_apply, coord t, block_7, block_8]
  have ea : (if r.val < 1 then (if BitVec.ofNat 32 (t.val % 32) = 0#32 then (0 : EReal) else proj (seen m c t) (k0_pay3 (iblk m c 6 t)) (ix2 ⟨7 + r.val, by omega⟩ j))
      else proj (seen m c t) (k0_pay3 (iblk m c 6 t)) (ix2 ⟨8 + (r.val - 1), by omega⟩ j)) = before (projRow m c b j) n := by
    by_cases u1 : r.val < 1
    · rw [if_pos u1]
      by_cases u2 : t.val % 32 = 0
      · rw [u2, if_pos rfl, before_first (by omega)]
      · rw [if_neg (fun h => u2 (by have := congrArg BitVec.toNat h; simp only [BitVec.toNat_ofNat] at this; omega))]
        refine (point_proj m c t b hb ⟨7 + r.val, by omega⟩ ⟨n.val - 1, by omega⟩ (by dsimp only; omega) (by dsimp only; omega) (by dsimp only; omega) j).trans ?_
        exact (before_of (by dsimp only; omega)).symm
    · rw [if_neg u1]
      refine (point_proj m c t b hb ⟨8 + (r.val - 1), by omega⟩ ⟨n.val - 1, by omega⟩ (by dsimp only; omega) (by dsimp only; omega) (by dsimp only; omega) j).trans ?_
      exact (before_of (by dsimp only; omega)).symm
  have eb := point_proj m c t b hb ⟨8 + r.val, by omega⟩ n (by dsimp only; omega) (by dsimp only; omega) (by dsimp only; omega) j
  have ec : (if r.val < 255 then proj (seen m c t) (k0_pay3 (iblk m c 6 t)) (ix2 ⟨8 + (1 + r.val), by omega⟩ j)
      else (if BitVec.ofNat 32 (t.val % 32) = 31#32 then (0 : EReal) else proj (seen m c t) (k0_pay3 (iblk m c 6 t)) (ix2 ⟨264 + (r.val - 255), by omega⟩ j))) = after (projRow m c b j) n := by
    by_cases u1 : r.val < 255
    · rw [if_pos u1]
      refine (point_proj m c t b hb ⟨8 + (1 + r.val), by omega⟩ ⟨n.val + 1, by omega⟩ (by dsimp only; omega) (by dsimp only; omega) (by dsimp only; omega) j).trans ?_
      exact (after_of rfl).symm
    · rw [if_neg u1]
      by_cases u2 : t.val % 32 = 31
      · rw [u2, if_pos rfl, after_last (by omega)]
      · rw [if_neg (fun h => u2 (by have := congrArg BitVec.toNat h; simp only [BitVec.toNat_ofNat] at this; omega))]
        refine (point_proj m c t b hb ⟨264 + (r.val - 255), by omega⟩ ⟨n.val + 1, by omega⟩ (by dsimp only; omega) (by dsimp only; omega) (by dsimp only; omega) j).trans ?_
        exact (after_of rfl).symm
  have e0 := read_7 t (short m c) 0 j
  have e1 := read_7 t (short m c) 1 j
  have e2 := read_7 t (short m c) 2 j
  have e8 := (read_8 t (V m c main_v2 : S1x3072.Idx → EReal) j).trans (host_bias m c j)
  unfold convRow
  exact congr (congr (congr (congr (congr (congr (congrArg taps ea) eb) ec) e0) e1) e2) e8
end

/-! The reference's three results. -/

def plain0 (c : Dev nD) : S4x8192x1024.Idx → EReal :=
  Cert.Reference5Ideal.Read.val_main_v46 (F := Ideal) (rows m c) (shift m c) (scales m c) (norm m c) (weight m c) (short m c) (bias m c)
def plain1 (c : Dev nD) : S4x8192x1024.Idx → EReal :=
  Cert.Reference5Ideal.Read.val_main_v47 (F := Ideal) (rows m c) (shift m c) (scales m c) (norm m c) (weight m c) (short m c) (bias m c)
def plain2 (c : Dev nD) : S4x8192x1024.Idx → EReal :=
  Cert.Reference5Ideal.Read.val_main_v48 (F := Ideal) (rows m c) (shift m c) (scales m c) (norm m c) (weight m c) (short m c) (bias m c)

theorem conv_eq (c : Dev nD) (b : Fin 4) (n : Fin 8192) (j : Fin 3072) :
    Cert.Reference5Ideal.Read.val_main_v45 (F := Ideal) (rows m c) (shift m c) (scales m c) (norm m c) (weight m c) (short m c) (bias m c) (ix3 b n j) = convRow m c b j n := by
  rw [Cert.Reference5Ideal.Proj.conv_apply]
  have e : ∀ n, Cert.Reference5Ideal.Proj.proj (rows m c) (shift m c) (scales m c) (norm m c) (weight m c) (ix3 b n j) = projRow m c b j n := by
    intro n
    rw [Cert.Reference5Ideal.Proj.proj_apply]
    unfold projRow
    refine Finset.sum_congr rfl fun k _ => ?_
    rw [Cert.Reference5Ideal.Proj.modulated_apply]
    rfl
  simp only [e]
  rfl

theorem plain0_apply (c : Dev nD) (b : Fin 4) (n : Fin 8192) (d : Fin 1024) : plain0 m c (ix3 b n d) = convRow m c b ⟨d.val, by omega⟩ n :=
  (Cert.Reference5Ideal.Proj.first_apply _ _ _ _ _ _ _ b n d).trans (conv_eq m c b n _)
theorem plain1_apply (c : Dev nD) (b : Fin 4) (n : Fin 8192) (d : Fin 1024) : plain1 m c (ix3 b n d) = convRow m c b ⟨1024 + d.val, by omega⟩ n :=
  (Cert.Reference5Ideal.Proj.second_apply _ _ _ _ _ _ _ b n d).trans (conv_eq m c b n _)
theorem plain2_apply (c : Dev nD) (b : Fin 4) (n : Fin 8192) (d : Fin 1024) : plain2 m c (ix3 b n d) = convRow m c b ⟨2048 + d.val, by omega⟩ n :=
  (Cert.Reference5Ideal.Proj.third_apply _ _ _ _ _ _ _ b n d).trans (conv_eq m c b n _)

/-! What each point writes. -/

theorem hz2 : (![0, 0] : Fin 2 → ℕ) = fun _ => 0 := by funext a; match a with | ⟨0, _⟩ => rfl | ⟨1, _⟩ => rfl
theorem hz3 : (![0, 0, 0] : Fin 3 → ℕ) = fun _ => 0 := by funext a; match a with | ⟨0, _⟩ => rfl | ⟨1, _⟩ => rfl | ⟨2, _⟩ => rfl

section
variable (i : grid0.Coords) (x0 : Vec Ideal S1x256x1024 .f32) (x1 x2 : Vec Ideal S1x8x1024 .f32) (x3 x4 : Vec Ideal S1x1x1024 .f32)
  (x5 : Vec Ideal S1x1024 .f32) (x6 : Vec Ideal S1024x3072 .bf16) (x7 : Vec Ideal S3x3072 .f32) (x8 : Vec Ideal S1x3072 .f32)

theorem out_9 : out0_9 i x0 x1 x2 x3 x4 x5 x6 x7 x8
    = k0_pay5 (BitVec.ofNat 32 (i 1).val) (k0_pay2 x1 x0 x2 x5 x3 x4) (k0_pay3 x6) (constant S272x3072 .f32 0x00000000#32) x7 x8 := by
  unfold out0_9 k0_pay8 k0_pay9 k0_pay10
  rw [View.canon_unit_zero hz3]
  simp only [View.ld_unit_zero (S := S1x256x1024) hz3, View.ld_unit_zero (S := S1x8x1024) hz3, View.ld_unit_zero (S := S1x1x1024) hz3,
    View.ld_unit_zero (S := S1024x3072) hz2, View.ld_unit_zero (S := S1x1024) hz2, View.ld_unit_zero (S := S3x3072) hz2, View.ld_unit_zero (S := S1x3072) hz2]

theorem out_10 : out0_10 i x0 x1 x2 x3 x4 x5 x6 x7 x8
    = k0_pay6 (BitVec.ofNat 32 (i 1).val) (k0_pay2 x1 x0 x2 x5 x3 x4) (k0_pay3 x6) (constant S272x3072 .f32 0x00000000#32) x7 x8 := by
  unfold out0_10 k0_pay8 k0_pay9 k0_pay10
  rw [View.canon_unit_zero hz3]
  simp only [View.ld_unit_zero (S := S1x256x1024) hz3, View.ld_unit_zero (S := S1x8x1024) hz3, View.ld_unit_zero (S := S1x1x1024) hz3,
    View.ld_unit_zero (S := S1024x3072) hz2, View.ld_unit_zero (S := S1x1024) hz2, View.ld_unit_zero (S := S3x3072) hz2, View.ld_unit_zero (S := S1x3072) hz2]

theorem out_11 : out0_11 i x0 x1 x2 x3 x4 x5 x6 x7 x8
    = k0_pay1 (k0_pay7 (BitVec.ofNat 32 (i 1).val) (k0_pay2 x1 x0 x2 x5 x3 x4) (k0_pay3 x6) (constant S272x3072 .f32 0x00000000#32) x7 x8) := by
  unfold out0_11 k0_pay8 k0_pay9 k0_pay10
  rw [View.canon_unit_zero hz3]
  simp only [View.ld_unit_zero (S := S1x256x1024) hz3, View.ld_unit_zero (S := S1x8x1024) hz3, View.ld_unit_zero (S := S1x1x1024) hz3,
    View.ld_unit_zero (S := S1024x3072) hz2, View.ld_unit_zero (S := S1x1024) hz2, View.ld_unit_zero (S := S3x3072) hz2, View.ld_unit_zero (S := S1x3072) hz2]

end

theorem flushed_9 (c : Dev nD) (t : Fin cfg0.N) : (dats m 0 c).flushed 9 t = ((cfg0.win 9).blk t).view.read (Elt Ideal) (plain0 m c) := by
  rw [Cert.Kernel5Ideal.Value.flushed9]
  have ht : t.val < 128 := t.isLt
  funext y
  have hy0 : (y 0).val < 1 := (y 0).isLt
  have hy1 : (y 1).val < 256 := (y 1).isLt
  have hy2 : (y 2).val < 1024 := (y 2).isLt
  rw [View.read_apply]
  have e : ((cfg0.win 9).blk t).view.emb y = (ix3 ⟨t.val / 32, by omega⟩ ⟨t.val % 32 * 256 + (y 1).val, by omega⟩ ⟨(y 2).val, hy2⟩ : S4x8192x1024.Idx) :=
    funext fun a => Fin.ext (by
      match a with
      | ⟨0, _⟩ => exact place (congrFun (index_9 t) 0) (show t.val / 32 * 1 + (y 0).val = t.val / 32 by omega)
      | ⟨1, _⟩ => exact place (congrFun (index_9 t) 1) rfl
      | ⟨2, _⟩ => exact place (congrFun (index_9 t) 2) (all _ _))
  refine Eq.trans ?_ (congrArg (plain0 m c) e).symm
  have ey : ((cfg0.win 9).xinj (grid0.coords t) y : S1x256x1024.Idx) = ix3 0 ⟨(y 1).val, hy1⟩ ⟨(y 2).val, hy2⟩ := by
    funext a
    apply Fin.ext
    match a with
    | ⟨0, _⟩ => exact Nat.lt_one_iff.mp hy0
    | ⟨1, _⟩ => rfl
    | ⟨2, _⟩ => rfl
  show out0_9 _ _ _ _ _ _ _ _ _ _ ((cfg0.win 9).xinj (grid0.coords t) y : S1x256x1024.Idx) = _
  rw [ey, out_9, first_apply, plain0_apply]
  exact point_conv m c t ⟨t.val / 32, by omega⟩ rfl ⟨(y 1).val, hy1⟩ ⟨t.val % 32 * 256 + (y 1).val, by omega⟩ rfl _

theorem flushed_10 (c : Dev nD) (t : Fin cfg0.N) : (dats m 0 c).flushed 10 t = ((cfg0.win 10).blk t).view.read (Elt Ideal) (plain1 m c) := by
  rw [Cert.Kernel5Ideal.Value.flushed10]
  have ht : t.val < 128 := t.isLt
  funext y
  have hy0 : (y 0).val < 1 := (y 0).isLt
  have hy1 : (y 1).val < 256 := (y 1).isLt
  have hy2 : (y 2).val < 1024 := (y 2).isLt
  rw [View.read_apply]
  have e : ((cfg0.win 10).blk t).view.emb y = (ix3 ⟨t.val / 32, by omega⟩ ⟨t.val % 32 * 256 + (y 1).val, by omega⟩ ⟨(y 2).val, hy2⟩ : S4x8192x1024.Idx) :=
    funext fun a => Fin.ext (by
      match a with
      | ⟨0, _⟩ => exact place (congrFun (index_10 t) 0) (show t.val / 32 * 1 + (y 0).val = t.val / 32 by omega)
      | ⟨1, _⟩ => exact place (congrFun (index_10 t) 1) rfl
      | ⟨2, _⟩ => exact place (congrFun (index_10 t) 2) (all _ _))
  refine Eq.trans ?_ (congrArg (plain1 m c) e).symm
  have ey : ((cfg0.win 10).xinj (grid0.coords t) y : S1x256x1024.Idx) = ix3 0 ⟨(y 1).val, hy1⟩ ⟨(y 2).val, hy2⟩ := by
    funext a
    apply Fin.ext
    match a with
    | ⟨0, _⟩ => exact Nat.lt_one_iff.mp hy0
    | ⟨1, _⟩ => rfl
    | ⟨2, _⟩ => rfl
  show out0_10 _ _ _ _ _ _ _ _ _ _ ((cfg0.win 10).xinj (grid0.coords t) y : S1x256x1024.Idx) = _
  rw [ey, out_10, second_apply, plain1_apply]
  exact point_conv m c t ⟨t.val / 32, by omega⟩ rfl ⟨(y 1).val, hy1⟩ ⟨t.val % 32 * 256 + (y 1).val, by omega⟩ rfl _

theorem flushed_11 (c : Dev nD) (t : Fin cfg0.N) : (dats m 0 c).flushed 11 t = ((cfg0.win 11).blk t).view.read (Elt Ideal) (plain2 m c) := by
  rw [Cert.Kernel5Ideal.Value.flushed11]
  have ht : t.val < 128 := t.isLt
  funext y
  have hy0 : (y 0).val < 1 := (y 0).isLt
  have hy1 : (y 1).val < 256 := (y 1).isLt
  have hy2 : (y 2).val < 1024 := (y 2).isLt
  rw [View.read_apply]
  have e : ((cfg0.win 11).blk t).view.emb y = (ix3 ⟨t.val / 32, by omega⟩ ⟨t.val % 32 * 256 + (y 1).val, by omega⟩ ⟨(y 2).val, hy2⟩ : S4x8192x1024.Idx) :=
    funext fun a => Fin.ext (by
      match a with
      | ⟨0, _⟩ => exact place (congrFun (index_11 t) 0) (show t.val / 32 * 1 + (y 0).val = t.val / 32 by omega)
      | ⟨1, _⟩ => exact place (congrFun (index_11 t) 1) rfl
      | ⟨2, _⟩ => exact place (congrFun (index_11 t) 2) (all _ _))
  refine Eq.trans ?_ (congrArg (plain2 m c) e).symm
  have ey : ((cfg0.win 11).xinj (grid0.coords t) y : S1x256x1024.Idx) = ix3 0 ⟨(y 1).val, hy1⟩ ⟨(y 2).val, hy2⟩ := by
    funext a
    apply Fin.ext
    match a with
    | ⟨0, _⟩ => exact Nat.lt_one_iff.mp hy0
    | ⟨1, _⟩ => rfl
    | ⟨2, _⟩ => rfl
  show out0_11 _ _ _ _ _ _ _ _ _ _ ((cfg0.win 11).xinj (grid0.coords t) y : S1x256x1024.Idx) = _
  rw [ey, out_11, third_apply, plain2_apply]
  exact point_conv m c t ⟨t.val / 32, by omega⟩ rfl ⟨(y 1).val, hy1⟩ ⟨t.val % 32 * 256 + (y 1).val, by omega⟩ rfl _

/-! The blocks fill the results. -/

theorem covered_9 (i : S4x8192x1024.Idx) : ∃ t : Fin cfg0.N, (cfg0.win 9).flush t = true ∧ i ∈ ((cfg0.win 9).blk t).view.set := by
  have h0 : (i 0).val < 4 := (i 0).isLt
  have h1 : (i 1).val < 8192 := (i 1).isLt
  have h2 : (i 2).val < 1024 := (i 2).isLt
  have hlt : (i 0).val * 32 + (i 1).val / 256 < 128 := by omega
  refine ⟨⟨(i 0).val * 32 + (i 1).val / 256, hlt⟩, flush0_9 _, ?_⟩
  generalize ht : (⟨(i 0).val * 32 + (i 1).val / 256, hlt⟩ : Fin cfg0.N) = t
  have tv : t.val = (i 0).val * 32 + (i 1).val / 256 := by rw [← ht]
  show i ∈ ((View.whole main_v3_0).slice (win0_9.rect t)).set
  rw [View.set_slice_whole, Rect.mem_set_unit]
  have e0 : win0_9.index t (0 : Fin 3) = t.val / 32 := congrFun (index_9 t) 0
  have e1 : win0_9.index t (1 : Fin 3) = t.val % 32 := congrFun (index_9 t) 1
  have e2 : win0_9.index t (2 : Fin 3) = 0 := congrFun (index_9 t) 2
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 256 ≤ (i 1).val ∧ (i 1).val < win0_9.index t (1 : Fin 3) * 256 + 256; omega
  | ⟨2, _⟩ => show win0_9.index t (2 : Fin 3) * 1024 ≤ (i 2).val ∧ (i 2).val < win0_9.index t (2 : Fin 3) * 1024 + 1024; omega

theorem covered_10 (i : S4x8192x1024.Idx) : ∃ t : Fin cfg0.N, (cfg0.win 10).flush t = true ∧ i ∈ ((cfg0.win 10).blk t).view.set := by
  have h0 : (i 0).val < 4 := (i 0).isLt
  have h1 : (i 1).val < 8192 := (i 1).isLt
  have h2 : (i 2).val < 1024 := (i 2).isLt
  have hlt : (i 0).val * 32 + (i 1).val / 256 < 128 := by omega
  refine ⟨⟨(i 0).val * 32 + (i 1).val / 256, hlt⟩, flush0_10 _, ?_⟩
  generalize ht : (⟨(i 0).val * 32 + (i 1).val / 256, hlt⟩ : Fin cfg0.N) = t
  have tv : t.val = (i 0).val * 32 + (i 1).val / 256 := by rw [← ht]
  show i ∈ ((View.whole main_v3_1).slice (win0_10.rect t)).set
  rw [View.set_slice_whole, Rect.mem_set_unit]
  have e0 : win0_10.index t (0 : Fin 3) = t.val / 32 := congrFun (index_10 t) 0
  have e1 : win0_10.index t (1 : Fin 3) = t.val % 32 := congrFun (index_10 t) 1
  have e2 : win0_10.index t (2 : Fin 3) = 0 := congrFun (index_10 t) 2
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 256 ≤ (i 1).val ∧ (i 1).val < win0_10.index t (1 : Fin 3) * 256 + 256; omega
  | ⟨2, _⟩ => show win0_10.index t (2 : Fin 3) * 1024 ≤ (i 2).val ∧ (i 2).val < win0_10.index t (2 : Fin 3) * 1024 + 1024; omega

theorem covered_11 (i : S4x8192x1024.Idx) : ∃ t : Fin cfg0.N, (cfg0.win 11).flush t = true ∧ i ∈ ((cfg0.win 11).blk t).view.set := by
  have h0 : (i 0).val < 4 := (i 0).isLt
  have h1 : (i 1).val < 8192 := (i 1).isLt
  have h2 : (i 2).val < 1024 := (i 2).isLt
  have hlt : (i 0).val * 32 + (i 1).val / 256 < 128 := by omega
  refine ⟨⟨(i 0).val * 32 + (i 1).val / 256, hlt⟩, flush0_11 _, ?_⟩
  generalize ht : (⟨(i 0).val * 32 + (i 1).val / 256, hlt⟩ : Fin cfg0.N) = t
  have tv : t.val = (i 0).val * 32 + (i 1).val / 256 := by rw [← ht]
  show i ∈ ((View.whole main_v3_2).slice (win0_11.rect t)).set
  rw [View.set_slice_whole, Rect.mem_set_unit]
  have e0 : win0_11.index t (0 : Fin 3) = t.val / 32 := congrFun (index_11 t) 0
  have e1 : win0_11.index t (1 : Fin 3) = t.val % 32 := congrFun (index_11 t) 1
  have e2 : win0_11.index t (2 : Fin 3) = 0 := congrFun (index_11 t) 2
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 256 ≤ (i 1).val ∧ (i 1).val < win0_11.index t (1 : Fin 3) * 256 + 256; omega
  | ⟨2, _⟩ => show win0_11.index t (2 : Fin 3) * 1024 ≤ (i 2).val ∧ (i 2).val < win0_11.index t (2 : Fin 3) * 1024 + 1024; omega

/-! The launch's results are the plain ones of its arguments. -/

theorem final_9 (c : Dev nD) : (dats m 0 c).arrAt 9 cfg0.N = plain0 m c :=
  (dats m 0 c).arrAt_eq_of_cover 9 (plain0 m c) (fun t _ => flushed_9 m c t) covered_9
theorem final_10 (c : Dev nD) : (dats m 0 c).arrAt 10 cfg0.N = plain1 m c :=
  (dats m 0 c).arrAt_eq_of_cover 10 (plain1 m c) (fun t _ => flushed_10 m c t) covered_10
theorem final_11 (c : Dev nD) : (dats m 0 c).arrAt 11 cfg0.N = plain2 m c :=
  (dats m 0 c).arrAt_eq_of_cover 11 (plain2 m c) (fun t _ => flushed_11 m c t) covered_11

end Cert.Kernel5Ideal.Proj

namespace Cert.Proof

open Cert.Kernel5Ideal Cert.Kernel5Ideal.Gen Idealize.ShloMosaic Idealize.ShloMosaic.TcCoe Idealize.SL.Sem

/-- The projection with its short convolution: the kernel and the plain reference compute the same three arrays. -/
theorem algebraic_proj : Cert.algebraic_Kernel5Ideal_Reference5Ideal := by
  unfold Cert.algebraic_Kernel5Ideal_Reference5Ideal
  intro m g m' g' _ hagree
  refine ⟨fun c => Cert.Kernel5Ideal.Proj.plain0 m c, fun c => Cert.Kernel5Ideal.Proj.plain1 m c, fun c => Cert.Kernel5Ideal.Proj.plain2 m c,
    (θ_run Cert.Kernel5Ideal.defs _ _).mono (fun r h c => ⟨(h c).1.trans (Cert.Kernel5Ideal.Proj.final_9 m c),
      (h c).2.1.trans (Cert.Kernel5Ideal.Proj.final_10 m c), (h c).2.2.1.trans (Cert.Kernel5Ideal.Proj.final_11 m c), (h c).2.2.2⟩)
      (Cert.Kernel5Ideal.Value.run_blocks m g),
    (θ_run Cert.Reference5Ideal.defs _ _).mono (fun r h c => ⟨(h c).1.trans ?_, (h c).2.1.trans ?_, (h c).2.2.1.trans ?_, (h c).2.2.2⟩)
      (Cert.Reference5Ideal.Value.run (F := Ideal) m' g')⟩
  all_goals obtain ⟨h0, h1, h2, h3, h4, h5, h6⟩ := hagree c
  · refine (Cert.Reference5Ideal.Read.val_main_v46_eq (F := Ideal) m' c).trans ?_
    rw [h0, h1, h2, h3, h4, h5, h6]
    rfl
  · refine (Cert.Reference5Ideal.Read.val_main_v47_eq (F := Ideal) m' c).trans ?_
    rw [h0, h1, h2, h3, h4, h5, h6]
    rfl
  · refine (Cert.Reference5Ideal.Read.val_main_v48_eq (F := Ideal) m' c).trans ?_
    rw [h0, h1, h2, h3, h4, h5, h6]
    rfl

end Cert.Proof

end
-- ==== Proof.Out4Block.lean ====
/-
  One block of the gated output projection at an index: the rows with the residual, the modulated rows, and their experts' softmax.
-/
module

public import proofs.«01_k».proof.Proof.Gen.Kernel4Ideal.Frame
public import proofs.«01_k».proof.Proof.RowMath

@[expose] public section

set_option maxRecDepth 16384

noncomputable section

namespace Cert.Kernel4Ideal.Out

open Cert.Kernel4Ideal Cert.Kernel4Ideal.Gen Cert.Row Idealize.ShloMosaic

theorem mixed_apply (o og : Vec Ideal S1x512x1024 .f32) (w : Vec Ideal S1024x1024 .bf16) (h : Vec Ideal S1x512x1024 .f32) (g : Vec Ideal S1x1x1024 .f32)
    (r : Fin 512) (d : Fin 1024) :
    k0_pay4 o og w h g (ix2 r d) = mixed (h (ix3 0 r d)) (g (ix3 0 0 d)) (fun k => (fun a b : EReal => a * b) (o (ix3 0 r k)) (og (ix3 0 r k))) (fun k => w (ix2 k d)) := by
  unfold mixed
  pointwise [k0_pay4]

theorem square_apply (o og : Vec Ideal S1x512x1024 .f32) (w : Vec Ideal S1024x1024 .bf16) (h : Vec Ideal S1x512x1024 .f32) (g : Vec Ideal S1x1x1024 .f32)
    (r : Fin 512) : k0_pay9 o og w h g (ix2 r 0) = ∑ k : Fin 1024, (fun a : EReal => a * a) (k0_pay4 o og w h g (ix2 r k)) := by
  unfold k0_pay9
  generalize k0_pay4 o og w h g = x
  pointwise

theorem modulated_apply (x : FVec Ideal S512x1024 .f32) (q : FVec Ideal S512x1 .f32) (sc sh : Vec Ideal S1x1x1024 .f32) (gn : Vec Ideal S1x1024 .f32)
    (hq : ∀ r : Fin 512, q (ix2 r 0) = ∑ k : Fin 1024, (fun a : EReal => a * a) (x (ix2 r k))) (r : Fin 512) (d : Fin 1024) :
    k0_pay1 x (k0_pay6 gn) (k0_pay7 sh) (k0_pay8 sc) q (k0_pay10 (F := Ideal)) (ix2 r d)
      = modulated (fun k => x (ix2 r k)) (fun k => gn (ix2 0 k)) (fun k => sc (ix3 0 0 k)) (fun k => sh (ix3 0 0 k)) d := by
  unfold modulated unitScale
  pointwise [k0_pay1, k0_pay6, k0_pay7, k0_pay8, k0_pay10]
  rw [hq]

theorem chosen_apply (v15 : FVec Ideal S512x1024 .f32) (v20 v22 v24 : FVec Ideal S1x1024 .f32) (v27 v28 : FVec Ideal S512x1 .f32) (rw : Vec Ideal S16x1024 .f32) (e : Fin 16) (r : Fin 512) :
    k0_pay3 v15 v20 v22 v24 v27 v28 rw (ix3 0 e r)
      = chosen (fun e => ∑ k : Fin 1024, (fun a b : EReal => a * b) (rw (ix2 e k)) (k0_pay1 v15 v20 v22 v24 v27 v28 (ix2 r k))) e := by
  unfold chosen k0_pay3
  generalize k0_pay1 v15 v20 v22 v24 v27 v28 = x
  pointwise
  simp only [fold_max_eq]

end Cert.Kernel4Ideal.Out

end
-- ==== Proof.Out4Ref.lean ====
/-
  The plain gated output projection at an index.
-/
module

public import proofs.«01_k».proof.Proof.Gen.Reference4Ideal.Read
public import proofs.«01_k».proof.Proof.RowMath

@[expose] public section

set_option maxRecDepth 16384

noncomputable section

namespace Cert.Reference4Ideal.Out

open Cert.Reference4Ideal Cert.Reference4Ideal.Read Cert.Row Idealize.ShloMosaic

variable (x0 x1 : (⟨S4x8192x1024, .f32⟩ : BufTy).Contents (Elt Ideal)) (x2 : (⟨S1024x1024, .f32⟩ : BufTy).Contents (Elt Ideal))
  (x3 : (⟨S4x8192x1024, .f32⟩ : BufTy).Contents (Elt Ideal)) (x4 : (⟨S4x1x1024, .f32⟩ : BufTy).Contents (Elt Ideal))
  (x5 : (⟨S1024, .f32⟩ : BufTy).Contents (Elt Ideal)) (x6 x7 : (⟨S4x1x1024, .f32⟩ : BufTy).Contents (Elt Ideal))
  (x8 : (⟨S1024x16, .f32⟩ : BufTy).Contents (Elt Ideal))

theorem mixed_apply (b : Fin 4) (n : Fin 8192) (d : Fin 1024) : val_main_v4 (F := Ideal) x0 x1 x2 x3 x4 (ix3 b n d)
    = mixed (x3 (ix3 b n d)) (x4 (ix3 b 0 d)) (fun k => (fun a b : EReal => a * b) (x1 (ix3 b n k)) (x0 (ix3 b n k))) (fun k => x2 (ix2 k d)) := by
  unfold mixed
  pointwise [val_main_v4, val_main_v3, val_main_v2, val_main_v1, val_main_v0]

theorem square_apply (b : Fin 4) (n : Fin 8192) : val_main_v6 (F := Ideal) x0 x1 x2 x3 x4 (ix2 b n)
    = ∑ k : Fin 1024, (fun a : EReal => a * a) (val_main_v4 (F := Ideal) x0 x1 x2 x3 x4 (ix3 b n k)) := by
  unfold val_main_v6 val_main_v5
  generalize val_main_v4 (F := Ideal) x0 x1 x2 x3 x4 = y
  pointwise
  have e : val_main_cst (F := Ideal) (Shape.Idx.first Gen.h_S_) = (0 : EReal) := zero_bits
  rw [e, zero_add]

theorem modulated_apply (b : Fin 4) (n : Fin 8192) (d : Fin 1024) : val_main_v23 (F := Ideal) x0 x1 x2 x3 x4 x5 x6 x7 (ix3 b n d)
    = modulated (fun k => val_main_v4 (F := Ideal) x0 x1 x2 x3 x4 (ix3 b n k)) (fun k => x5 (ix1 k)) (fun k => x7 (ix3 b 0 k)) (fun k => x6 (ix3 b 0 k)) d := by
  unfold modulated unitScale
  pointwise [val_main_v23, val_main_v22, val_main_v21, val_main_v20, val_main_v19, val_main_v18, val_main_v17, val_main_v16, val_main_v15, val_main_v14,
    val_main_v13, val_main_v12, val_main_v11, val_main_v10, val_main_v9, val_main_v8, val_main_v7]
  rw [square_apply]
  have e : val_main_cst_2 (F := Ideal) ix0 = (1 : EReal) := one_bits
  rw [e]
  rfl

/-- An expert's score of a row. -/
def score (b : Fin 4) (n : Fin 8192) (e : Fin 16) : EReal := val_main_v24 (F := Ideal) x0 x1 x2 x3 x4 x5 x6 x7 x8 (ix3 b n e)

theorem score_apply (b : Fin 4) (n : Fin 8192) (e : Fin 16) : score x0 x1 x2 x3 x4 x5 x6 x7 x8 b n e
    = ∑ k : Fin 1024, (fun a b : EReal => a * b) (val_main_v23 (F := Ideal) x0 x1 x2 x3 x4 x5 x6 x7 (ix3 b n k)) (x8 (ix2 k e)) := by
  unfold score val_main_v24
  generalize val_main_v23 (F := Ideal) x0 x1 x2 x3 x4 x5 x6 x7 = y
  pointwise

theorem top_single (b : Fin 4) (n : Fin 8192) : val_main_v25 (F := Ideal) x0 x1 x2 x3 x4 x5 x6 x7 x8 (ix2 b n)
    = Finset.univ.fold max (Ideal.ofBits .f32 0xFF800000#32) (score x0 x1 x2 x3 x4 x5 x6 x7 x8 b n) := by
  unfold val_main_v25 score
  generalize val_main_v24 (F := Ideal) x0 x1 x2 x3 x4 x5 x6 x7 x8 = y0
  rw [Host.reduce_eq_fold_single _ _ _ Gen.reducesTo_S4x8192x16_S4x8192_d2 (by decide)]
  refine congrArg (fun f => Finset.univ.fold max (Ideal.ofBits .f32 0xFF800000#32) f) (funext fun k => ?_)
  exact congrArg y0 (funext fun a => Fin.ext (by match a with | ⟨0, _⟩ => rfl | ⟨1, _⟩ => rfl | ⟨2, _⟩ => rfl))

theorem top_max (y0 : (⟨S4x8192, .f32⟩ : BufTy).Contents (Elt Ideal)) (i : S4x8192.Idx) :
    maximumf (F := Ideal) (s := S4x8192) (φ := .f32) (val_main_v26 (F := Ideal)) y0 i = (fun a b : EReal => max a b) ⊥ (y0 i) := by
  show (fun a b : EReal => max a b) (Ideal.ofBits .f32 0xFF800000#32) (y0 i) = _
  rw [low_eq]

/-- The largest of a row's scores. -/
theorem top_apply (b : Fin 4) (n : Fin 8192) : val_main_v27 (F := Ideal) x0 x1 x2 x3 x4 x5 x6 x7 x8 (ix2 b n)
    = Finset.univ.sup (score x0 x1 x2 x3 x4 x5 x6 x7 x8 b n) := by
  unfold val_main_v27
  rw [top_max, top_single, fold_max_eq]
  exact max_eq_right bot_le

/-- The exponential of a score below the largest. -/
theorem exp_apply (b : Fin 4) (n : Fin 8192) (e : Fin 16) : val_main_v31 (F := Ideal) x0 x1 x2 x3 x4 x5 x6 x7 x8 (ix3 b n e)
    = Ideal.exp (score x0 x1 x2 x3 x4 x5 x6 x7 x8 b n e - Finset.univ.sup (score x0 x1 x2 x3 x4 x5 x6 x7 x8 b n)) := by
  pointwise [val_main_v31, val_main_v30, val_main_v29, val_main_v28]
  rw [top_apply]
  rfl

theorem total_apply (b : Fin 4) (n : Fin 8192) : val_main_v32 (F := Ideal) x0 x1 x2 x3 x4 x5 x6 x7 x8 (ix2 b n)
    = ∑ k : Fin 16, (fun a : EReal => a) (val_main_v31 (F := Ideal) x0 x1 x2 x3 x4 x5 x6 x7 x8 (ix3 b n k)) := by
  unfold val_main_v32
  generalize val_main_v31 (F := Ideal) x0 x1 x2 x3 x4 x5 x6 x7 x8 = y
  pointwise
  have e : val_main_cst_5 (F := Ideal) (Shape.Idx.first Gen.h_S_) = (0 : EReal) := zero_bits
  rw [e, zero_add]

/-- The softmax of a row's scores, the experts before the rows. -/
theorem chosen_apply (b : Fin 4) (n : Fin 8192) (e : Fin 16) : val_main_v40 (F := Ideal) x0 x1 x2 x3 x4 x5 x6 x7 x8 (ix3 b e n)
    = chosen (score x0 x1 x2 x3 x4 x5 x6 x7 x8 b n) e := by
  unfold chosen
  pointwise [val_main_v40, val_main_v35, val_main_v34, val_main_v33]
  simp only [total_apply, exp_apply]

/-- The rows of all batches one under another. -/
theorem flat_apply (b : Fin 4) (n : Fin 8192) (d : Fin 1024) (r : Fin 32768) (hr : r.val = b.val * 8192 + n.val) :
    val_main_v36 (F := Ideal) x0 x1 x2 x3 x4 x5 x6 x7 (ix2 r d) = val_main_v23 (F := Ideal) x0 x1 x2 x3 x4 x5 x6 x7 (ix3 b n d) := by
  unfold val_main_v36
  generalize val_main_v23 (F := Ideal) x0 x1 x2 x3 x4 x5 x6 x7 = y
  show shapeCast (α := EReal) S32768x1024 y _ (ix2 r d) = _
  refine shapeCast_apply _ _ _ _ ?_
  rw [Shape.rowMajor_val_two, Shape.rowMajor_val_three]
  show (b.val * 8192 + n.val) * 1024 + d.val = r.val * 1024 + d.val
  rw [hr]

/-- They come first; the rows after them are zero. -/
theorem joined_apply (r : Fin 33792) (d : Fin 1024) : val_main_v39 (F := Ideal) x0 x1 x2 x3 x4 x5 x6 x7 (ix2 r d)
    = if h : r.val < 32768 then val_main_v36 (F := Ideal) x0 x1 x2 x3 x4 x5 x6 x7 (ix2 ⟨r.val, h⟩ d) else (0 : EReal) := by
  unfold val_main_v39 val_main_v38 val_main_v37
  generalize val_main_v36 (F := Ideal) x0 x1 x2 x3 x4 x5 x6 x7 = y
  pointwise
  have e : val_main_cst_6 (F := Ideal) ix0 = (0 : EReal) := zero_bits
  rw [e]

end Cert.Reference4Ideal.Out

end
-- ==== Proof.Out4Value.lean ====
/-
  The gated output projection's value claim. The kernel goes over blocks of 512 rows, the plain reference over all rows at
  once; both compute each row by itself. The kernel's second result is longer than its blocks and keeps zeros in the rest.
-/
module

public import proofs.«01_k».proof.Defs
public import proofs.«01_k».proof.Proof.Out4Block
public import proofs.«01_k».proof.Proof.Out4Ref
public import proofs.«01_k».proof.Proof.Gen.Kernel4Ideal.Value
public import proofs.«01_k».proof.Proof.Gen.Reference4Ideal.Run

@[expose] public section

set_option maxRecDepth 16384

noncomputable section

namespace Cert.Kernel4Ideal.Out

open Cert.Kernel4Ideal Cert.Kernel4Ideal.Gen Cert.Row Idealize.ShloMosaic Idealize.ShloMosaic.TcCoe Idealize.SL.Sem

theorem index_0 : ∀ t : Fin cfg0.N, win0_0.index t = ![t.val / 16, t.val % 16, 0] := (by decide +kernel : ∀ t : Fin grid0.N, _)
theorem index_1 : ∀ t : Fin cfg0.N, win0_1.index t = ![t.val / 16, t.val % 16, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![t.val / 16, t.val % 16, 0] := (by decide +kernel : ∀ t : Fin grid0.N, _)
theorem index_4 : ∀ t : Fin cfg0.N, win0_4.index t = ![t.val / 16, 0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![t.val / 16, 0, 0] := (by decide +kernel : ∀ t : Fin grid0.N, _)
theorem index_7 : ∀ t : Fin cfg0.N, win0_7.index t = ![t.val / 16, 0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![t.val / 16, t.val % 16, 0] := (by decide +kernel : ∀ t : Fin grid0.N, _)
theorem index_10 : ∀ t : Fin cfg0.N, win0_10.index t = ![t.val, 0] := (by decide +kernel : ∀ t : Fin grid0.N, _)
theorem index_11 : ∀ t : Fin cfg0.N, win0_11.index t = ![t.val / 16, 0, t.val % 16] := (by decide +kernel : ∀ t : Fin grid0.N, _)

theorem read_0 (t : Fin cfg0.N) (A : S4x8192x1024.Idx → EReal) (b : Fin 4) (r : Fin 512) (n : Fin 8192) (d : Fin 1024)
    (hb : t.val / 16 = b.val) (hn : t.val % 16 * 512 + r.val = n.val) :
    ((cfg0.win 0).blk t).view.read (Elt Ideal) A (ix3 0 r d) = A (ix3 b n d) := by
  rw [View.read_apply]
  refine congrArg A (funext fun a => Fin.ext ?_)
  match a with
  | ⟨0, _⟩ => exact place (congrFun (index_0 t) 0) (first hb)
  | ⟨1, _⟩ => exact place (congrFun (index_0 t) 1) hn
  | ⟨2, _⟩ => exact place (congrFun (index_0 t) 2) (all _ _)

theorem read_1 (t : Fin cfg0.N) (A : S4x8192x1024.Idx → EReal) (b : Fin 4) (r : Fin 512) (n : Fin 8192) (d : Fin 1024)
    (hb : t.val / 16 = b.val) (hn : t.val % 16 * 512 + r.val = n.val) :
    ((cfg0.win 1).blk t).view.read (Elt Ideal) A (ix3 0 r d) = A (ix3 b n d) := by
  rw [View.read_apply]
  refine congrArg A (funext fun a => Fin.ext ?_)
  match a with
  | ⟨0, _⟩ => exact place (congrFun (index_1 t) 0) (first hb)
  | ⟨1, _⟩ => exact place (congrFun (index_1 t) 1) hn
  | ⟨2, _⟩ => exact place (congrFun (index_1 t) 2) (all _ _)

theorem read_3 (t : Fin cfg0.N) (A : S4x8192x1024.Idx → EReal) (b : Fin 4) (r : Fin 512) (n : Fin 8192) (d : Fin 1024)
    (hb : t.val / 16 = b.val) (hn : t.val % 16 * 512 + r.val = n.val) :
    ((cfg0.win 3).blk t).view.read (Elt Ideal) A (ix3 0 r d) = A (ix3 b n d) := by
  rw [View.read_apply]
  refine congrArg A (funext fun a => Fin.ext ?_)
  match a with
  | ⟨0, _⟩ => exact place (congrFun (index_3 t) 0) (first hb)
  | ⟨1, _⟩ => exact place (congrFun (index_3 t) 1) hn
  | ⟨2, _⟩ => exact place (congrFun (index_3 t) 2) (all _ _)

theorem read_2 (t : Fin cfg0.N) (A : S1024x1024.Idx → EReal) (k d : Fin 1024) :
    ((cfg0.win 2).blk t).view.read (Elt Ideal) A (ix2 k d) = A (ix2 k d) := by
  rw [View.read_apply]
  refine congrArg A (funext fun a => Fin.ext ?_)
  match a with
  | ⟨0, _⟩ => exact place (congrFun (index_2 t) 0) (all _ _)
  | ⟨1, _⟩ => exact place (congrFun (index_2 t) 1) (all _ _)

theorem read_4 (t : Fin cfg0.N) (A : S4x1x1024.Idx → EReal) (b : Fin 4) (d : Fin 1024)
    (hb : t.val / 16 = b.val) :
    ((cfg0.win 4).blk t).view.read (Elt Ideal) A (ix3 0 0 d) = A (ix3 b 0 d) := by
  rw [View.read_apply]
  refine congrArg A (funext fun a => Fin.ext ?_)
  match a with
  | ⟨0, _⟩ => exact place (congrFun (index_4 t) 0) (first hb)
  | ⟨1, _⟩ => exact place (congrFun (index_4 t) 1) rfl
  | ⟨2, _⟩ => exact place (congrFun (index_4 t) 2) (all _ _)

theorem read_6 (t : Fin cfg0.N) (A : S4x1x1024.Idx → EReal) (b : Fin 4) (d : Fin 1024)
    (hb : t.val / 16 = b.val) :
    ((cfg0.win 6).blk t).view.read (Elt Ideal) A (ix3 0 0 d) = A (ix3 b 0 d) := by
  rw [View.read_apply]
  refine congrArg A (funext fun a => Fin.ext ?_)
  match a with
  | ⟨0, _⟩ => exact place (congrFun (index_6 t) 0) (first hb)
  | ⟨1, _⟩ => exact place (congrFun (index_6 t) 1) rfl
  | ⟨2, _⟩ => exact place (congrFun (index_6 t) 2) (all _ _)

theorem read_7 (t : Fin cfg0.N) (A : S4x1x1024.Idx → EReal) (b : Fin 4) (d : Fin 1024)
    (hb : t.val / 16 = b.val) :
    ((cfg0.win 7).blk t).view.read (Elt Ideal) A (ix3 0 0 d) = A (ix3 b 0 d) := by
  rw [View.read_apply]
  refine congrArg A (funext fun a => Fin.ext ?_)
  match a with
  | ⟨0, _⟩ => exact place (congrFun (index_7 t) 0) (first hb)
  | ⟨1, _⟩ => exact place (congrFun (index_7 t) 1) rfl
  | ⟨2, _⟩ => exact place (congrFun (index_7 t) 2) (all _ _)

theorem read_5 (t : Fin cfg0.N) (A : S1x1024.Idx → EReal) (d : Fin 1024) :
    ((cfg0.win 5).blk t).view.read (Elt Ideal) A (ix2 0 d) = A (ix2 0 d) := by
  rw [View.read_apply]
  refine congrArg A (funext fun a => Fin.ext ?_)
  match a with
  | ⟨0, _⟩ => exact place (congrFun (index_5 t) 0) rfl
  | ⟨1, _⟩ => exact place (congrFun (index_5 t) 1) (all _ _)

theorem read_8 (t : Fin cfg0.N) (A : S16x1024.Idx → EReal) (e : Fin 16) (d : Fin 1024) :
    ((cfg0.win 8).blk t).view.read (Elt Ideal) A (ix2 e d) = A (ix2 e d) := by
  rw [View.read_apply]
  refine congrArg A (funext fun a => Fin.ext ?_)
  match a with
  | ⟨0, _⟩ => exact place (congrFun (index_8 t) 0) (all _ _)
  | ⟨1, _⟩ => exact place (congrFun (index_8 t) 1) (all _ _)

/-! The arrays the launch reads. -/

variable (m : (ℓ : Loc nD τ sig) → Buf (Elt Ideal) ℓ)

/-- The mixer's rows. -/
def heads (c : Dev nD) : S4x8192x1024.Idx → EReal := m ((c : Thread nD τ).loc main_arg0)
/-- Their gates. -/
def factors (c : Dev nD) : S4x8192x1024.Idx → EReal := m ((c : Thread nD τ).loc main_arg1)
/-- The projection's weight. -/
def weight (c : Dev nD) : S1024x1024.Idx → EReal := m ((c : Thread nD τ).loc main_arg2)
/-- The residual. -/
def resid (c : Dev nD) : S4x8192x1024.Idx → EReal := m ((c : Thread nD τ).loc main_arg3)
/-- The gates of the mixer's result. -/
def gates (c : Dev nD) : S4x1x1024.Idx → EReal := m ((c : Thread nD τ).loc main_arg4)
/-- The norm's weight. -/
def norm (c : Dev nD) : S1024.Idx → EReal := m ((c : Thread nD τ).loc main_arg5)
/-- The shifts. -/
def shift (c : Dev nD) : S4x1x1024.Idx → EReal := m ((c : Thread nD τ).loc main_arg6)
/-- The scales. -/
def scales (c : Dev nD) : S4x1x1024.Idx → EReal := m ((c : Thread nD τ).loc main_arg7)
/-- The experts' weights. -/
def router (c : Dev nD) : S1024x16.Idx → EReal := m ((c : Thread nD τ).loc main_arg8)

theorem block_0 (c : Dev nD) (t : Fin cfg0.N) : iblk m c 0 t = ((cfg0.win 0).blk t).view.read (Elt Ideal) (heads m c) := by
  unfold heads; rw [← V_main_arg0 m c]; rfl
theorem block_1 (c : Dev nD) (t : Fin cfg0.N) : iblk m c 1 t = ((cfg0.win 1).blk t).view.read (Elt Ideal) (factors m c) := by
  unfold factors; rw [← V_main_arg1 m c]; rfl
theorem block_2 (c : Dev nD) (t : Fin cfg0.N) : iblk m c 2 t = ((cfg0.win 2).blk t).view.read (Elt Ideal) (V m c main_v0 : S1024x1024.Idx → EReal) := rfl
theorem block_3 (c : Dev nD) (t : Fin cfg0.N) : iblk m c 3 t = ((cfg0.win 3).blk t).view.read (Elt Ideal) (resid m c) := by
  unfold resid; rw [← V_main_arg3 m c]; rfl
theorem block_4 (c : Dev nD) (t : Fin cfg0.N) : iblk m c 4 t = ((cfg0.win 4).blk t).view.read (Elt Ideal) (gates m c) := by
  unfold gates; rw [← V_main_arg4 m c]; rfl
theorem block_5 (c : Dev nD) (t : Fin cfg0.N) : iblk m c 5 t = ((cfg0.win 5).blk t).view.read (Elt Ideal) (V m c main_v3 : S1x1024.Idx → EReal) := rfl
theorem block_6 (c : Dev nD) (t : Fin cfg0.N) : iblk m c 6 t = ((cfg0.win 6).blk t).view.read (Elt Ideal) (shift m c) := by
  unfold shift; rw [← V_main_arg6 m c]; rfl
theorem block_7 (c : Dev nD) (t : Fin cfg0.N) : iblk m c 7 t = ((cfg0.win 7).blk t).view.read (Elt Ideal) (scales m c) := by
  unfold scales; rw [← V_main_arg7 m c]; rfl
theorem block_8 (c : Dev nD) (t : Fin cfg0.N) : iblk m c 8 t = ((cfg0.win 8).blk t).view.read (Elt Ideal) (V m c main_v1 : S16x1024.Idx → EReal) := rfl

theorem host_weight (c : Dev nD) (k d : Fin 1024) : (V m c main_v0 : S1024x1024.Idx → EReal) (ix2 k d) = weight m c (ix2 k d) := by
  show StableHlo.after hostOps0 _ _ _ = _
  after_results_simp
  rfl
theorem host_router (c : Dev nD) (e : Fin 16) (d : Fin 1024) : (V m c main_v1 : S16x1024.Idx → EReal) (ix2 e d) = router m c (ix2 d e) := by
  show StableHlo.after hostOps0 _ _ _ = _
  after_results_simp
  unfold router
  pointwise
theorem host_norm (c : Dev nD) (d : Fin 1024) : (V m c main_v3 : S1x1024.Idx → EReal) (ix2 0 d) = norm m c (ix1 d) := by
  show StableHlo.after hostOps0 _ _ _ = _
  after_results_simp
  unfold norm
  pointwise

/-! One point's rows. -/

/-- The residual plus the gated projection of the launch's arguments. -/
def row (c : Dev nD) (b : Fin 4) (n : Fin 8192) (d : Fin 1024) : EReal :=
  mixed (resid m c (ix3 b n d)) (gates m c (ix3 b 0 d)) (fun k => heads m c (ix3 b n k) * factors m c (ix3 b n k)) (fun k => weight m c (ix2 k d))

/-- The row, modulated. -/
def modRow (c : Dev nD) (b : Fin 4) (n : Fin 8192) (d : Fin 1024) : EReal :=
  modulated (row m c b n) (fun k => norm m c (ix1 k)) (fun k => scales m c (ix3 b 0 k)) (fun k => shift m c (ix3 b 0 k)) d

section
variable (c : Dev nD) (t : Fin cfg0.N) (b : Fin 4) (r : Fin 512) (n : Fin 8192) (hb : t.val / 16 = b.val) (hn : t.val % 16 * 512 + r.val = n.val)

include hb hn in
theorem point_row (d : Fin 1024) : k0_pay4 (iblk m c 0 t) (iblk m c 1 t) (iblk m c 2 t) (iblk m c 3 t) (iblk m c 4 t) (ix2 r d) = row m c b n d := by
  rw [mixed_apply, block_0, block_1, block_2, block_3, block_4]
  unfold row
  have e2 := read_3 t (resid m c) b r n d hb hn
  have e3 := read_4 t (gates m c) b d hb
  have e0 : (fun k => (fun a b : EReal => a * b) (((cfg0.win 0).blk t).view.read (Elt Ideal) (heads m c) (ix3 0 r k)) (((cfg0.win 1).blk t).view.read (Elt Ideal) (factors m c) (ix3 0 r k)))
      = fun k => heads m c (ix3 b n k) * factors m c (ix3 b n k) :=
    funext fun k => congr (congrArg (fun a b : EReal => a * b) (read_0 t (heads m c) b r n k hb hn)) (read_1 t (factors m c) b r n k hb hn)
  have e1 : (fun k => ((cfg0.win 2).blk t).view.read (Elt Ideal) (V m c main_v0 : S1024x1024.Idx → EReal) (ix2 k d)) = fun k => weight m c (ix2 k d) :=
    funext fun k => (read_2 t _ k d).trans (host_weight m c k d)
  exact congr (congr (congr (congrArg mixed e2) e3) e0) e1

include hb hn in
theorem point_mod (d : Fin 1024) : k0_pay1 (k0_pay4 (iblk m c 0 t) (iblk m c 1 t) (iblk m c 2 t) (iblk m c 3 t) (iblk m c 4 t)) (k0_pay6 (iblk m c 5 t)) (k0_pay7 (iblk m c 6 t)) (k0_pay8 (iblk m c 7 t)) (k0_pay9 (iblk m c 0 t) (iblk m c 1 t) (iblk m c 2 t) (iblk m c 3 t) (iblk m c 4 t)) k0_pay10 (ix2 r d) = modRow m c b n d := by
  rw [modulated_apply _ _ _ _ _ (square_apply _ _ _ _ _), block_5, block_6, block_7]
  have er : (fun k => k0_pay4 (iblk m c 0 t) (iblk m c 1 t) (iblk m c 2 t) (iblk m c 3 t) (iblk m c 4 t) (ix2 r k)) = row m c b n :=
    funext fun k => point_row m c t b r n hb hn k
  rw [er]
  have e4 := (read_5 t (V m c main_v3 : S1x1024.Idx → EReal) d).trans (host_norm m c d)
  have e5 := read_6 t (shift m c) b d hb
  have e6 := read_7 t (scales m c) b d hb
  unfold modRow modulated
  exact mod_congr e4 e6 e5

include hb hn in
theorem point_chosen (e : Fin 16) : k0_pay3 (k0_pay4 (iblk m c 0 t) (iblk m c 1 t) (iblk m c 2 t) (iblk m c 3 t) (iblk m c 4 t)) (k0_pay6 (iblk m c 5 t)) (k0_pay7 (iblk m c 6 t)) (k0_pay8 (iblk m c 7 t)) (k0_pay9 (iblk m c 0 t) (iblk m c 1 t) (iblk m c 2 t) (iblk m c 3 t) (iblk m c 4 t)) k0_pay10 (iblk m c 8 t) (ix3 0 e r)
    = chosen (fun e => ∑ k : Fin 1024, modRow m c b n k * router m c (ix2 k e)) e := by
  rw [chosen_apply]
  refine congrArg (fun l => chosen l e) (funext fun e => Finset.sum_congr rfl fun k _ => ?_)
  rw [point_mod m c t b r n hb hn k, block_8]
  have e7 := (read_8 t (V m c main_v1 : S16x1024.Idx → EReal) e k).trans (host_router m c e k)
  refine (congrArg (fun u : EReal => u * modRow m c b n k) e7).trans ?_
  exact mul_comm _ _
end

/-! The reference's three results. -/

def plain0 (c : Dev nD) : S4x8192x1024.Idx → EReal :=
  Cert.Reference4Ideal.Read.val_main_v4 (F := Ideal) (heads m c) (factors m c) (weight m c) (resid m c) (gates m c)
def plain1 (c : Dev nD) : S33792x1024.Idx → EReal :=
  Cert.Reference4Ideal.Read.val_main_v39 (F := Ideal) (heads m c) (factors m c) (weight m c) (resid m c) (gates m c) (norm m c) (shift m c) (scales m c)
def plain2 (c : Dev nD) : S4x16x8192.Idx → EReal :=
  Cert.Reference4Ideal.Read.val_main_v40 (F := Ideal) (heads m c) (factors m c) (weight m c) (resid m c) (gates m c) (norm m c) (shift m c) (scales m c) (router m c)

theorem plain0_apply (c : Dev nD) (b : Fin 4) (n : Fin 8192) (d : Fin 1024) : plain0 m c (ix3 b n d) = row m c b n d :=
  (Cert.Reference4Ideal.Out.mixed_apply _ _ _ _ _ b n d).trans (by
    have e : (fun k => (fun a b : EReal => a * b) (factors m c (ix3 b n k)) (heads m c (ix3 b n k))) = fun k => heads m c (ix3 b n k) * factors m c (ix3 b n k) :=
      funext fun k => mul_comm _ _
    unfold row
    exact congrArg (fun f => mixed (resid m c (ix3 b n d)) (gates m c (ix3 b 0 d)) f (fun k => weight m c (ix2 k d))) e)

theorem mod_eq (c : Dev nD) (b : Fin 4) (n : Fin 8192) (d : Fin 1024) :
    Cert.Reference4Ideal.Read.val_main_v23 (F := Ideal) (heads m c) (factors m c) (weight m c) (resid m c) (gates m c) (norm m c) (shift m c) (scales m c) (ix3 b n d)
      = modRow m c b n d := by
  rw [Cert.Reference4Ideal.Out.modulated_apply]
  unfold modRow
  have er : (fun k => Cert.Reference4Ideal.Read.val_main_v4 (F := Ideal) (heads m c) (factors m c) (weight m c) (resid m c) (gates m c) (ix3 b n k)) = row m c b n :=
    funext fun k => plain0_apply m c b n k
  rw [er]

theorem plain1_apply (c : Dev nD) (b : Fin 4) (n : Fin 8192) (d : Fin 1024) (r : Fin 33792) (hr : r.val = b.val * 8192 + n.val) :
    plain1 m c (ix2 r d) = modRow m c b n d := by
  have hb := b.isLt
  have hn := n.isLt
  unfold plain1
  rw [Cert.Reference4Ideal.Out.joined_apply, dif_pos (show r.val < 32768 by omega)]
  exact (Cert.Reference4Ideal.Out.flat_apply _ _ _ _ _ _ _ _ b n d ⟨r.val, by omega⟩ hr).trans (mod_eq m c b n d)

theorem plain1_rest (c : Dev nD) (r : Fin 33792) (d : Fin 1024) (h : ¬r.val < 32768) : plain1 m c (ix2 r d) = 0 := by
  unfold plain1
  rw [Cert.Reference4Ideal.Out.joined_apply, dif_neg h]

theorem plain2_apply (c : Dev nD) (b : Fin 4) (n : Fin 8192) (e : Fin 16) :
    plain2 m c (ix3 b e n) = chosen (fun e => ∑ k : Fin 1024, modRow m c b n k * router m c (ix2 k e)) e := by
  refine (Cert.Reference4Ideal.Out.chosen_apply _ _ _ _ _ _ _ _ _ b n e).trans ?_
  refine congrArg (fun l => chosen l e) (funext fun e => ?_)
  rw [Cert.Reference4Ideal.Out.score_apply]
  refine Finset.sum_congr rfl fun k _ => ?_
  rw [mod_eq]

/-! What each point writes. -/

theorem hz2 : (![0, 0] : Fin 2 → ℕ) = fun _ => 0 := by funext a; match a with | ⟨0, _⟩ => rfl | ⟨1, _⟩ => rfl
theorem hz3 : (![0, 0, 0] : Fin 3 → ℕ) = fun _ => 0 := by funext a; match a with | ⟨0, _⟩ => rfl | ⟨1, _⟩ => rfl | ⟨2, _⟩ => rfl

section
variable (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1024x1024 .bf16) (harg4 : arg4.IsWhole) (arg5 : Memref sig .tc .vmem S1x512x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S16x1024 .f32) (harg10 : arg10.IsWhole) (arg12 : Memref sig .tc .vmem S1x512x1024 .f32) (harg12 : arg12.IsWhole) (arg13 : Memref sig .tc .vmem S512x1024 .bf16) (harg13 : arg13.IsWhole) (arg14 : Memref sig .tc .vmem S1x16x512 .f32) (harg14 : arg14.IsWhole)
  (x0 x1 : Vec Ideal S1x512x1024 .f32) (x2 : Vec Ideal S1024x1024 .bf16) (x3 : Vec Ideal S1x512x1024 .f32) (x4 : Vec Ideal S1x1x1024 .f32)
  (x5 : Vec Ideal S1x1024 .f32) (x6 x7 : Vec Ideal S1x1x1024 .f32) (x8 : Vec Ideal S16x1024 .f32)

theorem out_9 : out0_A_9 c i arg2 harg2 arg3 harg3 arg4 harg4 arg5 harg5 arg6 harg6 arg7 harg7 arg8 harg8 arg9 harg9 arg10 harg10 arg12 harg12 arg13 harg13 arg14 harg14 x0 x1 x2 x3 x4 x5 x6 x7 x8 = k0_pay5 x0 x1 x2 x3 x4 := by
  unfold out0_A_9
  rw [View.read_writes_eq_canon _ _ _ (cover0_A_9 c i arg2 harg2 arg3 harg3 arg4 harg4 arg5 harg5 arg6 harg6 arg7 harg7 arg8 harg8 arg9 harg9 arg10 harg10 arg12 harg12 arg13 harg13 arg14 harg14 x0 x1 x2 x3 x4 x5 x6 x7 x8)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread,
    View.ld_unit_zero (S := S1x512x1024) hz3, View.ld_unit_zero (S := S1x1x1024) hz3, View.ld_unit_zero (S := S1024x1024) hz2,
    View.ld_unit_zero (S := S1x1024) hz2, View.ld_unit_zero (S := S16x1024) hz2]

theorem out_10 : out0_A_10 c i arg2 harg2 arg3 harg3 arg4 harg4 arg5 harg5 arg6 harg6 arg7 harg7 arg8 harg8 arg9 harg9 arg10 harg10 arg12 harg12 arg13 harg13 arg14 harg14 x0 x1 x2 x3 x4 x5 x6 x7 x8 = k0_pay2 (k0_pay4 x0 x1 x2 x3 x4) (k0_pay6 x5) (k0_pay7 x6) (k0_pay8 x7) (k0_pay9 x0 x1 x2 x3 x4) k0_pay10 := by
  unfold out0_A_10
  rw [View.read_writes_eq_canon _ _ _ (cover0_A_10 c i arg2 harg2 arg3 harg3 arg4 harg4 arg5 harg5 arg6 harg6 arg7 harg7 arg8 harg8 arg9 harg9 arg10 harg10 arg12 harg12 arg13 harg13 arg14 harg14 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread,
    View.ld_unit_zero (S := S1x512x1024) hz3, View.ld_unit_zero (S := S1x1x1024) hz3, View.ld_unit_zero (S := S1024x1024) hz2,
    View.ld_unit_zero (S := S1x1024) hz2, View.ld_unit_zero (S := S16x1024) hz2]

theorem out_11 : out0_A_11 c i arg2 harg2 arg3 harg3 arg4 harg4 arg5 harg5 arg6 harg6 arg7 harg7 arg8 harg8 arg9 harg9 arg10 harg10 arg12 harg12 arg13 harg13 arg14 harg14 x0 x1 x2 x3 x4 x5 x6 x7 x8 = k0_pay3 (k0_pay4 x0 x1 x2 x3 x4) (k0_pay6 x5) (k0_pay7 x6) (k0_pay8 x7) (k0_pay9 x0 x1 x2 x3 x4) k0_pay10 x8 := by
  unfold out0_A_11
  rw [View.read_writes_eq_canon _ _ _ (cover0_A_11 c i arg2 harg2 arg3 harg3 arg4 harg4 arg5 harg5 arg6 harg6 arg7 harg7 arg8 harg8 arg9 harg9 arg10 harg10 arg12 harg12 arg13 harg13 arg14 harg14 x0 x1 x2 x3 x4 x5 x6 x7 x8)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread,
    View.ld_unit_zero (S := S1x512x1024) hz3, View.ld_unit_zero (S := S1x1x1024) hz3, View.ld_unit_zero (S := S1024x1024) hz2,
    View.ld_unit_zero (S := S1x1024) hz2, View.ld_unit_zero (S := S16x1024) hz2]

theorem pay5_apply (r : Fin 512) (d : Fin 1024) : k0_pay5 x0 x1 x2 x3 x4 (ix3 0 r d) = k0_pay4 x0 x1 x2 x3 x4 (ix2 r d) := by
  unfold k0_pay5
  generalize k0_pay4 x0 x1 x2 x3 x4 = y
  pointwise
end

theorem flushed_9 (c : Dev nD) (t : Fin cfg0.N) : (dats m 0 c).flushed 9 t = ((cfg0.win 9).blk t).view.read (Elt Ideal) (plain0 m c) := by
  rw [Cert.Kernel4Ideal.Value.flushed9_A, out_9]
  have ht : t.val < 64 := t.isLt
  funext y
  have hy0 : (y 0).val < 1 := (y 0).isLt
  have hy1 : (y 1).val < 512 := (y 1).isLt
  have hy2 : (y 2).val < 1024 := (y 2).isLt
  rw [View.read_apply]
  have e : ((cfg0.win 9).blk t).view.emb y = (ix3 ⟨t.val / 16, by omega⟩ ⟨t.val % 16 * 512 + (y 1).val, by omega⟩ ⟨(y 2).val, hy2⟩ : S4x8192x1024.Idx) :=
    funext fun a => Fin.ext (by
      match a with
      | ⟨0, _⟩ => exact place (congrFun (index_9 t) 0) (show t.val / 16 * 1 + (y 0).val = t.val / 16 by omega)
      | ⟨1, _⟩ => exact place (congrFun (index_9 t) 1) rfl
      | ⟨2, _⟩ => exact place (congrFun (index_9 t) 2) (all _ _))
  refine Eq.trans ?_ (congrArg (plain0 m c) e).symm
  have ey : ((cfg0.win 9).xinj (grid0.coords t) y : S1x512x1024.Idx) = ix3 0 ⟨(y 1).val, hy1⟩ ⟨(y 2).val, hy2⟩ := by
    funext a
    apply Fin.ext
    match a with
    | ⟨0, _⟩ => exact Nat.lt_one_iff.mp hy0
    | ⟨1, _⟩ => rfl
    | ⟨2, _⟩ => rfl
  show k0_pay5 _ _ _ _ _ ((cfg0.win 9).xinj (grid0.coords t) y : S1x512x1024.Idx) = _
  rw [ey, pay5_apply, point_row m c t ⟨t.val / 16, by omega⟩ ⟨(y 1).val, hy1⟩ ⟨t.val % 16 * 512 + (y 1).val, by omega⟩ rfl rfl, plain0_apply]

theorem flushed_10 (c : Dev nD) (t : Fin cfg0.N) : (dats m 0 c).flushed 10 t = ((cfg0.win 10).blk t).view.read (Elt Ideal) (plain1 m c) := by
  rw [Cert.Kernel4Ideal.Value.flushed10_A, out_10]
  have ht : t.val < 64 := t.isLt
  funext y
  have hy0 : (y 0).val < 512 := (y 0).isLt
  have hy1 : (y 1).val < 1024 := (y 1).isLt
  rw [View.read_apply]
  have e : ((cfg0.win 10).blk t).view.emb y = (ix2 ⟨t.val * 512 + (y 0).val, by omega⟩ ⟨(y 1).val, hy1⟩ : S33792x1024.Idx) :=
    funext fun a => Fin.ext (by
      match a with
      | ⟨0, _⟩ => exact place (congrFun (index_10 t) 0) rfl
      | ⟨1, _⟩ => exact place (congrFun (index_10 t) 1) (all _ _))
  refine Eq.trans ?_ (congrArg (plain1 m c) e).symm
  have ey : ((cfg0.win 10).xinj (grid0.coords t) y : S512x1024.Idx) = ix2 ⟨(y 0).val, hy0⟩ ⟨(y 1).val, hy1⟩ := by
    funext a
    apply Fin.ext
    match a with
    | ⟨0, _⟩ => rfl
    | ⟨1, _⟩ => rfl
  show k0_pay2 _ _ _ _ _ _ ((cfg0.win 10).xinj (grid0.coords t) y : S512x1024.Idx) = _
  rw [ey]
  refine Eq.trans ?_ (plain1_apply m c ⟨t.val / 16, by omega⟩ ⟨t.val % 16 * 512 + (y 0).val, by omega⟩ _ _ (by dsimp only; omega)).symm
  exact point_mod m c t _ _ _ rfl rfl _

theorem flushed_11 (c : Dev nD) (t : Fin cfg0.N) : (dats m 0 c).flushed 11 t = ((cfg0.win 11).blk t).view.read (Elt Ideal) (plain2 m c) := by
  rw [Cert.Kernel4Ideal.Value.flushed11_A, out_11]
  have ht : t.val < 64 := t.isLt
  funext y
  have hy0 : (y 0).val < 1 := (y 0).isLt
  have hy1 : (y 1).val < 16 := (y 1).isLt
  have hy2 : (y 2).val < 512 := (y 2).isLt
  rw [View.read_apply]
  have e : ((cfg0.win 11).blk t).view.emb y = (ix3 ⟨t.val / 16, by omega⟩ ⟨(y 1).val, hy1⟩ ⟨t.val % 16 * 512 + (y 2).val, by omega⟩ : S4x16x8192.Idx) :=
    funext fun a => Fin.ext (by
      match a with
      | ⟨0, _⟩ => exact place (congrFun (index_11 t) 0) (show t.val / 16 * 1 + (y 0).val = t.val / 16 by omega)
      | ⟨1, _⟩ => exact place (congrFun (index_11 t) 1) (all _ _)
      | ⟨2, _⟩ => exact place (congrFun (index_11 t) 2) rfl)
  refine Eq.trans ?_ (congrArg (plain2 m c) e).symm
  have ey : ((cfg0.win 11).xinj (grid0.coords t) y : S1x16x512.Idx) = ix3 0 ⟨(y 1).val, hy1⟩ ⟨(y 2).val, hy2⟩ := by
    funext a
    apply Fin.ext
    match a with
    | ⟨0, _⟩ => exact Nat.lt_one_iff.mp hy0
    | ⟨1, _⟩ => rfl
    | ⟨2, _⟩ => rfl
  show k0_pay3 _ _ _ _ _ _ _ ((cfg0.win 11).xinj (grid0.coords t) y : S1x16x512.Idx) = _
  rw [ey, point_chosen m c t ⟨t.val / 16, by omega⟩ ⟨(y 2).val, hy2⟩ ⟨t.val % 16 * 512 + (y 2).val, by omega⟩ rfl rfl, plain2_apply]

/-! The blocks fill the results. -/

theorem covered_9 (i : S4x8192x1024.Idx) : ∃ t : Fin cfg0.N, (cfg0.win 9).flush t = true ∧ i ∈ ((cfg0.win 9).blk t).view.set := by
  have h0 : (i 0).val < 4 := (i 0).isLt
  have h1 : (i 1).val < 8192 := (i 1).isLt
  have h2 : (i 2).val < 1024 := (i 2).isLt
  have hlt : (i 0).val * 16 + (i 1).val / 512 < 64 := by omega
  refine ⟨⟨(i 0).val * 16 + (i 1).val / 512, hlt⟩, flush0_9 _, ?_⟩
  generalize ht : (⟨(i 0).val * 16 + (i 1).val / 512, hlt⟩ : Fin cfg0.N) = t
  have tv : t.val = (i 0).val * 16 + (i 1).val / 512 := by rw [← ht]
  show i ∈ ((View.whole main_v4_0).slice (win0_9.rect t)).set
  rw [View.set_slice_whole, Rect.mem_set_unit]
  have e0 : win0_9.index t (0 : Fin 3) = t.val / 16 := congrFun (index_9 t) 0
  have e1 : win0_9.index t (1 : Fin 3) = t.val % 16 := congrFun (index_9 t) 1
  have e2 : win0_9.index t (2 : Fin 3) = 0 := congrFun (index_9 t) 2
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 1024 ≤ (i 2).val ∧ (i 2).val < win0_9.index t (2 : Fin 3) * 1024 + 1024; omega

/-- Where a point's rows lie among all. -/
theorem placed_10 (t : Fin cfg0.N) (r : Fin 512) (d : Fin 1024) (n : Fin 33792) (hn : t.val * 512 + r.val = n.val) :
    ((cfg0.win 10).blk t).view.emb (ix2 r d : S512x1024.Idx) = (ix2 n d : S33792x1024.Idx) :=
  funext fun a => Fin.ext (by
    match a with
    | ⟨0, _⟩ => exact place (congrFun (index_10 t) 0) hn
    | ⟨1, _⟩ => exact place (congrFun (index_10 t) 1) (all _ _))

theorem written_10 (c : Dev nD) (t : Fin cfg0.N) (r : Fin 512) (d : Fin 1024) (n : Fin 33792) (hn : t.val * 512 + r.val = n.val) :
    ((dats m 0 c).arrAt 10 cfg0.N : S33792x1024.Idx → EReal) (ix2 n d) = plain1 m c (ix2 n d) := by
  have h := congrFun ((Cert.Kernel4Ideal.Value.blocks10 m c t (flush0_10 t)).trans (flushed_10 m c t)) (ix2 r d : S512x1024.Idx)
  rw [View.read_apply, View.read_apply, placed_10 t r d n hn] at h
  exact h

theorem uncovered_10 (i : S33792x1024.Idx) (hi : ¬(i 0).val < 32768) (t : Fin cfg0.N) : i ∉ ((cfg0.win 10).blk t).view.set := by
  have ht : t.val < 64 := t.isLt
  show i ∉ ((View.whole main_v4_1).slice (win0_10.rect t)).set
  rw [View.set_slice_whole, Rect.mem_set_unit]
  have e0 : win0_10.index t (0 : Fin 2) = t.val := congrFun (index_10 t) 0
  intro h
  have h0 : win0_10.index t (0 : Fin 2) * 512 ≤ (i 0).val ∧ (i 0).val < win0_10.index t (0 : Fin 2) * 512 + 512 := h 0
  omega

theorem zero_bits_half : Ideal.ofBits .bf16 0x0000#16 = (0 : EReal) := by
  simp [Ideal.ofBits, Ideal.ieee]

/-- The second result before the launch. -/
theorem empty_rows (c : Dev nD) (i : S33792x1024.Idx) : (V m c main_v4_1 : S33792x1024.Idx → EReal) i = (0 : EReal) := by
  show StableHlo.after hostOps0 _ _ _ = _
  after_results_simp
  show Ideal.ofBits .bf16 0x0000#16 = (0 : EReal)
  exact zero_bits_half

theorem covered_11 (i : S4x16x8192.Idx) : ∃ t : Fin cfg0.N, (cfg0.win 11).flush t = true ∧ i ∈ ((cfg0.win 11).blk t).view.set := by
  have h0 : (i 0).val < 4 := (i 0).isLt
  have h1 : (i 1).val < 16 := (i 1).isLt
  have h2 : (i 2).val < 8192 := (i 2).isLt
  have hlt : (i 0).val * 16 + (i 2).val / 512 < 64 := by omega
  refine ⟨⟨(i 0).val * 16 + (i 2).val / 512, hlt⟩, flush0_11 _, ?_⟩
  generalize ht : (⟨(i 0).val * 16 + (i 2).val / 512, hlt⟩ : Fin cfg0.N) = t
  have tv : t.val = (i 0).val * 16 + (i 2).val / 512 := by rw [← ht]
  show i ∈ ((View.whole main_v4_2).slice (win0_11.rect t)).set
  rw [View.set_slice_whole, Rect.mem_set_unit]
  have e0 : win0_11.index t (0 : Fin 3) = t.val / 16 := congrFun (index_11 t) 0
  have e1 : win0_11.index t (1 : Fin 3) = 0 := congrFun (index_11 t) 1
  have e2 : win0_11.index t (2 : Fin 3) = t.val % 16 := congrFun (index_11 t) 2
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 16 ≤ (i 1).val ∧ (i 1).val < win0_11.index t (1 : Fin 3) * 16 + 16; omega
  | ⟨2, _⟩ => show win0_11.index t (2 : Fin 3) * 512 ≤ (i 2).val ∧ (i 2).val < win0_11.index t (2 : Fin 3) * 512 + 512; omega

/-! The launch's results are the plain ones of its arguments. -/

theorem final_9 (c : Dev nD) : (dats m 0 c).arrAt 9 cfg0.N = plain0 m c :=
  (dats m 0 c).arrAt_eq_of_cover 9 (plain0 m c) (fun t _ => flushed_9 m c t) covered_9
theorem final_10 (c : Dev nD) : (dats m 0 c).arrAt 10 cfg0.N = plain1 m c := by
  refine funext fun (i : S33792x1024.Idx) => ?_
  have h1 : (i 1).val < 1024 := (i 1).isLt
  have h0 : (i 0).val < 33792 := (i 0).isLt
  have e : i = ix2 ⟨(i 0).val, h0⟩ ⟨(i 1).val, h1⟩ := funext fun a => by match a with | ⟨0, _⟩ => rfl | ⟨1, _⟩ => rfl
  by_cases hi : (i 0).val < 32768
  · have w := written_10 m c ⟨(i 0).val / 512, by show _ < 64; omega⟩ ⟨(i 0).val % 512, by omega⟩ ⟨(i 1).val, h1⟩ ⟨(i 0).val, h0⟩ (by dsimp only; omega)
    rw [← e] at w
    exact w
  · have z := plain1_rest m c ⟨(i 0).val, h0⟩ ⟨(i 1).val, h1⟩ hi
    rw [← e] at z
    exact ((Cert.Kernel4Ideal.Value.entry10 m c i fun t _ => uncovered_10 i hi t).trans (empty_rows m c i)).trans z.symm
theorem final_11 (c : Dev nD) : (dats m 0 c).arrAt 11 cfg0.N = plain2 m c :=
  (dats m 0 c).arrAt_eq_of_cover 11 (plain2 m c) (fun t _ => flushed_11 m c t) covered_11

end Cert.Kernel4Ideal.Out

namespace Cert.Proof

open Cert.Kernel4Ideal Cert.Kernel4Ideal.Gen Idealize.ShloMosaic Idealize.ShloMosaic.TcCoe Idealize.SL.Sem

/-- The gated output projection's kernel and the plain projection compute the same three arrays. -/
theorem algebraic_gated : Cert.algebraic_Kernel4Ideal_Reference4Ideal := by
  unfold Cert.algebraic_Kernel4Ideal_Reference4Ideal
  intro m g m' g' _ hagree
  refine ⟨fun c => Cert.Kernel4Ideal.Out.plain0 m c, fun c => Cert.Kernel4Ideal.Out.plain1 m c, fun c => Cert.Kernel4Ideal.Out.plain2 m c,
    (θ_run Cert.Kernel4Ideal.defs _ _).mono (fun r h c => ⟨(h c).1.trans (Cert.Kernel4Ideal.Out.final_9 m c),
      (h c).2.1.trans (Cert.Kernel4Ideal.Out.final_10 m c), (h c).2.2.1.trans (Cert.Kernel4Ideal.Out.final_11 m c), (h c).2.2.2⟩)
      (Cert.Kernel4Ideal.Value.run_blocks m g),
    (θ_run Cert.Reference4Ideal.defs _ _).mono (fun r h c => ⟨(h c).1.trans ?_, (h c).2.1.trans ?_, (h c).2.2.1.trans ?_, (h c).2.2.2⟩)
      (Cert.Reference4Ideal.Value.run (F := Ideal) m' g')⟩
  all_goals obtain ⟨h0, h1, h2, h3, h4, h5, h6, h7, h8⟩ := hagree c
  · refine (Cert.Reference4Ideal.Read.val_main_v4_eq (F := Ideal) _ _ _ _ _).trans ?_
    rw [h0, h1, h2, h3, h4]
    rfl
  · refine (Cert.Reference4Ideal.Read.val_main_v39_eq (F := Ideal) _ _ _ _ _ _ _ _).trans ?_
    rw [h0, h1, h2, h3, h4, h5, h6, h7]
    rfl
  · refine (Cert.Reference4Ideal.Read.val_main_v40_eq (F := Ideal) m' c).trans ?_
    rw [h0, h1, h2, h3, h4, h5, h6, h7, h8]
    rfl

end Cert.Proof

end
-- ==== Proof.Out3Block.lean ====
/-
  One block of the output projection at an index: the rows with the residual, the modulated rows, and their experts' softmax.
-/
module

public import proofs.«01_k».proof.Proof.Gen.Kernel3Ideal.Frame
public import proofs.«01_k».proof.Proof.RowMath

@[expose] public section

set_option maxRecDepth 16384

noncomputable section

namespace Cert.Kernel3Ideal.Out

open Cert.Kernel3Ideal Cert.Kernel3Ideal.Gen Cert.Row Idealize.ShloMosaic

theorem mixed_apply (o : Vec Ideal S1x512x1024 .bf16) (w : Vec Ideal S1024x1024 .bf16) (h : Vec Ideal S1x512x1024 .f32) (g : Vec Ideal S1x1x1024 .f32)
    (r : Fin 512) (d : Fin 1024) :
    k0_pay4 o w h g (ix2 r d) = mixed (h (ix3 0 r d)) (g (ix3 0 0 d)) (fun k => o (ix3 0 r k)) (fun k => w (ix2 k d)) := by
  unfold mixed
  pointwise [k0_pay4]

theorem unit_apply (o : Vec Ideal S1x512x1024 .bf16) (w : Vec Ideal S1024x1024 .bf16) (h : Vec Ideal S1x512x1024 .f32) (g : Vec Ideal S1x1x1024 .f32)
    (r : Fin 512) (d : Fin 1024) :
    k0_pay9 o w h g (ix2 r d) = (fun a b : EReal => a * b) (k0_pay4 o w h g (ix2 r d)) (unitScale fun k => k0_pay4 o w h g (ix2 r k)) := by
  unfold unitScale k0_pay9
  generalize k0_pay4 o w h g = x
  pointwise

theorem modulated_apply (sc sh : Vec Ideal S1x1x1024 .f32) (gn : Vec Ideal S1x1024 .f32) (x : FVec Ideal S512x1024 .f32) (r : Fin 512) (d : Fin 1024) :
    k0_pay1 (k0_pay6 gn) (k0_pay7 sh) (k0_pay8 sc) x (ix2 r d)
      = (fun a b c e : EReal => a * b * (1 + c) + e) (x (ix2 r d)) (gn (ix2 0 d)) (sc (ix3 0 0 d)) (sh (ix3 0 0 d)) := by
  pointwise [k0_pay1, k0_pay6, k0_pay7, k0_pay8]

theorem chosen_apply (v16 v18 v20 : FVec Ideal S1x1024 .f32) (v30 : FVec Ideal S512x1024 .f32) (rw : Vec Ideal S16x1024 .f32) (e : Fin 16) (r : Fin 512) :
    k0_pay3 v16 v18 v20 v30 rw (ix3 0 e r)
      = chosen (fun e => ∑ k : Fin 1024, (fun a b : EReal => a * b) (rw (ix2 e k)) (k0_pay1 v16 v18 v20 v30 (ix2 r k))) e := by
  unfold chosen k0_pay3
  generalize k0_pay1 v16 v18 v20 v30 = x
  pointwise
  simp only [fold_max_eq]

end Cert.Kernel3Ideal.Out

end
-- ==== Proof.Out3Ref.lean ====
/-
  The plain output projection at an index.
-/
module

public import proofs.«01_k».proof.Proof.Gen.Reference3Ideal.Read
public import proofs.«01_k».proof.Proof.RowMath

@[expose] public section

set_option maxRecDepth 16384

noncomputable section

namespace Cert.Reference3Ideal.Out

open Cert.Reference3Ideal Cert.Reference3Ideal.Read Cert.Row Idealize.ShloMosaic

variable (x0 : (⟨S4x8192x1024, .bf16⟩ : BufTy).Contents (Elt Ideal)) (x1 : (⟨S1024x1024, .f32⟩ : BufTy).Contents (Elt Ideal))
  (x2 : (⟨S4x8192x1024, .f32⟩ : BufTy).Contents (Elt Ideal)) (x3 : (⟨S4x1x1024, .f32⟩ : BufTy).Contents (Elt Ideal))
  (x4 : (⟨S1024, .f32⟩ : BufTy).Contents (Elt Ideal)) (x5 x6 : (⟨S4x1x1024, .f32⟩ : BufTy).Contents (Elt Ideal))
  (x7 : (⟨S1024x16, .f32⟩ : BufTy).Contents (Elt Ideal))

theorem mixed_apply (b : Fin 4) (n : Fin 8192) (d : Fin 1024) : val_main_v4 (F := Ideal) x0 x1 x2 x3 (ix3 b n d)
    = mixed (x2 (ix3 b n d)) (x3 (ix3 b 0 d)) (fun k => x0 (ix3 b n k)) (fun k => x1 (ix2 k d)) := by
  unfold mixed
  pointwise [val_main_v4, val_main_v3, val_main_v2, val_main_v1, val_main_v0]

theorem square_apply (b : Fin 4) (n : Fin 8192) : val_main_v6 (F := Ideal) x0 x1 x2 x3 (ix2 b n)
    = ∑ k : Fin 1024, (fun a : EReal => a * a) (val_main_v4 (F := Ideal) x0 x1 x2 x3 (ix3 b n k)) := by
  unfold val_main_v6 val_main_v5
  generalize val_main_v4 (F := Ideal) x0 x1 x2 x3 = y
  pointwise
  have e : val_main_cst (F := Ideal) (Shape.Idx.first Gen.h_S_) = (0 : EReal) := zero_bits
  rw [e, zero_add]

theorem modulated_apply (b : Fin 4) (n : Fin 8192) (d : Fin 1024) : val_main_v23 (F := Ideal) x0 x1 x2 x3 x4 x5 x6 (ix3 b n d)
    = modulated (fun k => val_main_v4 (F := Ideal) x0 x1 x2 x3 (ix3 b n k)) (fun k => x4 (ix1 k)) (fun k => x6 (ix3 b 0 k)) (fun k => x5 (ix3 b 0 k)) d := by
  unfold modulated unitScale
  pointwise [val_main_v23, val_main_v22, val_main_v21, val_main_v20, val_main_v19, val_main_v18, val_main_v17, val_main_v16, val_main_v15, val_main_v14,
    val_main_v13, val_main_v12, val_main_v11, val_main_v10, val_main_v9, val_main_v8, val_main_v7]
  rw [square_apply]
  have e : val_main_cst_2 (F := Ideal) ix0 = (1 : EReal) := one_bits
  rw [e]
  rfl

/-- An expert's score of a row. -/
def score (b : Fin 4) (n : Fin 8192) (e : Fin 16) : EReal := val_main_v24 (F := Ideal) x0 x1 x2 x3 x4 x5 x6 x7 (ix3 b n e)

theorem score_apply (b : Fin 4) (n : Fin 8192) (e : Fin 16) : score x0 x1 x2 x3 x4 x5 x6 x7 b n e
    = ∑ k : Fin 1024, (fun a b : EReal => a * b) (val_main_v23 (F := Ideal) x0 x1 x2 x3 x4 x5 x6 (ix3 b n k)) (x7 (ix2 k e)) := by
  unfold score val_main_v24
  generalize val_main_v23 (F := Ideal) x0 x1 x2 x3 x4 x5 x6 = y
  pointwise

theorem top_single (b : Fin 4) (n : Fin 8192) : val_main_v25 (F := Ideal) x0 x1 x2 x3 x4 x5 x6 x7 (ix2 b n)
    = Finset.univ.fold max (Ideal.ofBits .f32 0xFF800000#32) (score x0 x1 x2 x3 x4 x5 x6 x7 b n) := by
  unfold val_main_v25 score
  generalize val_main_v24 (F := Ideal) x0 x1 x2 x3 x4 x5 x6 x7 = y0
  rw [Host.reduce_eq_fold_single _ _ _ Gen.reducesTo_S4x8192x16_S4x8192_d2 (by decide)]
  refine congrArg (fun f => Finset.univ.fold max (Ideal.ofBits .f32 0xFF800000#32) f) (funext fun k => ?_)
  exact congrArg y0 (funext fun a => Fin.ext (by match a with | ⟨0, _⟩ => rfl | ⟨1, _⟩ => rfl | ⟨2, _⟩ => rfl))

theorem top_max (y0 : (⟨S4x8192, .f32⟩ : BufTy).Contents (Elt Ideal)) (i : S4x8192.Idx) :
    maximumf (F := Ideal) (s := S4x8192) (φ := .f32) (val_main_v26 (F := Ideal)) y0 i = (fun a b : EReal => max a b) ⊥ (y0 i) := by
  show (fun a b : EReal => max a b) (Ideal.ofBits .f32 0xFF800000#32) (y0 i) = _
  rw [low_eq]

/-- The largest of a row's scores. -/
theorem top_apply (b : Fin 4) (n : Fin 8192) : val_main_v27 (F := Ideal) x0 x1 x2 x3 x4 x5 x6 x7 (ix2 b n)
    = Finset.univ.sup (score x0 x1 x2 x3 x4 x5 x6 x7 b n) := by
  unfold val_main_v27
  rw [top_max, top_single, fold_max_eq]
  exact max_eq_right bot_le

/-- The exponential of a score below the largest. -/
theorem exp_apply (b : Fin 4) (n : Fin 8192) (e : Fin 16) : val_main_v31 (F := Ideal) x0 x1 x2 x3 x4 x5 x6 x7 (ix3 b n e)
    = Ideal.exp (score x0 x1 x2 x3 x4 x5 x6 x7 b n e - Finset.univ.sup (score x0 x1 x2 x3 x4 x5 x6 x7 b n)) := by
  pointwise [val_main_v31, val_main_v30, val_main_v29, val_main_v28]
  rw [top_apply]
  rfl

theorem total_apply (b : Fin 4) (n : Fin 8192) : val_main_v32 (F := Ideal) x0 x1 x2 x3 x4 x5 x6 x7 (ix2 b n)
    = ∑ k : Fin 16, (fun a : EReal => a) (val_main_v31 (F := Ideal) x0 x1 x2 x3 x4 x5 x6 x7 (ix3 b n k)) := by
  unfold val_main_v32
  generalize val_main_v31 (F := Ideal) x0 x1 x2 x3 x4 x5 x6 x7 = y
  pointwise
  have e : val_main_cst_5 (F := Ideal) (Shape.Idx.first Gen.h_S_) = (0 : EReal) := zero_bits
  rw [e, zero_add]

/-- The softmax of a row's scores, the experts before the rows. -/
theorem chosen_apply (b : Fin 4) (n : Fin 8192) (e : Fin 16) : val_main_v38 (F := Ideal) x0 x1 x2 x3 x4 x5 x6 x7 (ix3 b e n)
    = chosen (score x0 x1 x2 x3 x4 x5 x6 x7 b n) e := by
  unfold chosen
  pointwise [val_main_v38, val_main_v35, val_main_v34, val_main_v33]
  simp only [total_apply, exp_apply]

/-- The rows of all batches one under another. -/
theorem rows_apply (b : Fin 4) (n : Fin 8192) (d : Fin 1024) (r : Fin 32768) (hr : r.val = b.val * 8192 + n.val) :
    val_main_v37 (F := Ideal) x0 x1 x2 x3 x4 x5 x6 (ix2 r d) = val_main_v23 (F := Ideal) x0 x1 x2 x3 x4 x5 x6 (ix3 b n d) := by
  unfold val_main_v37 val_main_v36
  generalize val_main_v23 (F := Ideal) x0 x1 x2 x3 x4 x5 x6 = y
  show shapeCast (α := EReal) S32768x1024 y _ (ix2 r d) = _
  refine shapeCast_apply _ _ _ _ ?_
  rw [Shape.rowMajor_val_two, Shape.rowMajor_val_three]
  show (b.val * 8192 + n.val) * 1024 + d.val = r.val * 1024 + d.val
  rw [hr]

end Cert.Reference3Ideal.Out

end
-- ==== Proof.Out3Value.lean ====
/-
  The output projection's value claim. The kernel goes over blocks of 512 rows, the plain reference over all rows at once;
  both compute each row by itself.
-/
module

public import proofs.«01_k».proof.Defs
public import proofs.«01_k».proof.Proof.Out3Block
public import proofs.«01_k».proof.Proof.Out3Ref
public import proofs.«01_k».proof.Proof.Gen.Kernel3Ideal.Value
public import proofs.«01_k».proof.Proof.Gen.Reference3Ideal.Run

@[expose] public section

set_option maxRecDepth 16384

noncomputable section

namespace Cert.Kernel3Ideal.Out

open Cert.Kernel3Ideal Cert.Kernel3Ideal.Gen Cert.Row Idealize.ShloMosaic Idealize.ShloMosaic.TcCoe Idealize.SL.Sem

theorem index_0 : ∀ t : Fin cfg0.N, win0_0.index t = ![t.val / 16, t.val % 16, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val / 16, t.val % 16, 0] := (by decide +kernel : ∀ t : Fin grid0.N, _)
theorem index_3 : ∀ t : Fin cfg0.N, win0_3.index t = ![t.val / 16, 0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![t.val / 16, 0, 0] := (by decide +kernel : ∀ t : Fin grid0.N, _)
theorem index_6 : ∀ t : Fin cfg0.N, win0_6.index t = ![t.val / 16, 0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![t.val / 16, t.val % 16, 0] := (by decide +kernel : ∀ t : Fin grid0.N, _)
theorem index_9 : ∀ t : Fin cfg0.N, win0_9.index t = ![t.val, 0] := (by decide +kernel : ∀ t : Fin grid0.N, _)
theorem index_10 : ∀ t : Fin cfg0.N, win0_10.index t = ![t.val / 16, 0, t.val % 16] := (by decide +kernel : ∀ t : Fin grid0.N, _)

theorem read_0 (t : Fin cfg0.N) (A : S4x8192x1024.Idx → EReal) (b : Fin 4) (r : Fin 512) (n : Fin 8192) (d : Fin 1024)
    (hb : t.val / 16 = b.val) (hn : t.val % 16 * 512 + r.val = n.val) :
    ((cfg0.win 0).blk t).view.read (Elt Ideal) A (ix3 0 r d) = A (ix3 b n d) := by
  rw [View.read_apply]
  refine congrArg A (funext fun a => Fin.ext ?_)
  match a with
  | ⟨0, _⟩ => exact place (congrFun (index_0 t) 0) (first hb)
  | ⟨1, _⟩ => exact place (congrFun (index_0 t) 1) hn
  | ⟨2, _⟩ => exact place (congrFun (index_0 t) 2) (all _ _)

theorem read_2 (t : Fin cfg0.N) (A : S4x8192x1024.Idx → EReal) (b : Fin 4) (r : Fin 512) (n : Fin 8192) (d : Fin 1024)
    (hb : t.val / 16 = b.val) (hn : t.val % 16 * 512 + r.val = n.val) :
    ((cfg0.win 2).blk t).view.read (Elt Ideal) A (ix3 0 r d) = A (ix3 b n d) := by
  rw [View.read_apply]
  refine congrArg A (funext fun a => Fin.ext ?_)
  match a with
  | ⟨0, _⟩ => exact place (congrFun (index_2 t) 0) (first hb)
  | ⟨1, _⟩ => exact place (congrFun (index_2 t) 1) hn
  | ⟨2, _⟩ => exact place (congrFun (index_2 t) 2) (all _ _)

theorem read_1 (t : Fin cfg0.N) (A : S1024x1024.Idx → EReal) (k d : Fin 1024) :
    ((cfg0.win 1).blk t).view.read (Elt Ideal) A (ix2 k d) = A (ix2 k d) := by
  rw [View.read_apply]
  refine congrArg A (funext fun a => Fin.ext ?_)
  match a with
  | ⟨0, _⟩ => exact place (congrFun (index_1 t) 0) (all _ _)
  | ⟨1, _⟩ => exact place (congrFun (index_1 t) 1) (all _ _)

theorem read_3 (t : Fin cfg0.N) (A : S4x1x1024.Idx → EReal) (b : Fin 4) (d : Fin 1024)
    (hb : t.val / 16 = b.val) :
    ((cfg0.win 3).blk t).view.read (Elt Ideal) A (ix3 0 0 d) = A (ix3 b 0 d) := by
  rw [View.read_apply]
  refine congrArg A (funext fun a => Fin.ext ?_)
  match a with
  | ⟨0, _⟩ => exact place (congrFun (index_3 t) 0) (first hb)
  | ⟨1, _⟩ => exact place (congrFun (index_3 t) 1) rfl
  | ⟨2, _⟩ => exact place (congrFun (index_3 t) 2) (all _ _)

theorem read_5 (t : Fin cfg0.N) (A : S4x1x1024.Idx → EReal) (b : Fin 4) (d : Fin 1024)
    (hb : t.val / 16 = b.val) :
    ((cfg0.win 5).blk t).view.read (Elt Ideal) A (ix3 0 0 d) = A (ix3 b 0 d) := by
  rw [View.read_apply]
  refine congrArg A (funext fun a => Fin.ext ?_)
  match a with
  | ⟨0, _⟩ => exact place (congrFun (index_5 t) 0) (first hb)
  | ⟨1, _⟩ => exact place (congrFun (index_5 t) 1) rfl
  | ⟨2, _⟩ => exact place (congrFun (index_5 t) 2) (all _ _)

theorem read_6 (t : Fin cfg0.N) (A : S4x1x1024.Idx → EReal) (b : Fin 4) (d : Fin 1024)
    (hb : t.val / 16 = b.val) :
    ((cfg0.win 6).blk t).view.read (Elt Ideal) A (ix3 0 0 d) = A (ix3 b 0 d) := by
  rw [View.read_apply]
  refine congrArg A (funext fun a => Fin.ext ?_)
  match a with
  | ⟨0, _⟩ => exact place (congrFun (index_6 t) 0) (first hb)
  | ⟨1, _⟩ => exact place (congrFun (index_6 t) 1) rfl
  | ⟨2, _⟩ => exact place (congrFun (index_6 t) 2) (all _ _)

theorem read_4 (t : Fin cfg0.N) (A : S1x1024.Idx → EReal) (d : Fin 1024) :
    ((cfg0.win 4).blk t).view.read (Elt Ideal) A (ix2 0 d) = A (ix2 0 d) := by
  rw [View.read_apply]
  refine congrArg A (funext fun a => Fin.ext ?_)
  match a with
  | ⟨0, _⟩ => exact place (congrFun (index_4 t) 0) rfl
  | ⟨1, _⟩ => exact place (congrFun (index_4 t) 1) (all _ _)

theorem read_7 (t : Fin cfg0.N) (A : S16x1024.Idx → EReal) (e : Fin 16) (d : Fin 1024) :
    ((cfg0.win 7).blk t).view.read (Elt Ideal) A (ix2 e d) = A (ix2 e d) := by
  rw [View.read_apply]
  refine congrArg A (funext fun a => Fin.ext ?_)
  match a with
  | ⟨0, _⟩ => exact place (congrFun (index_7 t) 0) (all _ _)
  | ⟨1, _⟩ => exact place (congrFun (index_7 t) 1) (all _ _)

/-! The arrays the launch reads. -/

variable (m : (ℓ : Loc nD τ sig) → Buf (Elt Ideal) ℓ)

/-- The mixer's rows. -/
def heads (c : Dev nD) : S4x8192x1024.Idx → EReal := m ((c : Thread nD τ).loc main_arg0)
/-- The projection's weight. -/
def weight (c : Dev nD) : S1024x1024.Idx → EReal := m ((c : Thread nD τ).loc main_arg1)
/-- The residual. -/
def resid (c : Dev nD) : S4x8192x1024.Idx → EReal := m ((c : Thread nD τ).loc main_arg2)
/-- The gates of the mixer's result. -/
def gates (c : Dev nD) : S4x1x1024.Idx → EReal := m ((c : Thread nD τ).loc main_arg3)
/-- The norm's weight. -/
def norm (c : Dev nD) : S1024.Idx → EReal := m ((c : Thread nD τ).loc main_arg4)
/-- The shifts. -/
def shift (c : Dev nD) : S4x1x1024.Idx → EReal := m ((c : Thread nD τ).loc main_arg5)
/-- The scales. -/
def scales (c : Dev nD) : S4x1x1024.Idx → EReal := m ((c : Thread nD τ).loc main_arg6)
/-- The experts' weights. -/
def router (c : Dev nD) : S1024x16.Idx → EReal := m ((c : Thread nD τ).loc main_arg7)

theorem block_0 (c : Dev nD) (t : Fin cfg0.N) : iblk m c 0 t = ((cfg0.win 0).blk t).view.read (Elt Ideal) (heads m c) := by
  unfold heads; rw [← V_main_arg0 m c]; rfl
theorem block_1 (c : Dev nD) (t : Fin cfg0.N) : iblk m c 1 t = ((cfg0.win 1).blk t).view.read (Elt Ideal) (V m c main_v0 : S1024x1024.Idx → EReal) := rfl
theorem block_2 (c : Dev nD) (t : Fin cfg0.N) : iblk m c 2 t = ((cfg0.win 2).blk t).view.read (Elt Ideal) (resid m c) := by
  unfold resid; rw [← V_main_arg2 m c]; rfl
theorem block_3 (c : Dev nD) (t : Fin cfg0.N) : iblk m c 3 t = ((cfg0.win 3).blk t).view.read (Elt Ideal) (gates m c) := by
  unfold gates; rw [← V_main_arg3 m c]; rfl
theorem block_4 (c : Dev nD) (t : Fin cfg0.N) : iblk m c 4 t = ((cfg0.win 4).blk t).view.read (Elt Ideal) (V m c main_v2 : S1x1024.Idx → EReal) := rfl
theorem block_5 (c : Dev nD) (t : Fin cfg0.N) : iblk m c 5 t = ((cfg0.win 5).blk t).view.read (Elt Ideal) (shift m c) := by
  unfold shift; rw [← V_main_arg5 m c]; rfl
theorem block_6 (c : Dev nD) (t : Fin cfg0.N) : iblk m c 6 t = ((cfg0.win 6).blk t).view.read (Elt Ideal) (scales m c) := by
  unfold scales; rw [← V_main_arg6 m c]; rfl
theorem block_7 (c : Dev nD) (t : Fin cfg0.N) : iblk m c 7 t = ((cfg0.win 7).blk t).view.read (Elt Ideal) (V m c main_v1 : S16x1024.Idx → EReal) := rfl

theorem host_weight (c : Dev nD) (k d : Fin 1024) : (V m c main_v0 : S1024x1024.Idx → EReal) (ix2 k d) = weight m c (ix2 k d) := by
  show StableHlo.after hostOps0 _ _ _ = _
  after_results_simp
  rfl
theorem host_router (c : Dev nD) (e : Fin 16) (d : Fin 1024) : (V m c main_v1 : S16x1024.Idx → EReal) (ix2 e d) = router m c (ix2 d e) := by
  show StableHlo.after hostOps0 _ _ _ = _
  after_results_simp
  unfold router
  pointwise
theorem host_norm (c : Dev nD) (d : Fin 1024) : (V m c main_v2 : S1x1024.Idx → EReal) (ix2 0 d) = norm m c (ix1 d) := by
  show StableHlo.after hostOps0 _ _ _ = _
  after_results_simp
  unfold norm
  pointwise

/-! One point's rows. -/

/-- The residual plus the gated projection of the launch's arguments. -/
def row (c : Dev nD) (b : Fin 4) (n : Fin 8192) (d : Fin 1024) : EReal :=
  mixed (resid m c (ix3 b n d)) (gates m c (ix3 b 0 d)) (fun k => heads m c (ix3 b n k)) (fun k => weight m c (ix2 k d))

/-- The row, modulated. -/
def modRow (c : Dev nD) (b : Fin 4) (n : Fin 8192) (d : Fin 1024) : EReal :=
  modulated (row m c b n) (fun k => norm m c (ix1 k)) (fun k => scales m c (ix3 b 0 k)) (fun k => shift m c (ix3 b 0 k)) d

section
variable (c : Dev nD) (t : Fin cfg0.N) (b : Fin 4) (r : Fin 512) (n : Fin 8192) (hb : t.val / 16 = b.val) (hn : t.val % 16 * 512 + r.val = n.val)

include hb hn in
theorem point_row (d : Fin 1024) : k0_pay4 (iblk m c 0 t) (iblk m c 1 t) (iblk m c 2 t) (iblk m c 3 t) (ix2 r d) = row m c b n d := by
  rw [mixed_apply, block_0, block_1, block_2, block_3]
  unfold row
  have e2 := read_2 t (resid m c) b r n d hb hn
  have e3 := read_3 t (gates m c) b d hb
  have e0 : (fun k => ((cfg0.win 0).blk t).view.read (Elt Ideal) (heads m c) (ix3 0 r k)) = fun k => heads m c (ix3 b n k) :=
    funext fun k => read_0 t (heads m c) b r n k hb hn
  have e1 : (fun k => ((cfg0.win 1).blk t).view.read (Elt Ideal) (V m c main_v0 : S1024x1024.Idx → EReal) (ix2 k d)) = fun k => weight m c (ix2 k d) :=
    funext fun k => (read_1 t _ k d).trans (host_weight m c k d)
  exact congr (congr (congr (congrArg mixed e2) e3) e0) e1

include hb hn in
theorem point_mod (d : Fin 1024) : k0_pay1 (k0_pay6 (iblk m c 4 t)) (k0_pay7 (iblk m c 5 t)) (k0_pay8 (iblk m c 6 t))
      (k0_pay9 (iblk m c 0 t) (iblk m c 1 t) (iblk m c 2 t) (iblk m c 3 t)) (ix2 r d) = modRow m c b n d := by
  rw [modulated_apply, unit_apply, block_4, block_5, block_6]
  have er : (fun k => k0_pay4 (iblk m c 0 t) (iblk m c 1 t) (iblk m c 2 t) (iblk m c 3 t) (ix2 r k)) = row m c b n :=
    funext fun k => point_row m c t b r n hb hn k
  rw [er, point_row m c t b r n hb hn d]
  have e4 := (read_4 t (V m c main_v2 : S1x1024.Idx → EReal) d).trans (host_norm m c d)
  have e5 := read_5 t (shift m c) b d hb
  have e6 := read_6 t (scales m c) b d hb
  unfold modRow modulated
  exact mod_congr e4 e6 e5

include hb hn in
theorem point_chosen (e : Fin 16) : k0_pay3 (k0_pay6 (iblk m c 4 t)) (k0_pay7 (iblk m c 5 t)) (k0_pay8 (iblk m c 6 t))
      (k0_pay9 (iblk m c 0 t) (iblk m c 1 t) (iblk m c 2 t) (iblk m c 3 t)) (iblk m c 7 t) (ix3 0 e r)
    = chosen (fun e => ∑ k : Fin 1024, modRow m c b n k * router m c (ix2 k e)) e := by
  rw [chosen_apply]
  refine congrArg (fun l => chosen l e) (funext fun e => Finset.sum_congr rfl fun k _ => ?_)
  rw [point_mod m c t b r n hb hn k, block_7]
  have e7 := (read_7 t (V m c main_v1 : S16x1024.Idx → EReal) e k).trans (host_router m c e k)
  refine (congrArg (fun u : EReal => u * modRow m c b n k) e7).trans ?_
  exact mul_comm _ _
end

/-! The reference's three results. -/

def plain0 (c : Dev nD) : S4x8192x1024.Idx → EReal :=
  Cert.Reference3Ideal.Read.val_main_v4 (F := Ideal) (heads m c) (weight m c) (resid m c) (gates m c)
def plain1 (c : Dev nD) : S32768x1024.Idx → EReal :=
  Cert.Reference3Ideal.Read.val_main_v37 (F := Ideal) (heads m c) (weight m c) (resid m c) (gates m c) (norm m c) (shift m c) (scales m c)
def plain2 (c : Dev nD) : S4x16x8192.Idx → EReal :=
  Cert.Reference3Ideal.Read.val_main_v38 (F := Ideal) (heads m c) (weight m c) (resid m c) (gates m c) (norm m c) (shift m c) (scales m c) (router m c)

theorem plain0_apply (c : Dev nD) (b : Fin 4) (n : Fin 8192) (d : Fin 1024) : plain0 m c (ix3 b n d) = row m c b n d :=
  Cert.Reference3Ideal.Out.mixed_apply _ _ _ _ b n d

theorem mod_eq (c : Dev nD) (b : Fin 4) (n : Fin 8192) (d : Fin 1024) :
    Cert.Reference3Ideal.Read.val_main_v23 (F := Ideal) (heads m c) (weight m c) (resid m c) (gates m c) (norm m c) (shift m c) (scales m c) (ix3 b n d)
      = modRow m c b n d := by
  rw [Cert.Reference3Ideal.Out.modulated_apply]
  unfold modRow
  have er : (fun k => Cert.Reference3Ideal.Read.val_main_v4 (F := Ideal) (heads m c) (weight m c) (resid m c) (gates m c) (ix3 b n k)) = row m c b n :=
    funext fun k => plain0_apply m c b n k
  rw [er]

theorem plain1_apply (c : Dev nD) (b : Fin 4) (n : Fin 8192) (d : Fin 1024) (r : Fin 32768) (hr : r.val = b.val * 8192 + n.val) :
    plain1 m c (ix2 r d) = modRow m c b n d :=
  (Cert.Reference3Ideal.Out.rows_apply _ _ _ _ _ _ _ b n d r hr).trans (mod_eq m c b n d)

theorem plain2_apply (c : Dev nD) (b : Fin 4) (n : Fin 8192) (e : Fin 16) :
    plain2 m c (ix3 b e n) = chosen (fun e => ∑ k : Fin 1024, modRow m c b n k * router m c (ix2 k e)) e := by
  refine (Cert.Reference3Ideal.Out.chosen_apply _ _ _ _ _ _ _ _ b n e).trans ?_
  refine congrArg (fun l => chosen l e) (funext fun e => ?_)
  rw [Cert.Reference3Ideal.Out.score_apply]
  refine Finset.sum_congr rfl fun k _ => ?_
  rw [mod_eq]

/-! What each point writes. -/

theorem hz2 : (![0, 0] : Fin 2 → ℕ) = fun _ => 0 := by funext a; match a with | ⟨0, _⟩ => rfl | ⟨1, _⟩ => rfl
theorem hz3 : (![0, 0, 0] : Fin 3 → ℕ) = fun _ => 0 := by funext a; match a with | ⟨0, _⟩ => rfl | ⟨1, _⟩ => rfl | ⟨2, _⟩ => rfl

section
variable (x0 : Vec Ideal S1x512x1024 .bf16) (x1 : Vec Ideal S1024x1024 .bf16) (x2 : Vec Ideal S1x512x1024 .f32) (x3 : Vec Ideal S1x1x1024 .f32)
  (x4 : Vec Ideal S1x1024 .f32) (x5 x6 : Vec Ideal S1x1x1024 .f32) (x7 : Vec Ideal S16x1024 .f32)

theorem out_8 : out0_8 x0 x1 x2 x3 x4 x5 x6 x7 = k0_pay5 x0 x1 x2 x3 := by
  unfold out0_8
  rw [View.canon_unit_zero hz3]
  simp only [View.ld_unit_zero (S := S1x512x1024) hz3, View.ld_unit_zero (S := S1x1x1024) hz3, View.ld_unit_zero (S := S1024x1024) hz2]

theorem out_9 : out0_9 x0 x1 x2 x3 x4 x5 x6 x7 = k0_pay2 (k0_pay6 x4) (k0_pay7 x5) (k0_pay8 x6) (k0_pay9 x0 x1 x2 x3) := by
  unfold out0_9 k0_pay10 k0_pay11 k0_pay12 k0_pay13
  rw [View.canon_unit_zero hz2]
  simp only [View.ld_unit_zero (S := S1x512x1024) hz3, View.ld_unit_zero (S := S1x1x1024) hz3, View.ld_unit_zero (S := S1024x1024) hz2,
    View.ld_unit_zero (S := S1x1024) hz2]

theorem out_10 : out0_10 x0 x1 x2 x3 x4 x5 x6 x7 = k0_pay3 (k0_pay6 x4) (k0_pay7 x5) (k0_pay8 x6) (k0_pay9 x0 x1 x2 x3) x7 := by
  unfold out0_10 k0_pay10 k0_pay11 k0_pay12 k0_pay13
  rw [View.canon_unit_zero hz3]
  simp only [View.ld_unit_zero (S := S1x512x1024) hz3, View.ld_unit_zero (S := S1x1x1024) hz3, View.ld_unit_zero (S := S1024x1024) hz2,
    View.ld_unit_zero (S := S1x1024) hz2, View.ld_unit_zero (S := S16x1024) hz2]

theorem pay5_apply (r : Fin 512) (d : Fin 1024) : k0_pay5 x0 x1 x2 x3 (ix3 0 r d) = k0_pay4 x0 x1 x2 x3 (ix2 r d) := by
  unfold k0_pay5
  generalize k0_pay4 x0 x1 x2 x3 = y
  pointwise
end

theorem flushed_8 (c : Dev nD) (t : Fin cfg0.N) : (dats m 0 c).flushed 8 t = ((cfg0.win 8).blk t).view.read (Elt Ideal) (plain0 m c) := by
  rw [Cert.Kernel3Ideal.Value.flushed8]
  have ht : t.val < 64 := t.isLt
  funext y
  have hy0 : (y 0).val < 1 := (y 0).isLt
  have hy1 : (y 1).val < 512 := (y 1).isLt
  have hy2 : (y 2).val < 1024 := (y 2).isLt
  rw [View.read_apply]
  have e : ((cfg0.win 8).blk t).view.emb y = (ix3 ⟨t.val / 16, by omega⟩ ⟨t.val % 16 * 512 + (y 1).val, by omega⟩ ⟨(y 2).val, hy2⟩ : S4x8192x1024.Idx) :=
    funext fun a => Fin.ext (by
      match a with
      | ⟨0, _⟩ => exact place (congrFun (index_8 t) 0) (show t.val / 16 * 1 + (y 0).val = t.val / 16 by omega)
      | ⟨1, _⟩ => exact place (congrFun (index_8 t) 1) rfl
      | ⟨2, _⟩ => exact place (congrFun (index_8 t) 2) (all _ _))
  refine Eq.trans ?_ (congrArg (plain0 m c) e).symm
  have ey : ((cfg0.win 8).xinj (grid0.coords t) y : S1x512x1024.Idx) = ix3 0 ⟨(y 1).val, hy1⟩ ⟨(y 2).val, hy2⟩ := by
    funext a
    apply Fin.ext
    match a with
    | ⟨0, _⟩ => exact Nat.lt_one_iff.mp hy0
    | ⟨1, _⟩ => rfl
    | ⟨2, _⟩ => rfl
  show out0_8 _ _ _ _ _ _ _ _ ((cfg0.win 8).xinj (grid0.coords t) y : S1x512x1024.Idx) = _
  rw [ey, out_8, pay5_apply, point_row m c t ⟨t.val / 16, by omega⟩ ⟨(y 1).val, hy1⟩ ⟨t.val % 16 * 512 + (y 1).val, by omega⟩ rfl rfl, plain0_apply]

theorem flushed_9 (c : Dev nD) (t : Fin cfg0.N) : (dats m 0 c).flushed 9 t = ((cfg0.win 9).blk t).view.read (Elt Ideal) (plain1 m c) := by
  rw [Cert.Kernel3Ideal.Value.flushed9]
  have ht : t.val < 64 := t.isLt
  funext y
  have hy0 : (y 0).val < 512 := (y 0).isLt
  have hy1 : (y 1).val < 1024 := (y 1).isLt
  rw [View.read_apply]
  have e : ((cfg0.win 9).blk t).view.emb y = (ix2 ⟨t.val * 512 + (y 0).val, by omega⟩ ⟨(y 1).val, hy1⟩ : S32768x1024.Idx) :=
    funext fun a => Fin.ext (by
      match a with
      | ⟨0, _⟩ => exact place (congrFun (index_9 t) 0) rfl
      | ⟨1, _⟩ => exact place (congrFun (index_9 t) 1) (all _ _))
  refine Eq.trans ?_ (congrArg (plain1 m c) e).symm
  have ey : ((cfg0.win 9).xinj (grid0.coords t) y : S512x1024.Idx) = ix2 ⟨(y 0).val, hy0⟩ ⟨(y 1).val, hy1⟩ := by
    funext a
    apply Fin.ext
    match a with
    | ⟨0, _⟩ => rfl
    | ⟨1, _⟩ => rfl
  show out0_9 _ _ _ _ _ _ _ _ ((cfg0.win 9).xinj (grid0.coords t) y : S512x1024.Idx) = _
  rw [ey, out_9]
  refine Eq.trans ?_ (plain1_apply m c ⟨t.val / 16, by omega⟩ ⟨t.val % 16 * 512 + (y 0).val, by omega⟩ _ _ (by dsimp only; omega)).symm
  exact point_mod m c t _ _ _ rfl rfl _

theorem flushed_10 (c : Dev nD) (t : Fin cfg0.N) : (dats m 0 c).flushed 10 t = ((cfg0.win 10).blk t).view.read (Elt Ideal) (plain2 m c) := by
  rw [Cert.Kernel3Ideal.Value.flushed10]
  have ht : t.val < 64 := t.isLt
  funext y
  have hy0 : (y 0).val < 1 := (y 0).isLt
  have hy1 : (y 1).val < 16 := (y 1).isLt
  have hy2 : (y 2).val < 512 := (y 2).isLt
  rw [View.read_apply]
  have e : ((cfg0.win 10).blk t).view.emb y = (ix3 ⟨t.val / 16, by omega⟩ ⟨(y 1).val, hy1⟩ ⟨t.val % 16 * 512 + (y 2).val, by omega⟩ : S4x16x8192.Idx) :=
    funext fun a => Fin.ext (by
      match a with
      | ⟨0, _⟩ => exact place (congrFun (index_10 t) 0) (show t.val / 16 * 1 + (y 0).val = t.val / 16 by omega)
      | ⟨1, _⟩ => exact place (congrFun (index_10 t) 1) (all _ _)
      | ⟨2, _⟩ => exact place (congrFun (index_10 t) 2) rfl)
  refine Eq.trans ?_ (congrArg (plain2 m c) e).symm
  have ey : ((cfg0.win 10).xinj (grid0.coords t) y : S1x16x512.Idx) = ix3 0 ⟨(y 1).val, hy1⟩ ⟨(y 2).val, hy2⟩ := by
    funext a
    apply Fin.ext
    match a with
    | ⟨0, _⟩ => exact Nat.lt_one_iff.mp hy0
    | ⟨1, _⟩ => rfl
    | ⟨2, _⟩ => rfl
  show out0_10 _ _ _ _ _ _ _ _ ((cfg0.win 10).xinj (grid0.coords t) y : S1x16x512.Idx) = _
  rw [ey, out_10, point_chosen m c t ⟨t.val / 16, by omega⟩ ⟨(y 2).val, hy2⟩ ⟨t.val % 16 * 512 + (y 2).val, by omega⟩ rfl rfl, plain2_apply]

/-! The blocks fill the results. -/

theorem covered_8 (i : S4x8192x1024.Idx) : ∃ t : Fin cfg0.N, (cfg0.win 8).flush t = true ∧ i ∈ ((cfg0.win 8).blk t).view.set := by
  have h0 : (i 0).val < 4 := (i 0).isLt
  have h1 : (i 1).val < 8192 := (i 1).isLt
  have h2 : (i 2).val < 1024 := (i 2).isLt
  have hlt : (i 0).val * 16 + (i 1).val / 512 < 64 := by omega
  refine ⟨⟨(i 0).val * 16 + (i 1).val / 512, hlt⟩, flush0_8 _, ?_⟩
  generalize ht : (⟨(i 0).val * 16 + (i 1).val / 512, hlt⟩ : Fin cfg0.N) = t
  have tv : t.val = (i 0).val * 16 + (i 1).val / 512 := by rw [← ht]
  show i ∈ ((View.whole main_v3_0).slice (win0_8.rect t)).set
  rw [View.set_slice_whole, Rect.mem_set_unit]
  have e0 : win0_8.index t (0 : Fin 3) = t.val / 16 := congrFun (index_8 t) 0
  have e1 : win0_8.index t (1 : Fin 3) = t.val % 16 := congrFun (index_8 t) 1
  have e2 : win0_8.index t (2 : Fin 3) = 0 := congrFun (index_8 t) 2
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 1024 ≤ (i 2).val ∧ (i 2).val < win0_8.index t (2 : Fin 3) * 1024 + 1024; omega

theorem covered_9 (i : S32768x1024.Idx) : ∃ t : Fin cfg0.N, (cfg0.win 9).flush t = true ∧ i ∈ ((cfg0.win 9).blk t).view.set := by
  have h0 : (i 0).val < 32768 := (i 0).isLt
  have h1 : (i 1).val < 1024 := (i 1).isLt
  have hlt : (i 0).val / 512 < 64 := by omega
  refine ⟨⟨(i 0).val / 512, hlt⟩, flush0_9 _, ?_⟩
  generalize ht : (⟨(i 0).val / 512, hlt⟩ : Fin cfg0.N) = t
  have tv : t.val = (i 0).val / 512 := by rw [← ht]
  show i ∈ ((View.whole main_v3_1).slice (win0_9.rect t)).set
  rw [View.set_slice_whole, Rect.mem_set_unit]
  have e0 : win0_9.index t (0 : Fin 2) = t.val := congrFun (index_9 t) 0
  have e1 : win0_9.index t (1 : Fin 2) = 0 := congrFun (index_9 t) 1
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 1024 ≤ (i 1).val ∧ (i 1).val < win0_9.index t (1 : Fin 2) * 1024 + 1024; omega

theorem covered_10 (i : S4x16x8192.Idx) : ∃ t : Fin cfg0.N, (cfg0.win 10).flush t = true ∧ i ∈ ((cfg0.win 10).blk t).view.set := by
  have h0 : (i 0).val < 4 := (i 0).isLt
  have h1 : (i 1).val < 16 := (i 1).isLt
  have h2 : (i 2).val < 8192 := (i 2).isLt
  have hlt : (i 0).val * 16 + (i 2).val / 512 < 64 := by omega
  refine ⟨⟨(i 0).val * 16 + (i 2).val / 512, hlt⟩, flush0_10 _, ?_⟩
  generalize ht : (⟨(i 0).val * 16 + (i 2).val / 512, hlt⟩ : Fin cfg0.N) = t
  have tv : t.val = (i 0).val * 16 + (i 2).val / 512 := by rw [← ht]
  show i ∈ ((View.whole main_v3_2).slice (win0_10.rect t)).set
  rw [View.set_slice_whole, Rect.mem_set_unit]
  have e0 : win0_10.index t (0 : Fin 3) = t.val / 16 := congrFun (index_10 t) 0
  have e1 : win0_10.index t (1 : Fin 3) = 0 := congrFun (index_10 t) 1
  have e2 : win0_10.index t (2 : Fin 3) = t.val % 16 := congrFun (index_10 t) 2
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 16 ≤ (i 1).val ∧ (i 1).val < win0_10.index t (1 : Fin 3) * 16 + 16; omega
  | ⟨2, _⟩ => show win0_10.index t (2 : Fin 3) * 512 ≤ (i 2).val ∧ (i 2).val < win0_10.index t (2 : Fin 3) * 512 + 512; omega

/-! The launch's results are the plain ones of its arguments. -/

theorem final_8 (c : Dev nD) : (dats m 0 c).arrAt 8 cfg0.N = plain0 m c :=
  (dats m 0 c).arrAt_eq_of_cover 8 (plain0 m c) (fun t _ => flushed_8 m c t) covered_8
theorem final_9 (c : Dev nD) : (dats m 0 c).arrAt 9 cfg0.N = plain1 m c :=
  (dats m 0 c).arrAt_eq_of_cover 9 (plain1 m c) (fun t _ => flushed_9 m c t) covered_9
theorem final_10 (c : Dev nD) : (dats m 0 c).arrAt 10 cfg0.N = plain2 m c :=
  (dats m 0 c).arrAt_eq_of_cover 10 (plain2 m c) (fun t _ => flushed_10 m c t) covered_10

end Cert.Kernel3Ideal.Out

namespace Cert.Proof

open Cert.Kernel3Ideal Cert.Kernel3Ideal.Gen Idealize.ShloMosaic Idealize.ShloMosaic.TcCoe Idealize.SL.Sem

/-- The output projection's kernel and the plain projection compute the same three arrays. -/
theorem algebraic_out : Cert.algebraic_Kernel3Ideal_Reference3Ideal := by
  unfold Cert.algebraic_Kernel3Ideal_Reference3Ideal
  intro m g m' g' _ hagree
  refine ⟨fun c => Cert.Kernel3Ideal.Out.plain0 m c, fun c => Cert.Kernel3Ideal.Out.plain1 m c, fun c => Cert.Kernel3Ideal.Out.plain2 m c,
    (θ_run Cert.Kernel3Ideal.defs _ _).mono (fun r h c => ⟨(h c).1.trans (Cert.Kernel3Ideal.Out.final_8 m c),
      (h c).2.1.trans (Cert.Kernel3Ideal.Out.final_9 m c), (h c).2.2.1.trans (Cert.Kernel3Ideal.Out.final_10 m c), (h c).2.2.2⟩)
      (Cert.Kernel3Ideal.Value.run_blocks m g),
    (θ_run Cert.Reference3Ideal.defs _ _).mono (fun r h c => ⟨(h c).1.trans ?_, (h c).2.1.trans ?_, (h c).2.2.1.trans ?_, (h c).2.2.2⟩)
      (Cert.Reference3Ideal.Value.run (F := Ideal) m' g')⟩
  all_goals obtain ⟨h0, h1, h2, h3, h4, h5, h6, h7⟩ := hagree c
  · refine (Cert.Reference3Ideal.Read.val_main_v4_eq (F := Ideal) _ _ _ _).trans ?_
    rw [h0, h1, h2, h3]
    rfl
  · refine (Cert.Reference3Ideal.Read.val_main_v37_eq (F := Ideal) _ _ _ _ _ _ _).trans ?_
    rw [h0, h1, h2, h3, h4, h5, h6]
    rfl
  · refine (Cert.Reference3Ideal.Read.val_main_v38_eq (F := Ideal) m' c).trans ?_
    rw [h0, h1, h2, h3, h4, h5, h6, h7]
    rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_scores_finite
public import proofs.«01_k».proof.Proof.Gen.Pre_near_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.ExpertValue
public import proofs.«01_k».proof.Proof.AttnValue
public import proofs.«01_k».proof.Proof.Proj7Value
public import proofs.«01_k».proof.Proof.Out8Value
public import proofs.«01_k».proof.Proof.Proj5Value
public import proofs.«01_k».proof.Proof.Out4Value
public import proofs.«01_k».proof.Proof.Out3Value
public import Idealize.ShloMosaic.Adequacy
public import Idealize.ShloMosaic.Init

@[expose] public section

noncomputable section

namespace Cert.Proof

open Idealize.ShloMosaic Idealize.SL.Sem Cert.Kernel

/-- The plain attention, run on the host, leaves its arguments unchanged and every semaphore at zero. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same under the attention's precondition. -/
theorem frame_reference_pre : Cert.quiescent_ReferenceIdeal_pre_scores_finite := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The plain expert feed-forward, run on the host, leaves its arguments unchanged and every semaphore at zero. -/
theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- So does the plain output projection. -/
theorem frame_reference3 : Cert.quiescent_Reference3Ideal := fun m ρ _ =>
  (θ_run Cert.Reference3Ideal.defs _ _).mono (fun r h => ⟨fun c => (h c).2.2.2, Idealize.ShloMosaic.sem_eq_zero_of_no_sems (by decide) r.2⟩)
    (Cert.Reference3Ideal.Value.run (F := Ideal) m ρ)

/-- So does the plain gated output projection. -/
theorem frame_reference4 : Cert.quiescent_Reference4Ideal := fun m ρ _ =>
  (θ_run Cert.Reference4Ideal.defs _ _).mono (fun r h => ⟨fun c => (h c).2.2.2, Idealize.ShloMosaic.sem_eq_zero_of_no_sems (by decide) r.2⟩)
    (Cert.Reference4Ideal.Value.run (F := Ideal) m ρ)

/-- So does the plain projection with its short convolution. -/
theorem frame_reference5 : Cert.quiescent_Reference5Ideal := fun m ρ _ =>
  (θ_run Cert.Reference5Ideal.defs _ _).mono (fun r h => ⟨fun c => (h c).2.2.2, Idealize.ShloMosaic.sem_eq_zero_of_no_sems (by decide) r.2⟩)
    (Cert.Reference5Ideal.Value.run (F := Ideal) m ρ)

/-- So does the plain output projection with room for the context. -/
theorem frame_reference8 : Cert.quiescent_Reference8Ideal := fun m ρ _ =>
  (θ_run Cert.Reference8Ideal.defs _ _).mono (fun r h => ⟨fun c => (h c).2.2.2, Idealize.ShloMosaic.sem_eq_zero_of_no_sems (by decide) r.2⟩)
    (Cert.Reference8Ideal.Value.run (F := Ideal) m ρ)

/-- So does the plain neighbourhood projection. -/
theorem frame_reference7 : Cert.quiescent_Reference7Ideal := fun m ρ _ =>
  (θ_run Cert.Reference7Ideal.defs _ _).mono (fun r h => ⟨fun c => (h c).2.2.2, Idealize.ShloMosaic.sem_eq_zero_of_no_sems (by decide) r.2⟩)
    (Cert.Reference7Ideal.Value.run (F := Ideal) m ρ)

/-- The same under the precondition of its value claim. -/
theorem frame_reference7_pre : Cert.quiescent_Reference7Ideal_pre_near_finite := fun m ρ _ => frame_reference7 m ρ trivial

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_scores_finite.Gen.facts, Cert.Pre_near_finite.Gen.facts,
  fun m ρ _ => Cert.Kernel.Gen.frame m ρ, fun m ρ _ => Cert.KernelIdeal.Gen.frame m ρ, fun m ρ _ => Cert.KernelIdeal.Gen.frame m ρ, frame_reference, frame_reference_pre,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel7.Gen.frame m ρ, fun m ρ _ => Cert.Kernel7Ideal.Gen.frame m ρ, fun m ρ _ => Cert.Kernel7Ideal.Gen.frame m ρ, frame_reference7, frame_reference7_pre,
  fun m ρ _ => Cert.Kernel8.Gen.frame m ρ, fun m ρ _ => Cert.Kernel8Ideal.Gen.frame m ρ, frame_reference8,
  trivial, algebraic_attn, trivial, algebraic_expert, trivial, algebraic_out, trivial, algebraic_gated, trivial, algebraic_proj, trivial, algebraic_near, trivial, algebraic_joined⟩

end Cert.Proof

end
